-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v88)) (v1 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_v89) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v577) = v0 c
          ∧ r.2.mem ((c.tc : Thread Cert.ReferenceIdeal.nD Cert.ReferenceIdeal.τ).loc Cert.ReferenceIdeal.main_v434) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S676x384 : Shape := ⟨2, ![676, 384]⟩
abbrev S65536x384 : Shape := ⟨2, ![65536, 384]⟩
abbrev S_ : Shape := ⟨0, ![]⟩

class Facts : Prop where
  bcast_S_S676x384 : S_.BroadcastsInDim S676x384 (![] : Fin 0 → Fin S676x384.rank)
  bcast_S_S65536x384 : S_.BroadcastsInDim S65536x384 (![] : Fin 0 → Fin S65536x384.rank)

variable [Facts]

def fn {F : FTy → Type} [FloatOps F] (main_arg0 : FVec F S676x384 .f32) (main_arg1 : FVec F S65536x384 .f32) : IVec S676x384 1 × IVec S65536x384 1 :=
  let main_v0 : FVec F S676x384 .f32 := Host.absf main_arg0
  let main_cst : FVec F S_ .f32 := constant S_ .f32 0x7F800000#32
  let main_v1 : FVec F S676x384 .f32 := broadcastInDim S676x384 ![] bcast_S_S676x384 main_cst
  let main_v2 : IVec S676x384 1 := cmpf .olt main_v0 main_v1
  let main_v3 : FVec F S65536x384 .f32 := Host.absf main_arg1
  let main_cst_0 : FVec F S_ .f32 := constant S_ .f32 0x7F800000#32
  let main_v4 : FVec F S65536x384 .f32 := broadcastInDim S65536x384 ![] bcast_S_S65536x384 main_cst_0
  let main_v5 : IVec S65536x384 1 := cmpf .olt main_v3 main_v4
  (main_v2, main_v5)
-- ==== Kernel.lean ====
abbrev S676x384 : Shape := ⟨2, ![676, 384]⟩
abbrev S65536x384 : Shape := ⟨2, ![65536, 384]⟩
abbrev S_ : Shape := ⟨0, ![]⟩
abbrev S704x384 : Shape := ⟨2, ![704, 384]⟩
abbrev S1x704 : Shape := ⟨2, ![1, 704]⟩
abbrev S1x16 : Shape := ⟨2, ![1, 16]⟩
abbrev S16x384 : Shape := ⟨2, ![16, 384]⟩
abbrev S2048x384 : Shape := ⟨2, ![2048, 384]⟩
abbrev S2048x704 : Shape := ⟨2, ![2048, 704]⟩
abbrev S2048 : Shape := ⟨1, ![2048]⟩
abbrev S2048x1 : Shape := ⟨2, ![2048, 1]⟩
abbrev S704 : Shape := ⟨1, ![704]⟩
abbrev S1x384 : Shape := ⟨2, ![1, 384]⟩
abbrev S1x1x704 : Shape := ⟨3, ![1, 1, 704]⟩
abbrev S1 : Shape := ⟨1, ![1]⟩
abbrev S1x1x1 : Shape := ⟨3, ![1, 1, 1]⟩
abbrev S384 : Shape := ⟨1, ![384]⟩
abbrev S1x1 : Shape := ⟨2, ![1, 1]⟩
abbrev S2048x16 : Shape := ⟨2, ![2048, 16]⟩
abbrev S16 : Shape := ⟨1, ![16]⟩
abbrev S1x1x16 : Shape := ⟨3, ![1, 1, 16]⟩
abbrev S8x384 : Shape := ⟨2, ![8, 384]⟩
abbrev S224 : Shape := ⟨1, ![224]⟩
abbrev S26 : Shape := ⟨1, ![26]⟩
abbrev S224x1 : Shape := ⟨2, ![224, 1]⟩
abbrev S1x26 : Shape := ⟨2, ![1, 26]⟩
abbrev S224x26 : Shape := ⟨2, ![224, 26]⟩
abbrev S33 : Shape := ⟨1, ![33]⟩
abbrev S1x33 : Shape := ⟨2, ![1, 33]⟩
abbrev S224x33 : Shape := ⟨2, ![224, 33]⟩
abbrev S224x33x1 : Shape := ⟨3, ![224, 33, 1]⟩
abbrev S1x1x224 : Shape := ⟨3, ![1, 1, 224]⟩
abbrev S224x33x224 : Shape := ⟨3, ![224, 33, 224]⟩
abbrev S1x33x1 : Shape := ⟨3, ![1, 33, 1]⟩
abbrev S224x224 : Shape := ⟨2, ![224, 224]⟩
abbrev S224x224x1 : Shape := ⟨3, ![224, 224, 1]⟩
abbrev S1x224x26 : Shape := ⟨3, ![1, 224, 26]⟩
abbrev S224x224x26 : Shape := ⟨3, ![224, 224, 26]⟩
abbrev S224x26x1 : Shape := ⟨3, ![224, 26, 1]⟩
abbrev S224x26x26 : Shape := ⟨3, ![224, 26, 26]⟩
abbrev S224x676 : Shape := ⟨2, ![224, 676]⟩
abbrev S224x704 : Shape := ⟨2, ![224, 704]⟩
abbrev S224x1x26 : Shape := ⟨3, ![224, 1, 26]⟩
abbrev S8x65536 : Shape := ⟨2, ![8, 65536]⟩
abbrev S8x2048 : Shape := ⟨2, ![8, 2048]⟩
abbrev S1x2048 : Shape := ⟨2, ![1, 2048]⟩
abbrev S8 : Shape := ⟨1, ![8]⟩
abbrev S8x1 : Shape := ⟨2, ![8, 1]⟩
abbrev S1x65536 : Shape := ⟨2, ![1, 65536]⟩
abbrev S1x1x65536 : Shape := ⟨3, ![1, 1, 65536]⟩
abbrev S1x1x224x224 : Shape := ⟨4, ![1, 1, 224, 224]⟩

abbrev nBuf : Space → Nat
  | .hbm => 135
  | .vmem => 24
  | .smem => 5
  | _ => 0

abbrev hbmTy0_0 (i : Nat) : BufTy := match i % 128 with
  | 0 => ⟨S676x384, .f32⟩
  | 1 => ⟨S65536x384, .f32⟩
  | 2 => ⟨S_, .i32⟩
  | 3 => ⟨S_, .f32⟩
  | 4 => ⟨S704x384, .f32⟩
  | 5 => ⟨S_, .f32⟩
  | 6 => ⟨S704x384, .f32⟩
  | 7 => ⟨S704x384, .f32⟩
  | 8 => ⟨S704x384, .bf16⟩
  | 9 => ⟨S1x704, .f32⟩
  | 10 => ⟨S1x16, .i32⟩
  | 11 => ⟨S16x384, .f32⟩
  | 12 => ⟨S1x1, .f32⟩
  | 13 => ⟨S1x1, .i32⟩
  | 14 => ⟨S1x1, .i32⟩
  | 15 => ⟨S1x384, .f32⟩
  | 16 => ⟨S_, .i32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S1x384, .f32⟩
  | 24 => ⟨S_, .f32⟩
  | 25 => ⟨S8x384, .f32⟩
  | 26 => ⟨S_, .i32⟩
  | 27 => ⟨S_, .i32⟩
  | 28 => ⟨S8x384, .f32⟩
  | 29 => ⟨S_, .i32⟩
  | 30 => ⟨S_, .i32⟩
  | 31 => ⟨S8x384, .f32⟩
  | 32 => ⟨S224, .f32⟩
  | 33 => ⟨S_, .f32⟩
  | 34 => ⟨S224, .f32⟩
  | 35 => ⟨S224, .f32⟩
  | 36 => ⟨S_, .f32⟩
  | 37 => ⟨S224, .f32⟩
  | 38 => ⟨S224, .f32⟩
  | 39 => ⟨S_, .f32⟩
  | 40 => ⟨S224, .f32⟩
  | 41 => ⟨S224, .f32⟩
  | 42 => ⟨S26, .f32⟩
  | 43 => ⟨S224x1, .f32⟩
  | 44 => ⟨S1x26, .f32⟩
  | 45 => ⟨S224x26, .f32⟩
  | 46 => ⟨S224x26, .f32⟩
  | 47 => ⟨S224x26, .f32⟩
  | 48 => ⟨S224x26, .f32⟩
  | 49 => ⟨S_, .f32⟩
  | 50 => ⟨S224x26, .f32⟩
  | 51 => ⟨S224x26, .f32⟩
  | 52 => ⟨S_, .f32⟩
  | 53 => ⟨S224x26, .f32⟩
  | 54 => ⟨S224x26, .f32⟩
  | 55 => ⟨S_, .f32⟩
  | 56 => ⟨S224, .f32⟩
  | 57 => ⟨S224x1, .f32⟩
  | 58 => ⟨S224x26, .f32⟩
  | 59 => ⟨S224x26, .f32⟩
  | 60 => ⟨S33, .f32⟩
  | 61 => ⟨S_, .f32⟩
  | 62 => ⟨S33, .f32⟩
  | 63 => ⟨S33, .f32⟩
  | 64 => ⟨S_, .f32⟩
  | 65 => ⟨S33, .f32⟩
  | 66 => ⟨S33, .f32⟩
  | 67 => ⟨S33, .f32⟩
  | 68 => ⟨S_, .f32⟩
  | 69 => ⟨S33, .f32⟩
  | 70 => ⟨S33, .f32⟩
  | 71 => ⟨S33, .f32⟩
  | 72 => ⟨S_, .f32⟩
  | 73 => ⟨S_, .f32⟩
  | 74 => ⟨S33, .f32⟩
  | 75 => ⟨S33, .f32⟩
  | 76 => ⟨S224, .i32⟩
  | 77 => ⟨S224x1, .i32⟩
  | 78 => ⟨S33, .i32⟩
  | 79 => ⟨S1x33, .i32⟩
  | 80 => ⟨S224x33, .i32⟩
  | 81 => ⟨S224x33, .i32⟩
  | 82 => ⟨S224x33, .i32⟩
  | 83 => ⟨S_, .i32⟩
  | 84 => ⟨S224x33, .i32⟩
  | 85 => ⟨S224x33, .i32⟩
  | 86 => ⟨S224x33, .i32⟩
  | 87 => ⟨S_, .i32⟩
  | 88 => ⟨S224x33, .i32⟩
  | 89 => ⟨S224x33, .i1⟩
  | 90 => ⟨S_, .i32⟩
  | 91 => ⟨S224x33, .i32⟩
  | 92 => ⟨S224x33, .i32⟩
  | 93 => ⟨S224x33, .i32⟩
  | 94 => ⟨S224x33x1, .i32⟩
  | 95 => ⟨S224, .i32⟩
  | 96 => ⟨S1x1x224, .i32⟩
  | 97 => ⟨S224x33x224, .i32⟩
  | 98 => ⟨S224x33x224, .i32⟩
  | 99 => ⟨S224x33x224, .i1⟩
  | 100 => ⟨S1x33x1, .f32⟩
  | 101 => ⟨S_, .f32⟩
  | 102 => ⟨S_, .f32⟩
  | 103 => ⟨S224x33x224, .f32⟩
  | 104 => ⟨S224x33x224, .f32⟩
  | 105 => ⟨S224x33x224, .f32⟩
  | 106 => ⟨S_, .f32⟩
  | 107 => ⟨S224x224, .f32⟩
  | 108 => ⟨S224x224x1, .f32⟩
  | 109 => ⟨S1x224x26, .f32⟩
  | 110 => ⟨S224x224x26, .f32⟩
  | 111 => ⟨S224x224x26, .f32⟩
  | 112 => ⟨S224x224x26, .f32⟩
  | 113 => ⟨S_, .f32⟩
  | 114 => ⟨S224x26, .f32⟩
  | 115 => ⟨S224x26x1, .f32⟩
  | 116 => ⟨S224x26x26, .f32⟩
  | 117 => ⟨S224x676, .f32⟩
  | 118 => ⟨S_, .i32⟩
  | 119 => ⟨S_, .f32⟩
  | 120 => ⟨S224x704, .f32⟩
  | 121 => ⟨S224x1x26, .f32⟩
  | 122 => ⟨S224x26x26, .f32⟩
  | 123 => ⟨S224x676, .f32⟩
  | 124 => ⟨S_, .i32⟩
  | 125 => ⟨S_, .f32⟩
  | 126 => ⟨S224x704, .f32⟩
  | 127 => ⟨S224x704, .bf16⟩
  | _ => ⟨S676x384, .f32⟩

abbrev hbmTy0_1 (i : Nat) : BufTy := match i % 128 with
  | 0 => ⟨S224x704, .f32⟩
  | 1 => ⟨S224x704, .f32⟩
  | 2 => ⟨S224x704, .bf16⟩
  | 3 => ⟨S1x1, .f32⟩
  | 4 => ⟨S224x224, .f32⟩
  | 5 => ⟨S_, .f32⟩
  | 6 => ⟨S1x1x224x224, .f32⟩
  | _ => ⟨S676x384, .f32⟩

abbrev hbmTy (i : Nat) : BufTy := match i / 128 with
  | 0 => hbmTy0_0 i
  | 1 => hbmTy0_1 i
  | _ => ⟨S676x384, .f32⟩

abbrev bufTy : (tb : Table) → Fin (tcTables nBuf tb) → BufTy
  | .hbm, ⟨i, _⟩ => hbmTy i
  | .local _ .vmem, ⟨0, _⟩ => ⟨S704x384, .f32⟩
  | .local _ .vmem, ⟨1, _⟩ => ⟨S704x384, .bf16⟩
  | .local _ .vmem, ⟨2, _⟩ => ⟨S2048x384, .f32⟩
  | .local _ .vmem, ⟨3, _⟩ => ⟨S2048x384, .f32⟩
  | .local _ .vmem, ⟨4, _⟩ => ⟨S1x704, .f32⟩
  | .local _ .vmem, ⟨5, _⟩ => ⟨S1x16, .i32⟩
  | .local _ .vmem, ⟨6, _⟩ => ⟨S16x384, .f32⟩
  | .local _ .vmem, ⟨7, _⟩ => ⟨S1x704, .f32⟩
  | .local _ .vmem, ⟨8, _⟩ => ⟨S16x384, .f32⟩
  | .local _ .vmem, ⟨9, _⟩ => ⟨S1x16, .i32⟩
  | .local _ .vmem, ⟨10, _⟩ => ⟨S2048x384, .f32⟩
  | .local _ .vmem, ⟨11, _⟩ => ⟨S2048x384, .f32⟩
  | .local _ .vmem, ⟨12, _⟩ => ⟨S1x384, .f32⟩
  | .local _ .vmem, ⟨13, _⟩ => ⟨S1x16, .f32⟩
  | .local _ .vmem, ⟨14, _⟩ => ⟨S1x16, .i32⟩
  | .local _ .vmem, ⟨15, _⟩ => ⟨S8x384, .f32⟩
  | .local _ .vmem, ⟨16, _⟩ => ⟨S1x704, .f32⟩
  | .local _ .vmem, ⟨17, _⟩ => ⟨S224x704, .f32⟩
  | .local _ .vmem, ⟨18, _⟩ => ⟨S224x704, .bf16⟩
  | .local _ .vmem, ⟨19, _⟩ => ⟨S224x704, .bf16⟩
  | .local _ .vmem, ⟨20, _⟩ => ⟨S2048x384, .f32⟩
  | .local _ .vmem, ⟨21, _⟩ => ⟨S2048x384, .f32⟩
  | .local _ .vmem, ⟨22, _⟩ => ⟨S224x224, .f32⟩
  | .local _ .vmem, ⟨23, _⟩ => ⟨S8x65536, .f32⟩
  | .local _ .smem, ⟨0, _⟩ => ⟨S1x1, .f32⟩
  | .local _ .smem, ⟨1, _⟩ => ⟨S1x1, .i32⟩
  | .local _ .smem, ⟨2, _⟩ => ⟨S1x1, .i32⟩
  | .local _ .smem, ⟨3, _⟩ => ⟨S1x1, .f32⟩
  | .local _ .smem, ⟨4, _⟩ => ⟨S1x1, .f32⟩
  | _, _ => ⟨S676x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v6 : Ref sig .tc := ⟨.hbm, 16, rfl⟩
abbrev main_call1_c : Ref sig .tc := ⟨.hbm, 17, rfl⟩
abbrev main_call1_v0 : Ref sig .tc := ⟨.hbm, 18, rfl⟩
abbrev main_call1_c_0 : Ref sig .tc := ⟨.hbm, 19, rfl⟩
abbrev main_call1_v1 : Ref sig .tc := ⟨.hbm, 20, rfl⟩
abbrev main_call1_v2 : Ref sig .tc := ⟨.hbm, 21, rfl⟩
abbrev main_call1_c_1 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_c_1 : Ref sig .tc := ⟨.hbm, 26, rfl⟩
abbrev main_c_2 : Ref sig .tc := ⟨.hbm, 27, rfl⟩
abbrev main_v9 : Ref sig .tc := ⟨.hbm, 28, rfl⟩
abbrev main_c_3 : Ref sig .tc := ⟨.hbm, 29, rfl⟩
abbrev main_c_4 : Ref sig .tc := ⟨.hbm, 30, rfl⟩
abbrev main_v10 : Ref sig .tc := ⟨.hbm, 31, rfl⟩
abbrev main_v11 : Ref sig .tc := ⟨.hbm, 32, rfl⟩
abbrev main_cst_5 : Ref sig .tc := ⟨.hbm, 33, rfl⟩
abbrev main_v12 : Ref sig .tc := ⟨.hbm, 34, rfl⟩
abbrev main_v13 : Ref sig .tc := ⟨.hbm, 35, rfl⟩
abbrev main_cst_6 : Ref sig .tc := ⟨.hbm, 36, rfl⟩
abbrev main_v14 : Ref sig .tc := ⟨.hbm, 37, rfl⟩
abbrev main_v15 : Ref sig .tc := ⟨.hbm, 38, rfl⟩
abbrev main_cst_7 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_8 : Ref sig .tc := ⟨.hbm, 49, rfl⟩
abbrev main_v25 : Ref sig .tc := ⟨.hbm, 50, rfl⟩
abbrev main_v26 : Ref sig .tc := ⟨.hbm, 51, rfl⟩
abbrev main_cst_9 : Ref sig .tc := ⟨.hbm, 52, rfl⟩
abbrev main_v27 : Ref sig .tc := ⟨.hbm, 53, rfl⟩
abbrev main_v28 : Ref sig .tc := ⟨.hbm, 54, rfl⟩
abbrev main_cst_10 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_11 : Ref sig .tc := ⟨.hbm, 61, rfl⟩
abbrev main_v34 : Ref sig .tc := ⟨.hbm, 62, rfl⟩
abbrev main_v35 : Ref sig .tc := ⟨.hbm, 63, rfl⟩
abbrev main_cst_12 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_13 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_14 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_c_15 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_c_16 : Ref sig .tc := ⟨.hbm, 87, rfl⟩
abbrev main_v55 : Ref sig .tc := ⟨.hbm, 88, rfl⟩
abbrev main_v56 : Ref sig .tc := ⟨.hbm, 89, rfl⟩
abbrev main_c_17 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_18 : Ref sig .tc := ⟨.hbm, 101, rfl⟩
abbrev main_call3_v0 : Ref sig .tc := ⟨.hbm, 102, rfl⟩
abbrev main_call3_v1 : Ref sig .tc := ⟨.hbm, 103, rfl⟩
abbrev main_call3_v2 : Ref sig .tc := ⟨.hbm, 104, rfl⟩
abbrev main_v67 : Ref sig .tc := ⟨.hbm, 105, rfl⟩
abbrev main_cst_19 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst_20 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_c_21 : Ref sig .tc := ⟨.hbm, 118, rfl⟩
abbrev main_call4_v0 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_c_22 : Ref sig .tc := ⟨.hbm, 124, rfl⟩
abbrev main_call5_v0 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87_0 : Ref sig .tc := ⟨.hbm, 131, rfl⟩
abbrev main_v87_1 : Ref sig .tc := ⟨.hbm, 132, rfl⟩
abbrev main_v88 : Ref sig .tc := ⟨.hbm, 133, rfl⟩
abbrev main_v89 : Ref sig .tc := ⟨.hbm, 134, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg6_0 : Ref sig .tc := ⟨.vmem, 12, rfl⟩
abbrev cc1_scratch0 : Ref sig .tc := ⟨.vmem, 13, rfl⟩
abbrev cc1_scratch1 : Ref sig .tc := ⟨.vmem, 14, rfl⟩
abbrev cc2_stg0_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc2_stg8_0 : Ref sig .tc := ⟨.vmem, 22, rfl⟩
abbrev cc2_scratch0 : Ref sig .tc := ⟨.vmem, 23, rfl⟩
abbrev cc1_stg3_0 : Ref sig .tc := ⟨.smem, 0, rfl⟩
abbrev cc1_stg4_0 : Ref sig .tc := ⟨.smem, 1, rfl⟩
abbrev cc1_stg5_0 : Ref sig .tc := ⟨.smem, 2, rfl⟩
abbrev cc2_stg1_0 : Ref sig .tc := ⟨.smem, 3, rfl⟩
abbrev cc2_stg7_0 : Ref sig .tc := ⟨.smem, 4, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc1_sem0_0 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc2_sem0_0 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem6_1 : DmaSem sig := 22
abbrev cc2_sem7_0 : DmaSem sig := 23
abbrev cc2_sem8_0 : DmaSem sig := 24

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v20 : BitVec 1 := Scalar.cmpi .eq arg0 c31_i32
  let v21 : BitVec 32 := Scalar.extui v20
  let c0_i32_10 : BitVec 32 := 0#32
  let v22 : BitVec 1 := Scalar.cmpi .ne v21 c0_i32_10
  v22

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S704x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S704x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![32], ![false]⟩

def k1_cond2 (i : grid1.Coords) : BitVec 1 :=
  let arg0 : BitVec 32 := BitVec.ofNat 32 (i 0).val
  let c31_i32 : BitVec 32 := 31#32
  let v49 : BitVec 1 := Scalar.cmpi .eq arg0 c31_i32
  let v50 : BitVec 32 := Scalar.extui v49
  let c0_i32_19 : BitVec 32 := 0#32
  let v51 : BitVec 1 := Scalar.cmpi .ne v50 c0_i32_19
  v51

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S16x384 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x16 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .smem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .smem S1x1 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .smem S1x1 .i32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x384 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![32], ![false]⟩

def k2_off1 (i : grid2.Coords) : Fin 2 → Nat :=
  let c0_7 : Index := 0#32
  let arg0 : BitVec 32 := BitVec.ofNat 32 (i 0).val
  let c2048_i32 : BitVec 32 := 2048#32
  let v24 : BitVec 32 := Scalar.muli arg0 c2048_i32
  let v25 : Index := Scalar.indexCast v24
  ![0, v25.toNat]
def k2_cond1 (i : grid2.Coords) : BitVec 1 :=
  let arg0 : BitVec 32 := BitVec.ofNat 32 (i 0).val
  let c31_i32 : BitVec 32 := 31#32
  let v29 : BitVec 1 := Scalar.cmpi .eq arg0 c31_i32
  let v30 : BitVec 32 := Scalar.extui v29
  let c0_i32 : BitVec 32 := 0#32
  let v31 : BitVec 1 := Scalar.cmpi .ne v30 c0_i32
  v31

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S8x384 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .smem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x704 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S224x704 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S224x704 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S224x704 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2048x384 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .smem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S224x224 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]
-- ==== ReferenceIdeal.lean ====
abbrev S676x384 : Shape := ⟨2, ![676, 384]⟩
abbrev S65536x384 : Shape := ⟨2, ![65536, 384]⟩
abbrev S_ : Shape := ⟨0, ![]⟩
abbrev S676 : Shape := ⟨1, ![676]⟩
abbrev S676x1 : Shape := ⟨2, ![676, 1]⟩
abbrev S65536 : Shape := ⟨1, ![65536]⟩
abbrev S65536x1 : Shape := ⟨2, ![65536, 1]⟩
abbrev S1x65536 : Shape := ⟨2, ![1, 65536]⟩
abbrev S676x65536 : Shape := ⟨2, ![676, 65536]⟩
abbrev S384x65536 : Shape := ⟨2, ![384, 65536]⟩
abbrev S1x1x26x26 : Shape := ⟨4, ![1, 1, 26, 26]⟩
abbrev S224 : Shape := ⟨1, ![224]⟩
abbrev S26 : Shape := ⟨1, ![26]⟩
abbrev S1x224 : Shape := ⟨2, ![1, 224]⟩
abbrev S26x1 : Shape := ⟨2, ![26, 1]⟩
abbrev S26x224 : Shape := ⟨2, ![26, 224]⟩
abbrev S1x1x26x224 : Shape := ⟨4, ![1, 1, 26, 224]⟩
abbrev S1x1x224x26 : Shape := ⟨4, ![1, 1, 224, 26]⟩
abbrev S1x1x224x224 : Shape := ⟨4, ![1, 1, 224, 224]⟩
abbrev S33 : Shape := ⟨1, ![33]⟩
abbrev S1x1x1x224 : Shape := ⟨4, ![1, 1, 1, 224]⟩
abbrev S1x1x16x224 : Shape := ⟨4, ![1, 1, 16, 224]⟩
abbrev S1x1x240x224 : Shape := ⟨4, ![1, 1, 240, 224]⟩
abbrev S1x1x256x224 : Shape := ⟨4, ![1, 1, 256, 224]⟩
abbrev S1 : Shape := ⟨1, ![1]⟩
abbrev S1x1x224x1 : Shape := ⟨4, ![1, 1, 224, 1]⟩
abbrev S1x1x224x16 : Shape := ⟨4, ![1, 1, 224, 16]⟩
abbrev S1x1x224x240 : Shape := ⟨4, ![1, 1, 224, 240]⟩
abbrev S1x1x224x256 : Shape := ⟨4, ![1, 1, 224, 256]⟩
abbrev S1x384 : Shape := ⟨2, ![1, 384]⟩
abbrev S384 : Shape := ⟨1, ![384]⟩
abbrev S1x1 : Shape := ⟨2, ![1, 1]⟩

abbrev nBuf : Space → Nat
  | .hbm => 821
  | .vmem => 0
  | .smem => 0
  | _ => 0

abbrev hbmTy0_0 (i : Nat) : BufTy := match i % 128 with
  | 0 => ⟨S676x384, .f32⟩
  | 1 => ⟨S65536x384, .f32⟩
  | 2 => ⟨S676x384, .f32⟩
  | 3 => ⟨S_, .f32⟩
  | 4 => ⟨S676, .f32⟩
  | 5 => ⟨S676x1, .f32⟩
  | 6 => ⟨S65536x384, .f32⟩
  | 7 => ⟨S_, .f32⟩
  | 8 => ⟨S65536, .f32⟩
  | 9 => ⟨S65536x1, .f32⟩
  | 10 => ⟨S1x65536, .f32⟩
  | 11 => ⟨S676x65536, .f32⟩
  | 12 => ⟨S676x65536, .f32⟩
  | 13 => ⟨S676x65536, .f32⟩
  | 14 => ⟨S384x65536, .f32⟩
  | 15 => ⟨S676x65536, .f32⟩
  | 16 => ⟨S_, .f32⟩
  | 17 => ⟨S676x65536, .f32⟩
  | 18 => ⟨S676x65536, .f32⟩
  | 19 => ⟨S676x65536, .f32⟩
  | 20 => ⟨S_, .f32⟩
  | 21 => ⟨S_, .f32⟩
  | 22 => ⟨S676x65536, .f32⟩
  | 23 => ⟨S676x65536, .f32⟩
  | 24 => ⟨S676x65536, .f32⟩
  | 25 => ⟨S_, .f32⟩
  | 26 => ⟨S676, .f32⟩
  | 27 => ⟨S1x1x26x26, .f32⟩
  | 28 => ⟨S_, .f32⟩
  | 29 => ⟨S_, .f32⟩
  | 30 => ⟨S_, .f32⟩
  | 31 => ⟨S224, .f32⟩
  | 32 => ⟨S_, .f32⟩
  | 33 => ⟨S224, .f32⟩
  | 34 => ⟨S224, .f32⟩
  | 35 => ⟨S_, .f32⟩
  | 36 => ⟨S224, .f32⟩
  | 37 => ⟨S224, .f32⟩
  | 38 => ⟨S_, .f32⟩
  | 39 => ⟨S224, .f32⟩
  | 40 => ⟨S224, .f32⟩
  | 41 => ⟨S_, .f32⟩
  | 42 => ⟨S224, .f32⟩
  | 43 => ⟨S224, .f32⟩
  | 44 => ⟨S26, .f32⟩
  | 45 => ⟨S1x224, .f32⟩
  | 46 => ⟨S26x1, .f32⟩
  | 47 => ⟨S26x224, .f32⟩
  | 48 => ⟨S26x224, .f32⟩
  | 49 => ⟨S26x224, .f32⟩
  | 50 => ⟨S26x224, .f32⟩
  | 51 => ⟨S_, .f32⟩
  | 52 => ⟨S26x224, .f32⟩
  | 53 => ⟨S26x224, .f32⟩
  | 54 => ⟨S26x224, .f32⟩
  | 55 => ⟨S_, .f32⟩
  | 56 => ⟨S26x224, .f32⟩
  | 57 => ⟨S26x224, .f32⟩
  | 58 => ⟨S_, .f32⟩
  | 59 => ⟨S26x224, .f32⟩
  | 60 => ⟨S26x224, .f32⟩
  | 61 => ⟨S_, .f32⟩
  | 62 => ⟨S224, .f32⟩
  | 63 => ⟨S1x224, .f32⟩
  | 64 => ⟨S1x224, .f32⟩
  | 65 => ⟨S_, .f32⟩
  | 66 => ⟨S1x224, .f32⟩
  | 67 => ⟨S1x224, .i1⟩
  | 68 => ⟨S_, .f32⟩
  | 69 => ⟨S1x224, .f32⟩
  | 70 => ⟨S1x224, .i1⟩
  | 71 => ⟨S_, .i32⟩
  | 72 => ⟨S_, .f32⟩
  | 73 => ⟨S1x224, .f32⟩
  | 74 => ⟨S1x224, .f32⟩
  | 75 => ⟨S26x224, .f32⟩
  | 76 => ⟨S26x224, .f32⟩
  | 77 => ⟨S_, .i32⟩
  | 78 => ⟨S_, .f32⟩
  | 79 => ⟨S26x224, .i1⟩
  | 80 => ⟨S26x224, .f32⟩
  | 81 => ⟨S26x224, .f32⟩
  | 82 => ⟨S_, .f32⟩
  | 83 => ⟨S224, .f32⟩
  | 84 => ⟨S224, .i1⟩
  | 85 => ⟨S_, .f32⟩
  | 86 => ⟨S224, .f32⟩
  | 87 => ⟨S224, .i1⟩
  | 88 => ⟨S224, .i1⟩
  | 89 => ⟨S1x224, .i1⟩
  | 90 => ⟨S_, .i32⟩
  | 91 => ⟨S_, .f32⟩
  | 92 => ⟨S26x224, .i1⟩
  | 93 => ⟨S26x224, .f32⟩
  | 94 => ⟨S26x224, .f32⟩
  | 95 => ⟨S1x1x26x224, .f32⟩
  | 96 => ⟨S1x1x224x26, .f32⟩
  | 97 => ⟨S_, .f32⟩
  | 98 => ⟨S_, .f32⟩
  | 99 => ⟨S_, .f32⟩
  | 100 => ⟨S224, .f32⟩
  | 101 => ⟨S_, .f32⟩
  | 102 => ⟨S224, .f32⟩
  | 103 => ⟨S224, .f32⟩
  | 104 => ⟨S_, .f32⟩
  | 105 => ⟨S224, .f32⟩
  | 106 => ⟨S224, .f32⟩
  | 107 => ⟨S_, .f32⟩
  | 108 => ⟨S224, .f32⟩
  | 109 => ⟨S224, .f32⟩
  | 110 => ⟨S_, .f32⟩
  | 111 => ⟨S224, .f32⟩
  | 112 => ⟨S224, .f32⟩
  | 113 => ⟨S26, .f32⟩
  | 114 => ⟨S1x224, .f32⟩
  | 115 => ⟨S26x1, .f32⟩
  | 116 => ⟨S26x224, .f32⟩
  | 117 => ⟨S26x224, .f32⟩
  | 118 => ⟨S26x224, .f32⟩
  | 119 => ⟨S26x224, .f32⟩
  | 120 => ⟨S_, .f32⟩
  | 121 => ⟨S26x224, .f32⟩
  | 122 => ⟨S26x224, .f32⟩
  | 123 => ⟨S26x224, .f32⟩
  | 124 => ⟨S_, .f32⟩
  | 125 => ⟨S26x224, .f32⟩
  | 126 => ⟨S26x224, .f32⟩
  | 127 => ⟨S_, .f32⟩
  | _ => ⟨S676x384, .f32⟩

abbrev hbmTy0_1 (i : Nat) : BufTy := match i % 128 with
  | 0 => ⟨S26x224, .f32⟩
  | 1 => ⟨S26x224, .f32⟩
  | 2 => ⟨S_, .f32⟩
  | 3 => ⟨S224, .f32⟩
  | 4 => ⟨S1x224, .f32⟩
  | 5 => ⟨S1x224, .f32⟩
  | 6 => ⟨S_, .f32⟩
  | 7 => ⟨S1x224, .f32⟩
  | 8 => ⟨S1x224, .i1⟩
  | 9 => ⟨S_, .f32⟩
  | 10 => ⟨S1x224, .f32⟩
  | 11 => ⟨S1x224, .i1⟩
  | 12 => ⟨S_, .i32⟩
  | 13 => ⟨S_, .f32⟩
  | 14 => ⟨S1x224, .f32⟩
  | 15 => ⟨S1x224, .f32⟩
  | 16 => ⟨S26x224, .f32⟩
  | 17 => ⟨S26x224, .f32⟩
  | 18 => ⟨S_, .i32⟩
  | 19 => ⟨S_, .f32⟩
  | 20 => ⟨S26x224, .i1⟩
  | 21 => ⟨S26x224, .f32⟩
  | 22 => ⟨S26x224, .f32⟩
  | 23 => ⟨S_, .f32⟩
  | 24 => ⟨S224, .f32⟩
  | 25 => ⟨S224, .i1⟩
  | 26 => ⟨S_, .f32⟩
  | 27 => ⟨S224, .f32⟩
  | 28 => ⟨S224, .i1⟩
  | 29 => ⟨S224, .i1⟩
  | 30 => ⟨S1x224, .i1⟩
  | 31 => ⟨S_, .i32⟩
  | 32 => ⟨S_, .f32⟩
  | 33 => ⟨S26x224, .i1⟩
  | 34 => ⟨S26x224, .f32⟩
  | 35 => ⟨S26x224, .f32⟩
  | 36 => ⟨S1x1x224x224, .f32⟩
  | 37 => ⟨S1x1x224x224, .f32⟩
  | 38 => ⟨S33, .f32⟩
  | 39 => ⟨S_, .f32⟩
  | 40 => ⟨S33, .f32⟩
  | 41 => ⟨S33, .f32⟩
  | 42 => ⟨S_, .f32⟩
  | 43 => ⟨S33, .f32⟩
  | 44 => ⟨S33, .f32⟩
  | 45 => ⟨S33, .f32⟩
  | 46 => ⟨S_, .f32⟩
  | 47 => ⟨S33, .f32⟩
  | 48 => ⟨S33, .f32⟩
  | 49 => ⟨S33, .f32⟩
  | 50 => ⟨S_, .f32⟩
  | 51 => ⟨S_, .f32⟩
  | 52 => ⟨S33, .f32⟩
  | 53 => ⟨S33, .f32⟩
  | 54 => ⟨S_, .i32⟩
  | 55 => ⟨S1x1x1x224, .f32⟩
  | 56 => ⟨S1x1x16x224, .f32⟩
  | 57 => ⟨S1x1x16x224, .f32⟩
  | 58 => ⟨S1x1x240x224, .f32⟩
  | 59 => ⟨S1x1x1x224, .f32⟩
  | 60 => ⟨S1x1x16x224, .f32⟩
  | 61 => ⟨S1x1x16x224, .f32⟩
  | 62 => ⟨S1x1x256x224, .f32⟩
  | 63 => ⟨S1, .f32⟩
  | 64 => ⟨S_, .f32⟩
  | 65 => ⟨S1x1x224x224, .f32⟩
  | 66 => ⟨S1x1x224x224, .f32⟩
  | 67 => ⟨S1x1x224x224, .f32⟩
  | 68 => ⟨S_, .f32⟩
  | 69 => ⟨S1x1x224x224, .f32⟩
  | 70 => ⟨S1x1x224x224, .f32⟩
  | 71 => ⟨S1, .f32⟩
  | 72 => ⟨S_, .f32⟩
  | 73 => ⟨S1x1x224x224, .f32⟩
  | 74 => ⟨S1x1x224x224, .f32⟩
  | 75 => ⟨S1x1x224x224, .f32⟩
  | 76 => ⟨S1x1x224x224, .f32⟩
  | 77 => ⟨S1, .f32⟩
  | 78 => ⟨S_, .f32⟩
  | 79 => ⟨S1x1x224x224, .f32⟩
  | 80 => ⟨S1x1x224x224, .f32⟩
  | 81 => ⟨S1x1x224x224, .f32⟩
  | 82 => ⟨S1x1x224x224, .f32⟩
  | 83 => ⟨S1, .f32⟩
  | 84 => ⟨S_, .f32⟩
  | 85 => ⟨S1x1x224x224, .f32⟩
  | 86 => ⟨S1x1x224x224, .f32⟩
  | 87 => ⟨S1x1x224x224, .f32⟩
  | 88 => ⟨S1x1x224x224, .f32⟩
  | 89 => ⟨S1, .f32⟩
  | 90 => ⟨S_, .f32⟩
  | 91 => ⟨S1x1x224x224, .f32⟩
  | 92 => ⟨S1x1x224x224, .f32⟩
  | 93 => ⟨S1x1x224x224, .f32⟩
  | 94 => ⟨S1x1x224x224, .f32⟩
  | 95 => ⟨S1, .f32⟩
  | 96 => ⟨S_, .f32⟩
  | 97 => ⟨S1x1x224x224, .f32⟩
  | 98 => ⟨S1x1x224x224, .f32⟩
  | 99 => ⟨S1x1x224x224, .f32⟩
  | 100 => ⟨S1x1x224x224, .f32⟩
  | 101 => ⟨S1, .f32⟩
  | 102 => ⟨S_, .f32⟩
  | 103 => ⟨S1x1x224x224, .f32⟩
  | 104 => ⟨S1x1x224x224, .f32⟩
  | 105 => ⟨S1x1x224x224, .f32⟩
  | 106 => ⟨S1x1x224x224, .f32⟩
  | 107 => ⟨S1, .f32⟩
  | 108 => ⟨S_, .f32⟩
  | 109 => ⟨S1x1x224x224, .f32⟩
  | 110 => ⟨S1x1x224x224, .f32⟩
  | 111 => ⟨S1x1x224x224, .f32⟩
  | 112 => ⟨S1x1x224x224, .f32⟩
  | 113 => ⟨S1, .f32⟩
  | 114 => ⟨S_, .f32⟩
  | 115 => ⟨S1x1x224x224, .f32⟩
  | 116 => ⟨S1x1x224x224, .f32⟩
  | 117 => ⟨S1x1x224x224, .f32⟩
  | 118 => ⟨S1x1x224x224, .f32⟩
  | 119 => ⟨S1, .f32⟩
  | 120 => ⟨S_, .f32⟩
  | 121 => ⟨S1x1x224x224, .f32⟩
  | 122 => ⟨S1x1x224x224, .f32⟩
  | 123 => ⟨S1x1x224x224, .f32⟩
  | 124 => ⟨S1x1x224x224, .f32⟩
  | 125 => ⟨S1, .f32⟩
  | 126 => ⟨S_, .f32⟩
  | 127 => ⟨S1x1x224x224, .f32⟩
  | _ => ⟨S676x384, .f32⟩

abbrev hbmTy0_2 (i : Nat) : BufTy := match i % 128 with
  | 0 => ⟨S1x1x224x224, .f32⟩
  | 1 => ⟨S1x1x224x224, .f32⟩
  | 2 => ⟨S1x1x224x224, .f32⟩
  | 3 => ⟨S1, .f32⟩
  | 4 => ⟨S_, .f32⟩
  | 5 => ⟨S1x1x224x224, .f32⟩
  | 6 => ⟨S1x1x224x224, .f32⟩
  | 7 => ⟨S1x1x224x224, .f32⟩
  | 8 => ⟨S1x1x224x224, .f32⟩
  | 9 => ⟨S1, .f32⟩
  | 10 => ⟨S_, .f32⟩
  | 11 => ⟨S1x1x224x224, .f32⟩
  | 12 => ⟨S1x1x224x224, .f32⟩
  | 13 => ⟨S1x1x224x224, .f32⟩
  | 14 => ⟨S1x1x224x224, .f32⟩
  | 15 => ⟨S1, .f32⟩
  | 16 => ⟨S_, .f32⟩
  | 17 => ⟨S1x1x224x224, .f32⟩
  | 18 => ⟨S1x1x224x224, .f32⟩
  | 19 => ⟨S1x1x224x224, .f32⟩
  | 20 => ⟨S1x1x224x224, .f32⟩
  | 21 => ⟨S1, .f32⟩
  | 22 => ⟨S_, .f32⟩
  | 23 => ⟨S1x1x224x224, .f32⟩
  | 24 => ⟨S1x1x224x224, .f32⟩
  | 25 => ⟨S1x1x224x224, .f32⟩
  | 26 => ⟨S1x1x224x224, .f32⟩
  | 27 => ⟨S1, .f32⟩
  | 28 => ⟨S_, .f32⟩
  | 29 => ⟨S1x1x224x224, .f32⟩
  | 30 => ⟨S1x1x224x224, .f32⟩
  | 31 => ⟨S1x1x224x224, .f32⟩
  | 32 => ⟨S1x1x224x224, .f32⟩
  | 33 => ⟨S1, .f32⟩
  | 34 => ⟨S_, .f32⟩
  | 35 => ⟨S1x1x224x224, .f32⟩
  | 36 => ⟨S1x1x224x224, .f32⟩
  | 37 => ⟨S1x1x224x224, .f32⟩
  | 38 => ⟨S1x1x224x224, .f32⟩
  | 39 => ⟨S1, .f32⟩
  | 40 => ⟨S_, .f32⟩
  | 41 => ⟨S1x1x224x224, .f32⟩
  | 42 => ⟨S1x1x224x224, .f32⟩
  | 43 => ⟨S1x1x224x224, .f32⟩
  | 44 => ⟨S1x1x224x224, .f32⟩
  | 45 => ⟨S1, .f32⟩
  | 46 => ⟨S_, .f32⟩
  | 47 => ⟨S1x1x224x224, .f32⟩
  | 48 => ⟨S1x1x224x224, .f32⟩
  | 49 => ⟨S1x1x224x224, .f32⟩
  | 50 => ⟨S1x1x224x224, .f32⟩
  | 51 => ⟨S1, .f32⟩
  | 52 => ⟨S_, .f32⟩
  | 53 => ⟨S1x1x224x224, .f32⟩
  | 54 => ⟨S1x1x224x224, .f32⟩
  | 55 => ⟨S1x1x224x224, .f32⟩
  | 56 => ⟨S1x1x224x224, .f32⟩
  | 57 => ⟨S1, .f32⟩
  | 58 => ⟨S_, .f32⟩
  | 59 => ⟨S1x1x224x224, .f32⟩
  | 60 => ⟨S1x1x224x224, .f32⟩
  | 61 => ⟨S1x1x224x224, .f32⟩
  | 62 => ⟨S1x1x224x224, .f32⟩
  | 63 => ⟨S1, .f32⟩
  | 64 => ⟨S_, .f32⟩
  | 65 => ⟨S1x1x224x224, .f32⟩
  | 66 => ⟨S1x1x224x224, .f32⟩
  | 67 => ⟨S1x1x224x224, .f32⟩
  | 68 => ⟨S1x1x224x224, .f32⟩
  | 69 => ⟨S1, .f32⟩
  | 70 => ⟨S_, .f32⟩
  | 71 => ⟨S1x1x224x224, .f32⟩
  | 72 => ⟨S1x1x224x224, .f32⟩
  | 73 => ⟨S1x1x224x224, .f32⟩
  | 74 => ⟨S1x1x224x224, .f32⟩
  | 75 => ⟨S1, .f32⟩
  | 76 => ⟨S_, .f32⟩
  | 77 => ⟨S1x1x224x224, .f32⟩
  | 78 => ⟨S1x1x224x224, .f32⟩
  | 79 => ⟨S1x1x224x224, .f32⟩
  | 80 => ⟨S1x1x224x224, .f32⟩
  | 81 => ⟨S1, .f32⟩
  | 82 => ⟨S_, .f32⟩
  | 83 => ⟨S1x1x224x224, .f32⟩
  | 84 => ⟨S1x1x224x224, .f32⟩
  | 85 => ⟨S1x1x224x224, .f32⟩
  | 86 => ⟨S1x1x224x224, .f32⟩
  | 87 => ⟨S1, .f32⟩
  | 88 => ⟨S_, .f32⟩
  | 89 => ⟨S1x1x224x224, .f32⟩
  | 90 => ⟨S1x1x224x224, .f32⟩
  | 91 => ⟨S1x1x224x224, .f32⟩
  | 92 => ⟨S1x1x224x224, .f32⟩
  | 93 => ⟨S1, .f32⟩
  | 94 => ⟨S_, .f32⟩
  | 95 => ⟨S1x1x224x224, .f32⟩
  | 96 => ⟨S1x1x224x224, .f32⟩
  | 97 => ⟨S1x1x224x224, .f32⟩
  | 98 => ⟨S1x1x224x224, .f32⟩
  | 99 => ⟨S1, .f32⟩
  | 100 => ⟨S_, .f32⟩
  | 101 => ⟨S1x1x224x224, .f32⟩
  | 102 => ⟨S1x1x224x224, .f32⟩
  | 103 => ⟨S1x1x224x224, .f32⟩
  | 104 => ⟨S1x1x224x224, .f32⟩
  | 105 => ⟨S1, .f32⟩
  | 106 => ⟨S_, .f32⟩
  | 107 => ⟨S1x1x224x224, .f32⟩
  | 108 => ⟨S1x1x224x224, .f32⟩
  | 109 => ⟨S1x1x224x224, .f32⟩
  | 110 => ⟨S1x1x224x224, .f32⟩
  | 111 => ⟨S1, .f32⟩
  | 112 => ⟨S_, .f32⟩
  | 113 => ⟨S1x1x224x224, .f32⟩
  | 114 => ⟨S1x1x224x224, .f32⟩
  | 115 => ⟨S1x1x224x224, .f32⟩
  | 116 => ⟨S1x1x224x224, .f32⟩
  | 117 => ⟨S1, .f32⟩
  | 118 => ⟨S_, .f32⟩
  | 119 => ⟨S1x1x224x224, .f32⟩
  | 120 => ⟨S1x1x224x224, .f32⟩
  | 121 => ⟨S1x1x224x224, .f32⟩
  | 122 => ⟨S1x1x224x224, .f32⟩
  | 123 => ⟨S1, .f32⟩
  | 124 => ⟨S_, .f32⟩
  | 125 => ⟨S1x1x224x224, .f32⟩
  | 126 => ⟨S1x1x224x224, .f32⟩
  | 127 => ⟨S1x1x224x224, .f32⟩
  | _ => ⟨S676x384, .f32⟩

abbrev hbmTy0_3 (i : Nat) : BufTy := match i % 128 with
  | 0 => ⟨S1x1x224x224, .f32⟩
  | 1 => ⟨S1, .f32⟩
  | 2 => ⟨S_, .f32⟩
  | 3 => ⟨S1x1x224x224, .f32⟩
  | 4 => ⟨S1x1x224x224, .f32⟩
  | 5 => ⟨S1x1x224x224, .f32⟩
  | 6 => ⟨S1x1x224x224, .f32⟩
  | 7 => ⟨S_, .i32⟩
  | 8 => ⟨S1x1x224x1, .f32⟩
  | 9 => ⟨S1x1x224x16, .f32⟩
  | 10 => ⟨S1x1x224x16, .f32⟩
  | 11 => ⟨S1x1x224x240, .f32⟩
  | 12 => ⟨S1x1x224x1, .f32⟩
  | 13 => ⟨S1x1x224x16, .f32⟩
  | 14 => ⟨S1x1x224x16, .f32⟩
  | 15 => ⟨S1x1x224x256, .f32⟩
  | 16 => ⟨S1, .f32⟩
  | 17 => ⟨S_, .f32⟩
  | 18 => ⟨S1x1x224x224, .f32⟩
  | 19 => ⟨S1x1x224x224, .f32⟩
  | 20 => ⟨S1x1x224x224, .f32⟩
  | 21 => ⟨S_, .f32⟩
  | 22 => ⟨S1x1x224x224, .f32⟩
  | 23 => ⟨S1x1x224x224, .f32⟩
  | 24 => ⟨S1, .f32⟩
  | 25 => ⟨S_, .f32⟩
  | 26 => ⟨S1x1x224x224, .f32⟩
  | 27 => ⟨S1x1x224x224, .f32⟩
  | 28 => ⟨S1x1x224x224, .f32⟩
  | 29 => ⟨S1x1x224x224, .f32⟩
  | 30 => ⟨S1, .f32⟩
  | 31 => ⟨S_, .f32⟩
  | 32 => ⟨S1x1x224x224, .f32⟩
  | 33 => ⟨S1x1x224x224, .f32⟩
  | 34 => ⟨S1x1x224x224, .f32⟩
  | 35 => ⟨S1x1x224x224, .f32⟩
  | 36 => ⟨S1, .f32⟩
  | 37 => ⟨S_, .f32⟩
  | 38 => ⟨S1x1x224x224, .f32⟩
  | 39 => ⟨S1x1x224x224, .f32⟩
  | 40 => ⟨S1x1x224x224, .f32⟩
  | 41 => ⟨S1x1x224x224, .f32⟩
  | 42 => ⟨S1, .f32⟩
  | 43 => ⟨S_, .f32⟩
  | 44 => ⟨S1x1x224x224, .f32⟩
  | 45 => ⟨S1x1x224x224, .f32⟩
  | 46 => ⟨S1x1x224x224, .f32⟩
  | 47 => ⟨S1x1x224x224, .f32⟩
  | 48 => ⟨S1, .f32⟩
  | 49 => ⟨S_, .f32⟩
  | 50 => ⟨S1x1x224x224, .f32⟩
  | 51 => ⟨S1x1x224x224, .f32⟩
  | 52 => ⟨S1x1x224x224, .f32⟩
  | 53 => ⟨S1x1x224x224, .f32⟩
  | 54 => ⟨S1, .f32⟩
  | 55 => ⟨S_, .f32⟩
  | 56 => ⟨S1x1x224x224, .f32⟩
  | 57 => ⟨S1x1x224x224, .f32⟩
  | 58 => ⟨S1x1x224x224, .f32⟩
  | 59 => ⟨S1x1x224x224, .f32⟩
  | 60 => ⟨S1, .f32⟩
  | 61 => ⟨S_, .f32⟩
  | 62 => ⟨S1x1x224x224, .f32⟩
  | 63 => ⟨S1x1x224x224, .f32⟩
  | 64 => ⟨S1x1x224x224, .f32⟩
  | 65 => ⟨S1x1x224x224, .f32⟩
  | 66 => ⟨S1, .f32⟩
  | 67 => ⟨S_, .f32⟩
  | 68 => ⟨S1x1x224x224, .f32⟩
  | 69 => ⟨S1x1x224x224, .f32⟩
  | 70 => ⟨S1x1x224x224, .f32⟩
  | 71 => ⟨S1x1x224x224, .f32⟩
  | 72 => ⟨S1, .f32⟩
  | 73 => ⟨S_, .f32⟩
  | 74 => ⟨S1x1x224x224, .f32⟩
  | 75 => ⟨S1x1x224x224, .f32⟩
  | 76 => ⟨S1x1x224x224, .f32⟩
  | 77 => ⟨S1x1x224x224, .f32⟩
  | 78 => ⟨S1, .f32⟩
  | 79 => ⟨S_, .f32⟩
  | 80 => ⟨S1x1x224x224, .f32⟩
  | 81 => ⟨S1x1x224x224, .f32⟩
  | 82 => ⟨S1x1x224x224, .f32⟩
  | 83 => ⟨S1x1x224x224, .f32⟩
  | 84 => ⟨S1, .f32⟩
  | 85 => ⟨S_, .f32⟩
  | 86 => ⟨S1x1x224x224, .f32⟩
  | 87 => ⟨S1x1x224x224, .f32⟩
  | 88 => ⟨S1x1x224x224, .f32⟩
  | 89 => ⟨S1x1x224x224, .f32⟩
  | 90 => ⟨S1, .f32⟩
  | 91 => ⟨S_, .f32⟩
  | 92 => ⟨S1x1x224x224, .f32⟩
  | 93 => ⟨S1x1x224x224, .f32⟩
  | 94 => ⟨S1x1x224x224, .f32⟩
  | 95 => ⟨S1x1x224x224, .f32⟩
  | 96 => ⟨S1, .f32⟩
  | 97 => ⟨S_, .f32⟩
  | 98 => ⟨S1x1x224x224, .f32⟩
  | 99 => ⟨S1x1x224x224, .f32⟩
  | 100 => ⟨S1x1x224x224, .f32⟩
  | 101 => ⟨S1x1x224x224, .f32⟩
  | 102 => ⟨S1, .f32⟩
  | 103 => ⟨S_, .f32⟩
  | 104 => ⟨S1x1x224x224, .f32⟩
  | 105 => ⟨S1x1x224x224, .f32⟩
  | 106 => ⟨S1x1x224x224, .f32⟩
  | 107 => ⟨S1x1x224x224, .f32⟩
  | 108 => ⟨S1, .f32⟩
  | 109 => ⟨S_, .f32⟩
  | 110 => ⟨S1x1x224x224, .f32⟩
  | 111 => ⟨S1x1x224x224, .f32⟩
  | 112 => ⟨S1x1x224x224, .f32⟩
  | 113 => ⟨S1x1x224x224, .f32⟩
  | 114 => ⟨S1, .f32⟩
  | 115 => ⟨S_, .f32⟩
  | 116 => ⟨S1x1x224x224, .f32⟩
  | 117 => ⟨S1x1x224x224, .f32⟩
  | 118 => ⟨S1x1x224x224, .f32⟩
  | 119 => ⟨S1x1x224x224, .f32⟩
  | 120 => ⟨S1, .f32⟩
  | 121 => ⟨S_, .f32⟩
  | 122 => ⟨S1x1x224x224, .f32⟩
  | 123 => ⟨S1x1x224x224, .f32⟩
  | 124 => ⟨S1x1x224x224, .f32⟩
  | 125 => ⟨S1x1x224x224, .f32⟩
  | 126 => ⟨S1, .f32⟩
  | 127 => ⟨S_, .f32⟩
  | _ => ⟨S676x384, .f32⟩

abbrev hbmTy0_4 (i : Nat) : BufTy := match i % 128 with
  | 0 => ⟨S1x1x224x224, .f32⟩
  | 1 => ⟨S1x1x224x224, .f32⟩
  | 2 => ⟨S1x1x224x224, .f32⟩
  | 3 => ⟨S1x1x224x224, .f32⟩
  | 4 => ⟨S1, .f32⟩
  | 5 => ⟨S_, .f32⟩
  | 6 => ⟨S1x1x224x224, .f32⟩
  | 7 => ⟨S1x1x224x224, .f32⟩
  | 8 => ⟨S1x1x224x224, .f32⟩
  | 9 => ⟨S1x1x224x224, .f32⟩
  | 10 => ⟨S1, .f32⟩
  | 11 => ⟨S_, .f32⟩
  | 12 => ⟨S1x1x224x224, .f32⟩
  | 13 => ⟨S1x1x224x224, .f32⟩
  | 14 => ⟨S1x1x224x224, .f32⟩
  | 15 => ⟨S1x1x224x224, .f32⟩
  | 16 => ⟨S1, .f32⟩
  | 17 => ⟨S_, .f32⟩
  | 18 => ⟨S1x1x224x224, .f32⟩
  | 19 => ⟨S1x1x224x224, .f32⟩
  | 20 => ⟨S1x1x224x224, .f32⟩
  | 21 => ⟨S1x1x224x224, .f32⟩
  | 22 => ⟨S1, .f32⟩
  | 23 => ⟨S_, .f32⟩
  | 24 => ⟨S1x1x224x224, .f32⟩
  | 25 => ⟨S1x1x224x224, .f32⟩
  | 26 => ⟨S1x1x224x224, .f32⟩
  | 27 => ⟨S1x1x224x224, .f32⟩
  | 28 => ⟨S1, .f32⟩
  | 29 => ⟨S_, .f32⟩
  | 30 => ⟨S1x1x224x224, .f32⟩
  | 31 => ⟨S1x1x224x224, .f32⟩
  | 32 => ⟨S1x1x224x224, .f32⟩
  | 33 => ⟨S1x1x224x224, .f32⟩
  | 34 => ⟨S1, .f32⟩
  | 35 => ⟨S_, .f32⟩
  | 36 => ⟨S1x1x224x224, .f32⟩
  | 37 => ⟨S1x1x224x224, .f32⟩
  | 38 => ⟨S1x1x224x224, .f32⟩
  | 39 => ⟨S1x1x224x224, .f32⟩
  | 40 => ⟨S1, .f32⟩
  | 41 => ⟨S_, .f32⟩
  | 42 => ⟨S1x1x224x224, .f32⟩
  | 43 => ⟨S1x1x224x224, .f32⟩
  | 44 => ⟨S1x1x224x224, .f32⟩
  | 45 => ⟨S1x1x224x224, .f32⟩
  | 46 => ⟨S1, .f32⟩
  | 47 => ⟨S_, .f32⟩
  | 48 => ⟨S1x1x224x224, .f32⟩
  | 49 => ⟨S1x1x224x224, .f32⟩
  | 50 => ⟨S1x1x224x224, .f32⟩
  | 51 => ⟨S1x1x224x224, .f32⟩
  | 52 => ⟨S1, .f32⟩
  | 53 => ⟨S_, .f32⟩
  | 54 => ⟨S1x1x224x224, .f32⟩
  | 55 => ⟨S1x1x224x224, .f32⟩
  | 56 => ⟨S1x1x224x224, .f32⟩
  | 57 => ⟨S1x1x224x224, .f32⟩
  | 58 => ⟨S1, .f32⟩
  | 59 => ⟨S_, .f32⟩
  | 60 => ⟨S1x1x224x224, .f32⟩
  | 61 => ⟨S1x1x224x224, .f32⟩
  | 62 => ⟨S1x1x224x224, .f32⟩
  | 63 => ⟨S1x1x224x224, .f32⟩
  | 64 => ⟨S1, .f32⟩
  | 65 => ⟨S_, .f32⟩
  | 66 => ⟨S1x1x224x224, .f32⟩
  | 67 => ⟨S1x1x224x224, .f32⟩
  | 68 => ⟨S1x1x224x224, .f32⟩
  | 69 => ⟨S1x1x224x224, .f32⟩
  | 70 => ⟨S1, .f32⟩
  | 71 => ⟨S_, .f32⟩
  | 72 => ⟨S1x1x224x224, .f32⟩
  | 73 => ⟨S1x1x224x224, .f32⟩
  | 74 => ⟨S1x1x224x224, .f32⟩
  | 75 => ⟨S1x1x224x224, .f32⟩
  | 76 => ⟨S1, .f32⟩
  | 77 => ⟨S_, .f32⟩
  | 78 => ⟨S1x1x224x224, .f32⟩
  | 79 => ⟨S1x1x224x224, .f32⟩
  | 80 => ⟨S1x1x224x224, .f32⟩
  | 81 => ⟨S1x1x224x224, .f32⟩
  | 82 => ⟨S1, .f32⟩
  | 83 => ⟨S_, .f32⟩
  | 84 => ⟨S1x1x224x224, .f32⟩
  | 85 => ⟨S1x1x224x224, .f32⟩
  | 86 => ⟨S1x1x224x224, .f32⟩
  | 87 => ⟨S1x1x224x224, .f32⟩
  | 88 => ⟨S676x384, .f32⟩
  | 89 => ⟨S_, .f32⟩
  | 90 => ⟨S676, .f32⟩
  | 91 => ⟨S676x1, .f32⟩
  | 92 => ⟨S65536x384, .f32⟩
  | 93 => ⟨S_, .f32⟩
  | 94 => ⟨S65536, .f32⟩
  | 95 => ⟨S65536x1, .f32⟩
  | 96 => ⟨S1x65536, .f32⟩
  | 97 => ⟨S676x65536, .f32⟩
  | 98 => ⟨S676x65536, .f32⟩
  | 99 => ⟨S676x65536, .f32⟩
  | 100 => ⟨S384x65536, .f32⟩
  | 101 => ⟨S676x65536, .f32⟩
  | 102 => ⟨S_, .f32⟩
  | 103 => ⟨S676x65536, .f32⟩
  | 104 => ⟨S676x65536, .f32⟩
  | 105 => ⟨S676x65536, .f32⟩
  | 106 => ⟨S_, .f32⟩
  | 107 => ⟨S676, .f32⟩
  | 108 => ⟨S676x1, .f32⟩
  | 109 => ⟨S676x65536, .f32⟩
  | 110 => ⟨S676x65536, .i1⟩
  | 111 => ⟨S65536, .i32⟩
  | 112 => ⟨S_, .i32⟩
  | 113 => ⟨S_, .i32⟩
  | 114 => ⟨S676x65536, .i32⟩
  | 115 => ⟨S676x65536, .i32⟩
  | 116 => ⟨S676x65536, .i32⟩
  | 117 => ⟨S_, .i32⟩
  | 118 => ⟨S676, .i32⟩
  | 119 => ⟨S_, .f32⟩
  | 120 => ⟨S_, .f32⟩
  | 121 => ⟨S1, .f32⟩
  | 122 => ⟨S676, .f32⟩
  | 123 => ⟨S676, .i1⟩
  | 124 => ⟨S676, .i32⟩
  | 125 => ⟨S_, .i32⟩
  | 126 => ⟨S_, .i32⟩
  | 127 => ⟨S676, .i32⟩
  | _ => ⟨S676x384, .f32⟩

abbrev hbmTy0_5 (i : Nat) : BufTy := match i % 128 with
  | 0 => ⟨S676, .i32⟩
  | 1 => ⟨S_, .i32⟩
  | 2 => ⟨S_, .i32⟩
  | 3 => ⟨S_, .i32⟩
  | 4 => ⟨S_, .i1⟩
  | 5 => ⟨S_, .i32⟩
  | 6 => ⟨S_, .i32⟩
  | 7 => ⟨S_, .i32⟩
  | 8 => ⟨S1, .f32⟩
  | 9 => ⟨S_, .f32⟩
  | 10 => ⟨S_, .i32⟩
  | 11 => ⟨S_, .i1⟩
  | 12 => ⟨S_, .i32⟩
  | 13 => ⟨S_, .i32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S_, .i32⟩
  | 21 => ⟨S_, .i32⟩
  | 22 => ⟨S_, .i32⟩
  | 23 => ⟨S1x384, .f32⟩
  | 24 => ⟨S384, .f32⟩
  | 25 => ⟨S1x384, .f32⟩
  | 26 => ⟨S_, .i32⟩
  | 27 => ⟨S_, .i1⟩
  | 28 => ⟨S_, .i32⟩
  | 29 => ⟨S_, .i32⟩
  | 30 => ⟨S_, .i32⟩
  | 31 => ⟨S1, .i32⟩
  | 32 => ⟨S_, .i32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S_, .i32⟩
  | 46 => ⟨S1x384, .f32⟩
  | 47 => ⟨S384, .f32⟩
  | 48 => ⟨S1x384, .f32⟩
  | 49 => ⟨S1x384, .f32⟩
  | 50 => ⟨S_, .f32⟩
  | 51 => ⟨S1, .f32⟩
  | 52 => ⟨S1x1, .f32⟩
  | 53 => ⟨S65536x384, .f32⟩
  | 54 => ⟨S_, .f32⟩
  | 55 => ⟨S65536, .f32⟩
  | 56 => ⟨S65536x1, .f32⟩
  | 57 => ⟨S1x65536, .f32⟩
  | 58 => ⟨S1x65536, .f32⟩
  | 59 => ⟨S1x65536, .f32⟩
  | 60 => ⟨S384x65536, .f32⟩
  | 61 => ⟨S1x65536, .f32⟩
  | 62 => ⟨S_, .f32⟩
  | 63 => ⟨S1x65536, .f32⟩
  | 64 => ⟨S1x65536, .f32⟩
  | 65 => ⟨S1x65536, .f32⟩
  | 66 => ⟨S65536, .f32⟩
  | 67 => ⟨S_, .f32⟩
  | 68 => ⟨S_, .f32⟩
  | 69 => ⟨S1, .f32⟩
  | 70 => ⟨S65536, .f32⟩
  | 71 => ⟨S65536, .i1⟩
  | 72 => ⟨S65536, .i32⟩
  | 73 => ⟨S_, .i32⟩
  | 74 => ⟨S_, .i32⟩
  | 75 => ⟨S65536, .i32⟩
  | 76 => ⟨S65536, .i32⟩
  | 77 => ⟨S_, .i32⟩
  | 78 => ⟨S_, .i32⟩
  | 79 => ⟨S65536, .i32⟩
  | 80 => ⟨S65536, .i32⟩
  | 81 => ⟨S65536, .i1⟩
  | 82 => ⟨S_, .f32⟩
  | 83 => ⟨S_, .f32⟩
  | 84 => ⟨S65536, .f32⟩
  | 85 => ⟨S65536, .f32⟩
  | 86 => ⟨S_, .f32⟩
  | 87 => ⟨S_, .f32⟩
  | 88 => ⟨S1, .f32⟩
  | 89 => ⟨S65536, .f32⟩
  | 90 => ⟨S65536, .i1⟩
  | 91 => ⟨S65536, .i32⟩
  | 92 => ⟨S_, .i32⟩
  | 93 => ⟨S_, .i32⟩
  | 94 => ⟨S65536, .i32⟩
  | 95 => ⟨S65536, .i32⟩
  | 96 => ⟨S_, .i32⟩
  | 97 => ⟨S_, .i32⟩
  | 98 => ⟨S384, .f32⟩
  | 99 => ⟨S_, .i32⟩
  | 100 => ⟨S_, .i1⟩
  | 101 => ⟨S_, .i32⟩
  | 102 => ⟨S_, .i32⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S_, .i32⟩
  | 110 => ⟨S_, .i32⟩
  | 111 => ⟨S_, .i32⟩
  | 112 => ⟨S1x384, .f32⟩
  | 113 => ⟨S384, .f32⟩
  | 114 => ⟨S384, .f32⟩
  | 115 => ⟨S384, .f32⟩
  | 116 => ⟨S_, .f32⟩
  | 117 => ⟨S_, .f32⟩
  | 118 => ⟨S_, .f32⟩
  | 119 => ⟨S65536, .i32⟩
  | 120 => ⟨S65536, .i32⟩
  | 121 => ⟨S65536, .i1⟩
  | 122 => ⟨S_, .f32⟩
  | 123 => ⟨S_, .f32⟩
  | 124 => ⟨S65536, .f32⟩
  | 125 => ⟨S65536, .f32⟩
  | 126 => ⟨S_, .f32⟩
  | 127 => ⟨S_, .f32⟩
  | _ => ⟨S676x384, .f32⟩

abbrev hbmTy0_6 (i : Nat) : BufTy := match i % 128 with
  | 0 => ⟨S1, .f32⟩
  | 1 => ⟨S65536, .f32⟩
  | 2 => ⟨S65536, .i1⟩
  | 3 => ⟨S65536, .i32⟩
  | 4 => ⟨S_, .i32⟩
  | 5 => ⟨S_, .i32⟩
  | 6 => ⟨S65536, .i32⟩
  | 7 => ⟨S65536, .i32⟩
  | 8 => ⟨S_, .i32⟩
  | 9 => ⟨S_, .i32⟩
  | 10 => ⟨S384, .f32⟩
  | 11 => ⟨S_, .i32⟩
  | 12 => ⟨S_, .i1⟩
  | 13 => ⟨S_, .i32⟩
  | 14 => ⟨S_, .i32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i32⟩
  | 24 => ⟨S1x384, .f32⟩
  | 25 => ⟨S384, .f32⟩
  | 26 => ⟨S384, .f32⟩
  | 27 => ⟨S384, .f32⟩
  | 28 => ⟨S_, .f32⟩
  | 29 => ⟨S_, .f32⟩
  | 30 => ⟨S_, .f32⟩
  | 31 => ⟨S65536, .i32⟩
  | 32 => ⟨S65536, .i32⟩
  | 33 => ⟨S65536, .i1⟩
  | 34 => ⟨S_, .f32⟩
  | 35 => ⟨S_, .f32⟩
  | 36 => ⟨S65536, .f32⟩
  | 37 => ⟨S65536, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | _ => ⟨S676x384, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S676x384, .f32⟩

abbrev bufTy : (tb : Table) → Fin (tcTables nBuf tb) → BufTy
  | .hbm, ⟨i, _⟩ => hbmTy i
  | _, _ => ⟨S676x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_call1_cst : Ref sig .tc := ⟨.hbm, 28, rfl⟩
abbrev main_call1_cst_0 : Ref sig .tc := ⟨.hbm, 29, rfl⟩
abbrev main_call1_v0 : Ref sig .tc := ⟨.hbm, 30, rfl⟩
abbrev main_call1_v1 : Ref sig .tc := ⟨.hbm, 31, rfl⟩
abbrev main_call1_cst_1 : Ref sig .tc := ⟨.hbm, 32, rfl⟩
abbrev main_call1_v2 : Ref sig .tc := ⟨.hbm, 33, rfl⟩
abbrev main_call1_v3 : Ref sig .tc := ⟨.hbm, 34, rfl⟩
abbrev main_call1_cst_2 : Ref sig .tc := ⟨.hbm, 35, rfl⟩
abbrev main_call1_v4 : Ref sig .tc := ⟨.hbm, 36, rfl⟩
abbrev main_call1_v5 : Ref sig .tc := ⟨.hbm, 37, rfl⟩
abbrev main_call1_cst_3 : Ref sig .tc := ⟨.hbm, 38, rfl⟩
abbrev main_call1_v6 : Ref sig .tc := ⟨.hbm, 39, rfl⟩
abbrev main_call1_v7 : Ref sig .tc := ⟨.hbm, 40, rfl⟩
abbrev main_call1_cst_4 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_v15 : Ref sig .tc := ⟨.hbm, 49, rfl⟩
abbrev main_call1_v16 : Ref sig .tc := ⟨.hbm, 50, rfl⟩
abbrev main_call1_v17 : Ref sig .tc := ⟨.hbm, 51, rfl⟩
abbrev main_call1_v18 : Ref sig .tc := ⟨.hbm, 52, rfl⟩
abbrev main_call1_v19 : Ref sig .tc := ⟨.hbm, 53, rfl⟩
abbrev main_call1_v20 : Ref sig .tc := ⟨.hbm, 54, rfl⟩
abbrev main_call1_cst_5 : Ref sig .tc := ⟨.hbm, 55, rfl⟩
abbrev main_call1_v21 : Ref sig .tc := ⟨.hbm, 56, rfl⟩
abbrev main_call1_v22 : Ref sig .tc := ⟨.hbm, 57, rfl⟩
abbrev main_call1_cst_6 : Ref sig .tc := ⟨.hbm, 58, rfl⟩
abbrev main_call1_v23 : Ref sig .tc := ⟨.hbm, 59, rfl⟩
abbrev main_call1_v24 : Ref sig .tc := ⟨.hbm, 60, rfl⟩
abbrev main_call1_cst_7 : Ref sig .tc := ⟨.hbm, 61, rfl⟩
abbrev main_call1_v25 : Ref sig .tc := ⟨.hbm, 62, rfl⟩
abbrev main_call1_v26 : Ref sig .tc := ⟨.hbm, 63, rfl⟩
abbrev main_call1_v27 : Ref sig .tc := ⟨.hbm, 64, rfl⟩
abbrev main_call1_cst_8 : Ref sig .tc := ⟨.hbm, 65, rfl⟩
abbrev main_call1_v28 : Ref sig .tc := ⟨.hbm, 66, rfl⟩
abbrev main_call1_v29 : Ref sig .tc := ⟨.hbm, 67, rfl⟩
abbrev main_call1_cst_9 : Ref sig .tc := ⟨.hbm, 68, rfl⟩
abbrev main_call1_v30 : Ref sig .tc := ⟨.hbm, 69, rfl⟩
abbrev main_call1_v31 : Ref sig .tc := ⟨.hbm, 70, rfl⟩
abbrev main_call1_c : Ref sig .tc := ⟨.hbm, 71, rfl⟩
abbrev main_call1_call0_v0 : Ref sig .tc := ⟨.hbm, 72, rfl⟩
abbrev main_call1_call0_v1 : Ref sig .tc := ⟨.hbm, 73, rfl⟩
abbrev main_call1_v32 : Ref sig .tc := ⟨.hbm, 74, rfl⟩
abbrev main_call1_v33 : Ref sig .tc := ⟨.hbm, 75, rfl⟩
abbrev main_call1_v34 : Ref sig .tc := ⟨.hbm, 76, rfl⟩
abbrev main_call1_c_10 : Ref sig .tc := ⟨.hbm, 77, rfl⟩
abbrev main_call1_call1_v0 : Ref sig .tc := ⟨.hbm, 78, rfl⟩
abbrev main_call1_call1_v1 : Ref sig .tc := ⟨.hbm, 79, rfl⟩
abbrev main_call1_call1_v2 : Ref sig .tc := ⟨.hbm, 80, rfl⟩
abbrev main_call1_v35 : Ref sig .tc := ⟨.hbm, 81, rfl⟩
abbrev main_call1_cst_11 : Ref sig .tc := ⟨.hbm, 82, rfl⟩
abbrev main_call1_v36 : Ref sig .tc := ⟨.hbm, 83, rfl⟩
abbrev main_call1_v37 : Ref sig .tc := ⟨.hbm, 84, rfl⟩
abbrev main_call1_cst_12 : Ref sig .tc := ⟨.hbm, 85, rfl⟩
abbrev main_call1_v38 : Ref sig .tc := ⟨.hbm, 86, rfl⟩
abbrev main_call1_v39 : Ref sig .tc := ⟨.hbm, 87, rfl⟩
abbrev main_call1_v40 : Ref sig .tc := ⟨.hbm, 88, rfl⟩
abbrev main_call1_v41 : Ref sig .tc := ⟨.hbm, 89, rfl⟩
abbrev main_call1_c_13 : Ref sig .tc := ⟨.hbm, 90, rfl⟩
abbrev main_call1_call2_v0 : Ref sig .tc := ⟨.hbm, 91, rfl⟩
abbrev main_call1_call2_v1 : Ref sig .tc := ⟨.hbm, 92, rfl⟩
abbrev main_call1_call2_v2 : Ref sig .tc := ⟨.hbm, 93, rfl⟩
abbrev main_call1_v42 : Ref sig .tc := ⟨.hbm, 94, rfl⟩
abbrev main_v19 : Ref sig .tc := ⟨.hbm, 95, rfl⟩
abbrev main_v20 : Ref sig .tc := ⟨.hbm, 96, rfl⟩
abbrev main_call2_cst : Ref sig .tc := ⟨.hbm, 97, rfl⟩
abbrev main_call2_cst_0 : Ref sig .tc := ⟨.hbm, 98, rfl⟩
abbrev main_call2_v0 : Ref sig .tc := ⟨.hbm, 99, rfl⟩
abbrev main_call2_v1 : Ref sig .tc := ⟨.hbm, 100, rfl⟩
abbrev main_call2_cst_1 : Ref sig .tc := ⟨.hbm, 101, rfl⟩
abbrev main_call2_v2 : Ref sig .tc := ⟨.hbm, 102, rfl⟩
abbrev main_call2_v3 : Ref sig .tc := ⟨.hbm, 103, rfl⟩
abbrev main_call2_cst_2 : Ref sig .tc := ⟨.hbm, 104, rfl⟩
abbrev main_call2_v4 : Ref sig .tc := ⟨.hbm, 105, rfl⟩
abbrev main_call2_v5 : Ref sig .tc := ⟨.hbm, 106, rfl⟩
abbrev main_call2_cst_3 : Ref sig .tc := ⟨.hbm, 107, rfl⟩
abbrev main_call2_v6 : Ref sig .tc := ⟨.hbm, 108, rfl⟩
abbrev main_call2_v7 : Ref sig .tc := ⟨.hbm, 109, rfl⟩
abbrev main_call2_cst_4 : Ref sig .tc := ⟨.hbm, 110, rfl⟩
abbrev main_call2_v8 : Ref sig .tc := ⟨.hbm, 111, rfl⟩
abbrev main_call2_v9 : Ref sig .tc := ⟨.hbm, 112, rfl⟩
abbrev main_call2_v10 : Ref sig .tc := ⟨.hbm, 113, rfl⟩
abbrev main_call2_v11 : Ref sig .tc := ⟨.hbm, 114, rfl⟩
abbrev main_call2_v12 : Ref sig .tc := ⟨.hbm, 115, rfl⟩
abbrev main_call2_v13 : Ref sig .tc := ⟨.hbm, 116, rfl⟩
abbrev main_call2_v14 : Ref sig .tc := ⟨.hbm, 117, rfl⟩
abbrev main_call2_v15 : Ref sig .tc := ⟨.hbm, 118, rfl⟩
abbrev main_call2_v16 : Ref sig .tc := ⟨.hbm, 119, rfl⟩
abbrev main_call2_v17 : Ref sig .tc := ⟨.hbm, 120, rfl⟩
abbrev main_call2_v18 : Ref sig .tc := ⟨.hbm, 121, rfl⟩
abbrev main_call2_v19 : Ref sig .tc := ⟨.hbm, 122, rfl⟩
abbrev main_call2_v20 : Ref sig .tc := ⟨.hbm, 123, rfl⟩
abbrev main_call2_cst_5 : Ref sig .tc := ⟨.hbm, 124, rfl⟩
abbrev main_call2_v21 : Ref sig .tc := ⟨.hbm, 125, rfl⟩
abbrev main_call2_v22 : Ref sig .tc := ⟨.hbm, 126, rfl⟩
abbrev main_call2_cst_6 : Ref sig .tc := ⟨.hbm, 127, rfl⟩
abbrev main_call2_v23 : Ref sig .tc := ⟨.hbm, 128, rfl⟩
abbrev main_call2_v24 : Ref sig .tc := ⟨.hbm, 129, rfl⟩
abbrev main_call2_cst_7 : Ref sig .tc := ⟨.hbm, 130, rfl⟩
abbrev main_call2_v25 : Ref sig .tc := ⟨.hbm, 131, rfl⟩
abbrev main_call2_v26 : Ref sig .tc := ⟨.hbm, 132, rfl⟩
abbrev main_call2_v27 : Ref sig .tc := ⟨.hbm, 133, rfl⟩
abbrev main_call2_cst_8 : Ref sig .tc := ⟨.hbm, 134, rfl⟩
abbrev main_call2_v28 : Ref sig .tc := ⟨.hbm, 135, rfl⟩
abbrev main_call2_v29 : Ref sig .tc := ⟨.hbm, 136, rfl⟩
abbrev main_call2_cst_9 : Ref sig .tc := ⟨.hbm, 137, rfl⟩
abbrev main_call2_v30 : Ref sig .tc := ⟨.hbm, 138, rfl⟩
abbrev main_call2_v31 : Ref sig .tc := ⟨.hbm, 139, rfl⟩
abbrev main_call2_c : Ref sig .tc := ⟨.hbm, 140, rfl⟩
abbrev main_call2_call0_v0 : Ref sig .tc := ⟨.hbm, 141, rfl⟩
abbrev main_call2_call0_v1 : Ref sig .tc := ⟨.hbm, 142, rfl⟩
abbrev main_call2_v32 : Ref sig .tc := ⟨.hbm, 143, rfl⟩
abbrev main_call2_v33 : Ref sig .tc := ⟨.hbm, 144, rfl⟩
abbrev main_call2_v34 : Ref sig .tc := ⟨.hbm, 145, rfl⟩
abbrev main_call2_c_10 : Ref sig .tc := ⟨.hbm, 146, rfl⟩
abbrev main_call2_call1_v0 : Ref sig .tc := ⟨.hbm, 147, rfl⟩
abbrev main_call2_call1_v1 : Ref sig .tc := ⟨.hbm, 148, rfl⟩
abbrev main_call2_call1_v2 : Ref sig .tc := ⟨.hbm, 149, rfl⟩
abbrev main_call2_v35 : Ref sig .tc := ⟨.hbm, 150, rfl⟩
abbrev main_call2_cst_11 : Ref sig .tc := ⟨.hbm, 151, rfl⟩
abbrev main_call2_v36 : Ref sig .tc := ⟨.hbm, 152, rfl⟩
abbrev main_call2_v37 : Ref sig .tc := ⟨.hbm, 153, rfl⟩
abbrev main_call2_cst_12 : Ref sig .tc := ⟨.hbm, 154, rfl⟩
abbrev main_call2_v38 : Ref sig .tc := ⟨.hbm, 155, rfl⟩
abbrev main_call2_v39 : Ref sig .tc := ⟨.hbm, 156, rfl⟩
abbrev main_call2_v40 : Ref sig .tc := ⟨.hbm, 157, rfl⟩
abbrev main_call2_v41 : Ref sig .tc := ⟨.hbm, 158, rfl⟩
abbrev main_call2_c_13 : Ref sig .tc := ⟨.hbm, 159, rfl⟩
abbrev main_call2_call2_v0 : Ref sig .tc := ⟨.hbm, 160, rfl⟩
abbrev main_call2_call2_v1 : Ref sig .tc := ⟨.hbm, 161, rfl⟩
abbrev main_call2_call2_v2 : Ref sig .tc := ⟨.hbm, 162, rfl⟩
abbrev main_call2_v42 : Ref sig .tc := ⟨.hbm, 163, rfl⟩
abbrev main_v21 : Ref sig .tc := ⟨.hbm, 164, rfl⟩
abbrev main_v22 : Ref sig .tc := ⟨.hbm, 165, rfl⟩
abbrev main_v23 : Ref sig .tc := ⟨.hbm, 166, rfl⟩
abbrev main_cst_4 : Ref sig .tc := ⟨.hbm, 167, rfl⟩
abbrev main_v24 : Ref sig .tc := ⟨.hbm, 168, rfl⟩
abbrev main_v25 : Ref sig .tc := ⟨.hbm, 169, rfl⟩
abbrev main_cst_5 : Ref sig .tc := ⟨.hbm, 170, rfl⟩
abbrev main_v26 : Ref sig .tc := ⟨.hbm, 171, rfl⟩
abbrev main_v27 : Ref sig .tc := ⟨.hbm, 172, rfl⟩
abbrev main_v28 : Ref sig .tc := ⟨.hbm, 173, rfl⟩
abbrev main_cst_6 : Ref sig .tc := ⟨.hbm, 174, rfl⟩
abbrev main_v29 : Ref sig .tc := ⟨.hbm, 175, rfl⟩
abbrev main_v30 : Ref sig .tc := ⟨.hbm, 176, rfl⟩
abbrev main_v31 : Ref sig .tc := ⟨.hbm, 177, rfl⟩
abbrev main_cst_7 : Ref sig .tc := ⟨.hbm, 178, rfl⟩
abbrev main_v32 : Ref sig .tc := ⟨.hbm, 179, rfl⟩
abbrev main_v33 : Ref sig .tc := ⟨.hbm, 180, rfl⟩
abbrev main_v34 : Ref sig .tc := ⟨.hbm, 181, rfl⟩
abbrev main_c : Ref sig .tc := ⟨.hbm, 182, rfl⟩
abbrev main_call3_v0 : Ref sig .tc := ⟨.hbm, 183, rfl⟩
abbrev main_call3_v1 : Ref sig .tc := ⟨.hbm, 184, rfl⟩
abbrev main_call3_v2 : Ref sig .tc := ⟨.hbm, 185, rfl⟩
abbrev main_call3_v3 : Ref sig .tc := ⟨.hbm, 186, rfl⟩
abbrev main_call3_v4 : Ref sig .tc := ⟨.hbm, 187, rfl⟩
abbrev main_call3_v5 : Ref sig .tc := ⟨.hbm, 188, rfl⟩
abbrev main_call3_v6 : Ref sig .tc := ⟨.hbm, 189, rfl⟩
abbrev main_v35 : Ref sig .tc := ⟨.hbm, 190, rfl⟩
abbrev main_v36 : Ref sig .tc := ⟨.hbm, 191, rfl⟩
abbrev main_v37 : Ref sig .tc := ⟨.hbm, 192, rfl⟩
abbrev main_v38 : Ref sig .tc := ⟨.hbm, 193, rfl⟩
abbrev main_v39 : Ref sig .tc := ⟨.hbm, 194, rfl⟩
abbrev main_v40 : Ref sig .tc := ⟨.hbm, 195, rfl⟩
abbrev main_cst_8 : Ref sig .tc := ⟨.hbm, 196, rfl⟩
abbrev main_v41 : Ref sig .tc := ⟨.hbm, 197, rfl⟩
abbrev main_v42 : Ref sig .tc := ⟨.hbm, 198, rfl⟩
abbrev main_v43 : Ref sig .tc := ⟨.hbm, 199, rfl⟩
abbrev main_v44 : Ref sig .tc := ⟨.hbm, 200, rfl⟩
abbrev main_v45 : Ref sig .tc := ⟨.hbm, 201, rfl⟩
abbrev main_v46 : Ref sig .tc := ⟨.hbm, 202, rfl⟩
abbrev main_v47 : Ref sig .tc := ⟨.hbm, 203, rfl⟩
abbrev main_v48 : Ref sig .tc := ⟨.hbm, 204, rfl⟩
abbrev main_v49 : Ref sig .tc := ⟨.hbm, 205, rfl⟩
abbrev main_v50 : Ref sig .tc := ⟨.hbm, 206, rfl⟩
abbrev main_v51 : Ref sig .tc := ⟨.hbm, 207, rfl⟩
abbrev main_v52 : Ref sig .tc := ⟨.hbm, 208, rfl⟩
abbrev main_v53 : Ref sig .tc := ⟨.hbm, 209, rfl⟩
abbrev main_v54 : Ref sig .tc := ⟨.hbm, 210, rfl⟩
abbrev main_v55 : Ref sig .tc := ⟨.hbm, 211, rfl⟩
abbrev main_v56 : Ref sig .tc := ⟨.hbm, 212, rfl⟩
abbrev main_v57 : Ref sig .tc := ⟨.hbm, 213, rfl⟩
abbrev main_v58 : Ref sig .tc := ⟨.hbm, 214, rfl⟩
abbrev main_v59 : Ref sig .tc := ⟨.hbm, 215, rfl⟩
abbrev main_v60 : Ref sig .tc := ⟨.hbm, 216, rfl⟩
abbrev main_v61 : Ref sig .tc := ⟨.hbm, 217, rfl⟩
abbrev main_v62 : Ref sig .tc := ⟨.hbm, 218, rfl⟩
abbrev main_v63 : Ref sig .tc := ⟨.hbm, 219, rfl⟩
abbrev main_v64 : Ref sig .tc := ⟨.hbm, 220, rfl⟩
abbrev main_v65 : Ref sig .tc := ⟨.hbm, 221, rfl⟩
abbrev main_v66 : Ref sig .tc := ⟨.hbm, 222, rfl⟩
abbrev main_v67 : Ref sig .tc := ⟨.hbm, 223, rfl⟩
abbrev main_v68 : Ref sig .tc := ⟨.hbm, 224, rfl⟩
abbrev main_v69 : Ref sig .tc := ⟨.hbm, 225, rfl⟩
abbrev main_v70 : Ref sig .tc := ⟨.hbm, 226, rfl⟩
abbrev main_v71 : Ref sig .tc := ⟨.hbm, 227, rfl⟩
abbrev main_v72 : Ref sig .tc := ⟨.hbm, 228, rfl⟩
abbrev main_v73 : Ref sig .tc := ⟨.hbm, 229, rfl⟩
abbrev main_v74 : Ref sig .tc := ⟨.hbm, 230, rfl⟩
abbrev main_v75 : Ref sig .tc := ⟨.hbm, 231, rfl⟩
abbrev main_v76 : Ref sig .tc := ⟨.hbm, 232, rfl⟩
abbrev main_v77 : Ref sig .tc := ⟨.hbm, 233, rfl⟩
abbrev main_v78 : Ref sig .tc := ⟨.hbm, 234, rfl⟩
abbrev main_v79 : Ref sig .tc := ⟨.hbm, 235, rfl⟩
abbrev main_v80 : Ref sig .tc := ⟨.hbm, 236, rfl⟩
abbrev main_v81 : Ref sig .tc := ⟨.hbm, 237, rfl⟩
abbrev main_v82 : Ref sig .tc := ⟨.hbm, 238, rfl⟩
abbrev main_v83 : Ref sig .tc := ⟨.hbm, 239, rfl⟩
abbrev main_v84 : Ref sig .tc := ⟨.hbm, 240, rfl⟩
abbrev main_v85 : Ref sig .tc := ⟨.hbm, 241, rfl⟩
abbrev main_v86 : Ref sig .tc := ⟨.hbm, 242, rfl⟩
abbrev main_v87 : Ref sig .tc := ⟨.hbm, 243, rfl⟩
abbrev main_v88 : Ref sig .tc := ⟨.hbm, 244, rfl⟩
abbrev main_v89 : Ref sig .tc := ⟨.hbm, 245, rfl⟩
abbrev main_v90 : Ref sig .tc := ⟨.hbm, 246, rfl⟩
abbrev main_v91 : Ref sig .tc := ⟨.hbm, 247, rfl⟩
abbrev main_v92 : Ref sig .tc := ⟨.hbm, 248, rfl⟩
abbrev main_v93 : Ref sig .tc := ⟨.hbm, 249, rfl⟩
abbrev main_v94 : Ref sig .tc := ⟨.hbm, 250, rfl⟩
abbrev main_v95 : Ref sig .tc := ⟨.hbm, 251, rfl⟩
abbrev main_v96 : Ref sig .tc := ⟨.hbm, 252, rfl⟩
abbrev main_v97 : Ref sig .tc := ⟨.hbm, 253, rfl⟩
abbrev main_v98 : Ref sig .tc := ⟨.hbm, 254, rfl⟩
abbrev main_v99 : Ref sig .tc := ⟨.hbm, 255, rfl⟩
abbrev main_v100 : Ref sig .tc := ⟨.hbm, 256, rfl⟩
abbrev main_v101 : Ref sig .tc := ⟨.hbm, 257, rfl⟩
abbrev main_v102 : Ref sig .tc := ⟨.hbm, 258, rfl⟩
abbrev main_v103 : Ref sig .tc := ⟨.hbm, 259, rfl⟩
abbrev main_v104 : Ref sig .tc := ⟨.hbm, 260, rfl⟩
abbrev main_v105 : Ref sig .tc := ⟨.hbm, 261, rfl⟩
abbrev main_v106 : Ref sig .tc := ⟨.hbm, 262, rfl⟩
abbrev main_v107 : Ref sig .tc := ⟨.hbm, 263, rfl⟩
abbrev main_v108 : Ref sig .tc := ⟨.hbm, 264, rfl⟩
abbrev main_v109 : Ref sig .tc := ⟨.hbm, 265, rfl⟩
abbrev main_v110 : Ref sig .tc := ⟨.hbm, 266, rfl⟩
abbrev main_v111 : Ref sig .tc := ⟨.hbm, 267, rfl⟩
abbrev main_v112 : Ref sig .tc := ⟨.hbm, 268, rfl⟩
abbrev main_v113 : Ref sig .tc := ⟨.hbm, 269, rfl⟩
abbrev main_v114 : Ref sig .tc := ⟨.hbm, 270, rfl⟩
abbrev main_v115 : Ref sig .tc := ⟨.hbm, 271, rfl⟩
abbrev main_v116 : Ref sig .tc := ⟨.hbm, 272, rfl⟩
abbrev main_v117 : Ref sig .tc := ⟨.hbm, 273, rfl⟩
abbrev main_v118 : Ref sig .tc := ⟨.hbm, 274, rfl⟩
abbrev main_v119 : Ref sig .tc := ⟨.hbm, 275, rfl⟩
abbrev main_v120 : Ref sig .tc := ⟨.hbm, 276, rfl⟩
abbrev main_v121 : Ref sig .tc := ⟨.hbm, 277, rfl⟩
abbrev main_v122 : Ref sig .tc := ⟨.hbm, 278, rfl⟩
abbrev main_v123 : Ref sig .tc := ⟨.hbm, 279, rfl⟩
abbrev main_v124 : Ref sig .tc := ⟨.hbm, 280, rfl⟩
abbrev main_v125 : Ref sig .tc := ⟨.hbm, 281, rfl⟩
abbrev main_v126 : Ref sig .tc := ⟨.hbm, 282, rfl⟩
abbrev main_v127 : Ref sig .tc := ⟨.hbm, 283, rfl⟩
abbrev main_v128 : Ref sig .tc := ⟨.hbm, 284, rfl⟩
abbrev main_v129 : Ref sig .tc := ⟨.hbm, 285, rfl⟩
abbrev main_v130 : Ref sig .tc := ⟨.hbm, 286, rfl⟩
abbrev main_v131 : Ref sig .tc := ⟨.hbm, 287, rfl⟩
abbrev main_v132 : Ref sig .tc := ⟨.hbm, 288, rfl⟩
abbrev main_v133 : Ref sig .tc := ⟨.hbm, 289, rfl⟩
abbrev main_v134 : Ref sig .tc := ⟨.hbm, 290, rfl⟩
abbrev main_v135 : Ref sig .tc := ⟨.hbm, 291, rfl⟩
abbrev main_v136 : Ref sig .tc := ⟨.hbm, 292, rfl⟩
abbrev main_v137 : Ref sig .tc := ⟨.hbm, 293, rfl⟩
abbrev main_v138 : Ref sig .tc := ⟨.hbm, 294, rfl⟩
abbrev main_v139 : Ref sig .tc := ⟨.hbm, 295, rfl⟩
abbrev main_v140 : Ref sig .tc := ⟨.hbm, 296, rfl⟩
abbrev main_v141 : Ref sig .tc := ⟨.hbm, 297, rfl⟩
abbrev main_v142 : Ref sig .tc := ⟨.hbm, 298, rfl⟩
abbrev main_v143 : Ref sig .tc := ⟨.hbm, 299, rfl⟩
abbrev main_v144 : Ref sig .tc := ⟨.hbm, 300, rfl⟩
abbrev main_v145 : Ref sig .tc := ⟨.hbm, 301, rfl⟩
abbrev main_v146 : Ref sig .tc := ⟨.hbm, 302, rfl⟩
abbrev main_v147 : Ref sig .tc := ⟨.hbm, 303, rfl⟩
abbrev main_v148 : Ref sig .tc := ⟨.hbm, 304, rfl⟩
abbrev main_v149 : Ref sig .tc := ⟨.hbm, 305, rfl⟩
abbrev main_v150 : Ref sig .tc := ⟨.hbm, 306, rfl⟩
abbrev main_v151 : Ref sig .tc := ⟨.hbm, 307, rfl⟩
abbrev main_v152 : Ref sig .tc := ⟨.hbm, 308, rfl⟩
abbrev main_v153 : Ref sig .tc := ⟨.hbm, 309, rfl⟩
abbrev main_v154 : Ref sig .tc := ⟨.hbm, 310, rfl⟩
abbrev main_v155 : Ref sig .tc := ⟨.hbm, 311, rfl⟩
abbrev main_v156 : Ref sig .tc := ⟨.hbm, 312, rfl⟩
abbrev main_v157 : Ref sig .tc := ⟨.hbm, 313, rfl⟩
abbrev main_v158 : Ref sig .tc := ⟨.hbm, 314, rfl⟩
abbrev main_v159 : Ref sig .tc := ⟨.hbm, 315, rfl⟩
abbrev main_v160 : Ref sig .tc := ⟨.hbm, 316, rfl⟩
abbrev main_v161 : Ref sig .tc := ⟨.hbm, 317, rfl⟩
abbrev main_v162 : Ref sig .tc := ⟨.hbm, 318, rfl⟩
abbrev main_v163 : Ref sig .tc := ⟨.hbm, 319, rfl⟩
abbrev main_v164 : Ref sig .tc := ⟨.hbm, 320, rfl⟩
abbrev main_v165 : Ref sig .tc := ⟨.hbm, 321, rfl⟩
abbrev main_v166 : Ref sig .tc := ⟨.hbm, 322, rfl⟩
abbrev main_v167 : Ref sig .tc := ⟨.hbm, 323, rfl⟩
abbrev main_v168 : Ref sig .tc := ⟨.hbm, 324, rfl⟩
abbrev main_v169 : Ref sig .tc := ⟨.hbm, 325, rfl⟩
abbrev main_v170 : Ref sig .tc := ⟨.hbm, 326, rfl⟩
abbrev main_v171 : Ref sig .tc := ⟨.hbm, 327, rfl⟩
abbrev main_v172 : Ref sig .tc := ⟨.hbm, 328, rfl⟩
abbrev main_v173 : Ref sig .tc := ⟨.hbm, 329, rfl⟩
abbrev main_v174 : Ref sig .tc := ⟨.hbm, 330, rfl⟩
abbrev main_v175 : Ref sig .tc := ⟨.hbm, 331, rfl⟩
abbrev main_v176 : Ref sig .tc := ⟨.hbm, 332, rfl⟩
abbrev main_v177 : Ref sig .tc := ⟨.hbm, 333, rfl⟩
abbrev main_v178 : Ref sig .tc := ⟨.hbm, 334, rfl⟩
abbrev main_v179 : Ref sig .tc := ⟨.hbm, 335, rfl⟩
abbrev main_v180 : Ref sig .tc := ⟨.hbm, 336, rfl⟩
abbrev main_v181 : Ref sig .tc := ⟨.hbm, 337, rfl⟩
abbrev main_v182 : Ref sig .tc := ⟨.hbm, 338, rfl⟩
abbrev main_v183 : Ref sig .tc := ⟨.hbm, 339, rfl⟩
abbrev main_v184 : Ref sig .tc := ⟨.hbm, 340, rfl⟩
abbrev main_v185 : Ref sig .tc := ⟨.hbm, 341, rfl⟩
abbrev main_v186 : Ref sig .tc := ⟨.hbm, 342, rfl⟩
abbrev main_v187 : Ref sig .tc := ⟨.hbm, 343, rfl⟩
abbrev main_v188 : Ref sig .tc := ⟨.hbm, 344, rfl⟩
abbrev main_v189 : Ref sig .tc := ⟨.hbm, 345, rfl⟩
abbrev main_v190 : Ref sig .tc := ⟨.hbm, 346, rfl⟩
abbrev main_v191 : Ref sig .tc := ⟨.hbm, 347, rfl⟩
abbrev main_v192 : Ref sig .tc := ⟨.hbm, 348, rfl⟩
abbrev main_v193 : Ref sig .tc := ⟨.hbm, 349, rfl⟩
abbrev main_v194 : Ref sig .tc := ⟨.hbm, 350, rfl⟩
abbrev main_v195 : Ref sig .tc := ⟨.hbm, 351, rfl⟩
abbrev main_v196 : Ref sig .tc := ⟨.hbm, 352, rfl⟩
abbrev main_v197 : Ref sig .tc := ⟨.hbm, 353, rfl⟩
abbrev main_v198 : Ref sig .tc := ⟨.hbm, 354, rfl⟩
abbrev main_v199 : Ref sig .tc := ⟨.hbm, 355, rfl⟩
abbrev main_v200 : Ref sig .tc := ⟨.hbm, 356, rfl⟩
abbrev main_v201 : Ref sig .tc := ⟨.hbm, 357, rfl⟩
abbrev main_v202 : Ref sig .tc := ⟨.hbm, 358, rfl⟩
abbrev main_v203 : Ref sig .tc := ⟨.hbm, 359, rfl⟩
abbrev main_v204 : Ref sig .tc := ⟨.hbm, 360, rfl⟩
abbrev main_v205 : Ref sig .tc := ⟨.hbm, 361, rfl⟩
abbrev main_v206 : Ref sig .tc := ⟨.hbm, 362, rfl⟩
abbrev main_v207 : Ref sig .tc := ⟨.hbm, 363, rfl⟩
abbrev main_v208 : Ref sig .tc := ⟨.hbm, 364, rfl⟩
abbrev main_v209 : Ref sig .tc := ⟨.hbm, 365, rfl⟩
abbrev main_v210 : Ref sig .tc := ⟨.hbm, 366, rfl⟩
abbrev main_v211 : Ref sig .tc := ⟨.hbm, 367, rfl⟩
abbrev main_v212 : Ref sig .tc := ⟨.hbm, 368, rfl⟩
abbrev main_v213 : Ref sig .tc := ⟨.hbm, 369, rfl⟩
abbrev main_v214 : Ref sig .tc := ⟨.hbm, 370, rfl⟩
abbrev main_v215 : Ref sig .tc := ⟨.hbm, 371, rfl⟩
abbrev main_v216 : Ref sig .tc := ⟨.hbm, 372, rfl⟩
abbrev main_v217 : Ref sig .tc := ⟨.hbm, 373, rfl⟩
abbrev main_v218 : Ref sig .tc := ⟨.hbm, 374, rfl⟩
abbrev main_v219 : Ref sig .tc := ⟨.hbm, 375, rfl⟩
abbrev main_v220 : Ref sig .tc := ⟨.hbm, 376, rfl⟩
abbrev main_v221 : Ref sig .tc := ⟨.hbm, 377, rfl⟩
abbrev main_v222 : Ref sig .tc := ⟨.hbm, 378, rfl⟩
abbrev main_v223 : Ref sig .tc := ⟨.hbm, 379, rfl⟩
abbrev main_v224 : Ref sig .tc := ⟨.hbm, 380, rfl⟩
abbrev main_v225 : Ref sig .tc := ⟨.hbm, 381, rfl⟩
abbrev main_v226 : Ref sig .tc := ⟨.hbm, 382, rfl⟩
abbrev main_v227 : Ref sig .tc := ⟨.hbm, 383, rfl⟩
abbrev main_v228 : Ref sig .tc := ⟨.hbm, 384, rfl⟩
abbrev main_v229 : Ref sig .tc := ⟨.hbm, 385, rfl⟩
abbrev main_v230 : Ref sig .tc := ⟨.hbm, 386, rfl⟩
abbrev main_v231 : Ref sig .tc := ⟨.hbm, 387, rfl⟩
abbrev main_v232 : Ref sig .tc := ⟨.hbm, 388, rfl⟩
abbrev main_v233 : Ref sig .tc := ⟨.hbm, 389, rfl⟩
abbrev main_v234 : Ref sig .tc := ⟨.hbm, 390, rfl⟩
abbrev main_c_9 : Ref sig .tc := ⟨.hbm, 391, rfl⟩
abbrev main_call4_v0 : Ref sig .tc := ⟨.hbm, 392, rfl⟩
abbrev main_call4_v1 : Ref sig .tc := ⟨.hbm, 393, rfl⟩
abbrev main_call4_v2 : Ref sig .tc := ⟨.hbm, 394, rfl⟩
abbrev main_call4_v3 : Ref sig .tc := ⟨.hbm, 395, rfl⟩
abbrev main_call4_v4 : Ref sig .tc := ⟨.hbm, 396, rfl⟩
abbrev main_call4_v5 : Ref sig .tc := ⟨.hbm, 397, rfl⟩
abbrev main_call4_v6 : Ref sig .tc := ⟨.hbm, 398, rfl⟩
abbrev main_v235 : Ref sig .tc := ⟨.hbm, 399, rfl⟩
abbrev main_v236 : Ref sig .tc := ⟨.hbm, 400, rfl⟩
abbrev main_v237 : Ref sig .tc := ⟨.hbm, 401, rfl⟩
abbrev main_v238 : Ref sig .tc := ⟨.hbm, 402, rfl⟩
abbrev main_v239 : Ref sig .tc := ⟨.hbm, 403, rfl⟩
abbrev main_v240 : Ref sig .tc := ⟨.hbm, 404, rfl⟩
abbrev main_cst_10 : Ref sig .tc := ⟨.hbm, 405, rfl⟩
abbrev main_v241 : Ref sig .tc := ⟨.hbm, 406, rfl⟩
abbrev main_v242 : Ref sig .tc := ⟨.hbm, 407, rfl⟩
abbrev main_v243 : Ref sig .tc := ⟨.hbm, 408, rfl⟩
abbrev main_v244 : Ref sig .tc := ⟨.hbm, 409, rfl⟩
abbrev main_v245 : Ref sig .tc := ⟨.hbm, 410, rfl⟩
abbrev main_v246 : Ref sig .tc := ⟨.hbm, 411, rfl⟩
abbrev main_v247 : Ref sig .tc := ⟨.hbm, 412, rfl⟩
abbrev main_v248 : Ref sig .tc := ⟨.hbm, 413, rfl⟩
abbrev main_v249 : Ref sig .tc := ⟨.hbm, 414, rfl⟩
abbrev main_v250 : Ref sig .tc := ⟨.hbm, 415, rfl⟩
abbrev main_v251 : Ref sig .tc := ⟨.hbm, 416, rfl⟩
abbrev main_v252 : Ref sig .tc := ⟨.hbm, 417, rfl⟩
abbrev main_v253 : Ref sig .tc := ⟨.hbm, 418, rfl⟩
abbrev main_v254 : Ref sig .tc := ⟨.hbm, 419, rfl⟩
abbrev main_v255 : Ref sig .tc := ⟨.hbm, 420, rfl⟩
abbrev main_v256 : Ref sig .tc := ⟨.hbm, 421, rfl⟩
abbrev main_v257 : Ref sig .tc := ⟨.hbm, 422, rfl⟩
abbrev main_v258 : Ref sig .tc := ⟨.hbm, 423, rfl⟩
abbrev main_v259 : Ref sig .tc := ⟨.hbm, 424, rfl⟩
abbrev main_v260 : Ref sig .tc := ⟨.hbm, 425, rfl⟩
abbrev main_v261 : Ref sig .tc := ⟨.hbm, 426, rfl⟩
abbrev main_v262 : Ref sig .tc := ⟨.hbm, 427, rfl⟩
abbrev main_v263 : Ref sig .tc := ⟨.hbm, 428, rfl⟩
abbrev main_v264 : Ref sig .tc := ⟨.hbm, 429, rfl⟩
abbrev main_v265 : Ref sig .tc := ⟨.hbm, 430, rfl⟩
abbrev main_v266 : Ref sig .tc := ⟨.hbm, 431, rfl⟩
abbrev main_v267 : Ref sig .tc := ⟨.hbm, 432, rfl⟩
abbrev main_v268 : Ref sig .tc := ⟨.hbm, 433, rfl⟩
abbrev main_v269 : Ref sig .tc := ⟨.hbm, 434, rfl⟩
abbrev main_v270 : Ref sig .tc := ⟨.hbm, 435, rfl⟩
abbrev main_v271 : Ref sig .tc := ⟨.hbm, 436, rfl⟩
abbrev main_v272 : Ref sig .tc := ⟨.hbm, 437, rfl⟩
abbrev main_v273 : Ref sig .tc := ⟨.hbm, 438, rfl⟩
abbrev main_v274 : Ref sig .tc := ⟨.hbm, 439, rfl⟩
abbrev main_v275 : Ref sig .tc := ⟨.hbm, 440, rfl⟩
abbrev main_v276 : Ref sig .tc := ⟨.hbm, 441, rfl⟩
abbrev main_v277 : Ref sig .tc := ⟨.hbm, 442, rfl⟩
abbrev main_v278 : Ref sig .tc := ⟨.hbm, 443, rfl⟩
abbrev main_v279 : Ref sig .tc := ⟨.hbm, 444, rfl⟩
abbrev main_v280 : Ref sig .tc := ⟨.hbm, 445, rfl⟩
abbrev main_v281 : Ref sig .tc := ⟨.hbm, 446, rfl⟩
abbrev main_v282 : Ref sig .tc := ⟨.hbm, 447, rfl⟩
abbrev main_v283 : Ref sig .tc := ⟨.hbm, 448, rfl⟩
abbrev main_v284 : Ref sig .tc := ⟨.hbm, 449, rfl⟩
abbrev main_v285 : Ref sig .tc := ⟨.hbm, 450, rfl⟩
abbrev main_v286 : Ref sig .tc := ⟨.hbm, 451, rfl⟩
abbrev main_v287 : Ref sig .tc := ⟨.hbm, 452, rfl⟩
abbrev main_v288 : Ref sig .tc := ⟨.hbm, 453, rfl⟩
abbrev main_v289 : Ref sig .tc := ⟨.hbm, 454, rfl⟩
abbrev main_v290 : Ref sig .tc := ⟨.hbm, 455, rfl⟩
abbrev main_v291 : Ref sig .tc := ⟨.hbm, 456, rfl⟩
abbrev main_v292 : Ref sig .tc := ⟨.hbm, 457, rfl⟩
abbrev main_v293 : Ref sig .tc := ⟨.hbm, 458, rfl⟩
abbrev main_v294 : Ref sig .tc := ⟨.hbm, 459, rfl⟩
abbrev main_v295 : Ref sig .tc := ⟨.hbm, 460, rfl⟩
abbrev main_v296 : Ref sig .tc := ⟨.hbm, 461, rfl⟩
abbrev main_v297 : Ref sig .tc := ⟨.hbm, 462, rfl⟩
abbrev main_v298 : Ref sig .tc := ⟨.hbm, 463, rfl⟩
abbrev main_v299 : Ref sig .tc := ⟨.hbm, 464, rfl⟩
abbrev main_v300 : Ref sig .tc := ⟨.hbm, 465, rfl⟩
abbrev main_v301 : Ref sig .tc := ⟨.hbm, 466, rfl⟩
abbrev main_v302 : Ref sig .tc := ⟨.hbm, 467, rfl⟩
abbrev main_v303 : Ref sig .tc := ⟨.hbm, 468, rfl⟩
abbrev main_v304 : Ref sig .tc := ⟨.hbm, 469, rfl⟩
abbrev main_v305 : Ref sig .tc := ⟨.hbm, 470, rfl⟩
abbrev main_v306 : Ref sig .tc := ⟨.hbm, 471, rfl⟩
abbrev main_v307 : Ref sig .tc := ⟨.hbm, 472, rfl⟩
abbrev main_v308 : Ref sig .tc := ⟨.hbm, 473, rfl⟩
abbrev main_v309 : Ref sig .tc := ⟨.hbm, 474, rfl⟩
abbrev main_v310 : Ref sig .tc := ⟨.hbm, 475, rfl⟩
abbrev main_v311 : Ref sig .tc := ⟨.hbm, 476, rfl⟩
abbrev main_v312 : Ref sig .tc := ⟨.hbm, 477, rfl⟩
abbrev main_v313 : Ref sig .tc := ⟨.hbm, 478, rfl⟩
abbrev main_v314 : Ref sig .tc := ⟨.hbm, 479, rfl⟩
abbrev main_v315 : Ref sig .tc := ⟨.hbm, 480, rfl⟩
abbrev main_v316 : Ref sig .tc := ⟨.hbm, 481, rfl⟩
abbrev main_v317 : Ref sig .tc := ⟨.hbm, 482, rfl⟩
abbrev main_v318 : Ref sig .tc := ⟨.hbm, 483, rfl⟩
abbrev main_v319 : Ref sig .tc := ⟨.hbm, 484, rfl⟩
abbrev main_v320 : Ref sig .tc := ⟨.hbm, 485, rfl⟩
abbrev main_v321 : Ref sig .tc := ⟨.hbm, 486, rfl⟩
abbrev main_v322 : Ref sig .tc := ⟨.hbm, 487, rfl⟩
abbrev main_v323 : Ref sig .tc := ⟨.hbm, 488, rfl⟩
abbrev main_v324 : Ref sig .tc := ⟨.hbm, 489, rfl⟩
abbrev main_v325 : Ref sig .tc := ⟨.hbm, 490, rfl⟩
abbrev main_v326 : Ref sig .tc := ⟨.hbm, 491, rfl⟩
abbrev main_v327 : Ref sig .tc := ⟨.hbm, 492, rfl⟩
abbrev main_v328 : Ref sig .tc := ⟨.hbm, 493, rfl⟩
abbrev main_v329 : Ref sig .tc := ⟨.hbm, 494, rfl⟩
abbrev main_v330 : Ref sig .tc := ⟨.hbm, 495, rfl⟩
abbrev main_v331 : Ref sig .tc := ⟨.hbm, 496, rfl⟩
abbrev main_v332 : Ref sig .tc := ⟨.hbm, 497, rfl⟩
abbrev main_v333 : Ref sig .tc := ⟨.hbm, 498, rfl⟩
abbrev main_v334 : Ref sig .tc := ⟨.hbm, 499, rfl⟩
abbrev main_v335 : Ref sig .tc := ⟨.hbm, 500, rfl⟩
abbrev main_v336 : Ref sig .tc := ⟨.hbm, 501, rfl⟩
abbrev main_v337 : Ref sig .tc := ⟨.hbm, 502, rfl⟩
abbrev main_v338 : Ref sig .tc := ⟨.hbm, 503, rfl⟩
abbrev main_v339 : Ref sig .tc := ⟨.hbm, 504, rfl⟩
abbrev main_v340 : Ref sig .tc := ⟨.hbm, 505, rfl⟩
abbrev main_v341 : Ref sig .tc := ⟨.hbm, 506, rfl⟩
abbrev main_v342 : Ref sig .tc := ⟨.hbm, 507, rfl⟩
abbrev main_v343 : Ref sig .tc := ⟨.hbm, 508, rfl⟩
abbrev main_v344 : Ref sig .tc := ⟨.hbm, 509, rfl⟩
abbrev main_v345 : Ref sig .tc := ⟨.hbm, 510, rfl⟩
abbrev main_v346 : Ref sig .tc := ⟨.hbm, 511, rfl⟩
abbrev main_v347 : Ref sig .tc := ⟨.hbm, 512, rfl⟩
abbrev main_v348 : Ref sig .tc := ⟨.hbm, 513, rfl⟩
abbrev main_v349 : Ref sig .tc := ⟨.hbm, 514, rfl⟩
abbrev main_v350 : Ref sig .tc := ⟨.hbm, 515, rfl⟩
abbrev main_v351 : Ref sig .tc := ⟨.hbm, 516, rfl⟩
abbrev main_v352 : Ref sig .tc := ⟨.hbm, 517, rfl⟩
abbrev main_v353 : Ref sig .tc := ⟨.hbm, 518, rfl⟩
abbrev main_v354 : Ref sig .tc := ⟨.hbm, 519, rfl⟩
abbrev main_v355 : Ref sig .tc := ⟨.hbm, 520, rfl⟩
abbrev main_v356 : Ref sig .tc := ⟨.hbm, 521, rfl⟩
abbrev main_v357 : Ref sig .tc := ⟨.hbm, 522, rfl⟩
abbrev main_v358 : Ref sig .tc := ⟨.hbm, 523, rfl⟩
abbrev main_v359 : Ref sig .tc := ⟨.hbm, 524, rfl⟩
abbrev main_v360 : Ref sig .tc := ⟨.hbm, 525, rfl⟩
abbrev main_v361 : Ref sig .tc := ⟨.hbm, 526, rfl⟩
abbrev main_v362 : Ref sig .tc := ⟨.hbm, 527, rfl⟩
abbrev main_v363 : Ref sig .tc := ⟨.hbm, 528, rfl⟩
abbrev main_v364 : Ref sig .tc := ⟨.hbm, 529, rfl⟩
abbrev main_v365 : Ref sig .tc := ⟨.hbm, 530, rfl⟩
abbrev main_v366 : Ref sig .tc := ⟨.hbm, 531, rfl⟩
abbrev main_v367 : Ref sig .tc := ⟨.hbm, 532, rfl⟩
abbrev main_v368 : Ref sig .tc := ⟨.hbm, 533, rfl⟩
abbrev main_v369 : Ref sig .tc := ⟨.hbm, 534, rfl⟩
abbrev main_v370 : Ref sig .tc := ⟨.hbm, 535, rfl⟩
abbrev main_v371 : Ref sig .tc := ⟨.hbm, 536, rfl⟩
abbrev main_v372 : Ref sig .tc := ⟨.hbm, 537, rfl⟩
abbrev main_v373 : Ref sig .tc := ⟨.hbm, 538, rfl⟩
abbrev main_v374 : Ref sig .tc := ⟨.hbm, 539, rfl⟩
abbrev main_v375 : Ref sig .tc := ⟨.hbm, 540, rfl⟩
abbrev main_v376 : Ref sig .tc := ⟨.hbm, 541, rfl⟩
abbrev main_v377 : Ref sig .tc := ⟨.hbm, 542, rfl⟩
abbrev main_v378 : Ref sig .tc := ⟨.hbm, 543, rfl⟩
abbrev main_v379 : Ref sig .tc := ⟨.hbm, 544, rfl⟩
abbrev main_v380 : Ref sig .tc := ⟨.hbm, 545, rfl⟩
abbrev main_v381 : Ref sig .tc := ⟨.hbm, 546, rfl⟩
abbrev main_v382 : Ref sig .tc := ⟨.hbm, 547, rfl⟩
abbrev main_v383 : Ref sig .tc := ⟨.hbm, 548, rfl⟩
abbrev main_v384 : Ref sig .tc := ⟨.hbm, 549, rfl⟩
abbrev main_v385 : Ref sig .tc := ⟨.hbm, 550, rfl⟩
abbrev main_v386 : Ref sig .tc := ⟨.hbm, 551, rfl⟩
abbrev main_v387 : Ref sig .tc := ⟨.hbm, 552, rfl⟩
abbrev main_v388 : Ref sig .tc := ⟨.hbm, 553, rfl⟩
abbrev main_v389 : Ref sig .tc := ⟨.hbm, 554, rfl⟩
abbrev main_v390 : Ref sig .tc := ⟨.hbm, 555, rfl⟩
abbrev main_v391 : Ref sig .tc := ⟨.hbm, 556, rfl⟩
abbrev main_v392 : Ref sig .tc := ⟨.hbm, 557, rfl⟩
abbrev main_v393 : Ref sig .tc := ⟨.hbm, 558, rfl⟩
abbrev main_v394 : Ref sig .tc := ⟨.hbm, 559, rfl⟩
abbrev main_v395 : Ref sig .tc := ⟨.hbm, 560, rfl⟩
abbrev main_v396 : Ref sig .tc := ⟨.hbm, 561, rfl⟩
abbrev main_v397 : Ref sig .tc := ⟨.hbm, 562, rfl⟩
abbrev main_v398 : Ref sig .tc := ⟨.hbm, 563, rfl⟩
abbrev main_v399 : Ref sig .tc := ⟨.hbm, 564, rfl⟩
abbrev main_v400 : Ref sig .tc := ⟨.hbm, 565, rfl⟩
abbrev main_v401 : Ref sig .tc := ⟨.hbm, 566, rfl⟩
abbrev main_v402 : Ref sig .tc := ⟨.hbm, 567, rfl⟩
abbrev main_v403 : Ref sig .tc := ⟨.hbm, 568, rfl⟩
abbrev main_v404 : Ref sig .tc := ⟨.hbm, 569, rfl⟩
abbrev main_v405 : Ref sig .tc := ⟨.hbm, 570, rfl⟩
abbrev main_v406 : Ref sig .tc := ⟨.hbm, 571, rfl⟩
abbrev main_v407 : Ref sig .tc := ⟨.hbm, 572, rfl⟩
abbrev main_v408 : Ref sig .tc := ⟨.hbm, 573, rfl⟩
abbrev main_v409 : Ref sig .tc := ⟨.hbm, 574, rfl⟩
abbrev main_v410 : Ref sig .tc := ⟨.hbm, 575, rfl⟩
abbrev main_v411 : Ref sig .tc := ⟨.hbm, 576, rfl⟩
abbrev main_v412 : Ref sig .tc := ⟨.hbm, 577, rfl⟩
abbrev main_v413 : Ref sig .tc := ⟨.hbm, 578, rfl⟩
abbrev main_v414 : Ref sig .tc := ⟨.hbm, 579, rfl⟩
abbrev main_v415 : Ref sig .tc := ⟨.hbm, 580, rfl⟩
abbrev main_v416 : Ref sig .tc := ⟨.hbm, 581, rfl⟩
abbrev main_v417 : Ref sig .tc := ⟨.hbm, 582, rfl⟩
abbrev main_v418 : Ref sig .tc := ⟨.hbm, 583, rfl⟩
abbrev main_v419 : Ref sig .tc := ⟨.hbm, 584, rfl⟩
abbrev main_v420 : Ref sig .tc := ⟨.hbm, 585, rfl⟩
abbrev main_v421 : Ref sig .tc := ⟨.hbm, 586, rfl⟩
abbrev main_v422 : Ref sig .tc := ⟨.hbm, 587, rfl⟩
abbrev main_v423 : Ref sig .tc := ⟨.hbm, 588, rfl⟩
abbrev main_v424 : Ref sig .tc := ⟨.hbm, 589, rfl⟩
abbrev main_v425 : Ref sig .tc := ⟨.hbm, 590, rfl⟩
abbrev main_v426 : Ref sig .tc := ⟨.hbm, 591, rfl⟩
abbrev main_v427 : Ref sig .tc := ⟨.hbm, 592, rfl⟩
abbrev main_v428 : Ref sig .tc := ⟨.hbm, 593, rfl⟩
abbrev main_v429 : Ref sig .tc := ⟨.hbm, 594, rfl⟩
abbrev main_v430 : Ref sig .tc := ⟨.hbm, 595, rfl⟩
abbrev main_v431 : Ref sig .tc := ⟨.hbm, 596, rfl⟩
abbrev main_v432 : Ref sig .tc := ⟨.hbm, 597, rfl⟩
abbrev main_v433 : Ref sig .tc := ⟨.hbm, 598, rfl⟩
abbrev main_v434 : Ref sig .tc := ⟨.hbm, 599, rfl⟩
abbrev main_v435 : Ref sig .tc := ⟨.hbm, 600, rfl⟩
abbrev main_cst_11 : Ref sig .tc := ⟨.hbm, 601, rfl⟩
abbrev main_v436 : Ref sig .tc := ⟨.hbm, 602, rfl⟩
abbrev main_v437 : Ref sig .tc := ⟨.hbm, 603, rfl⟩
abbrev main_v438 : Ref sig .tc := ⟨.hbm, 604, rfl⟩
abbrev main_cst_12 : Ref sig .tc := ⟨.hbm, 605, rfl⟩
abbrev main_v439 : Ref sig .tc := ⟨.hbm, 606, rfl⟩
abbrev main_v440 : Ref sig .tc := ⟨.hbm, 607, rfl⟩
abbrev main_v441 : Ref sig .tc := ⟨.hbm, 608, rfl⟩
abbrev main_v442 : Ref sig .tc := ⟨.hbm, 609, rfl⟩
abbrev main_v443 : Ref sig .tc := ⟨.hbm, 610, rfl⟩
abbrev main_v444 : Ref sig .tc := ⟨.hbm, 611, rfl⟩
abbrev main_v445 : Ref sig .tc := ⟨.hbm, 612, rfl⟩
abbrev main_v446 : Ref sig .tc := ⟨.hbm, 613, rfl⟩
abbrev main_cst_13 : Ref sig .tc := ⟨.hbm, 614, rfl⟩
abbrev main_v447 : Ref sig .tc := ⟨.hbm, 615, rfl⟩
abbrev main_v448 : Ref sig .tc := ⟨.hbm, 616, rfl⟩
abbrev main_v449 : Ref sig .tc := ⟨.hbm, 617, rfl⟩
abbrev main_cst_14 : Ref sig .tc := ⟨.hbm, 618, rfl⟩
abbrev main_v450 : Ref sig .tc := ⟨.hbm, 619, rfl⟩
abbrev main_v451 : Ref sig .tc := ⟨.hbm, 620, rfl⟩
abbrev main_v452 : Ref sig .tc := ⟨.hbm, 621, rfl⟩
abbrev main_v453 : Ref sig .tc := ⟨.hbm, 622, rfl⟩
abbrev main_v454 : Ref sig .tc := ⟨.hbm, 623, rfl⟩
abbrev main_c_15 : Ref sig .tc := ⟨.hbm, 624, rfl⟩
abbrev main_call5_v0 : Ref sig .tc := ⟨.hbm, 625, rfl⟩
abbrev main_call5_v1 : Ref sig .tc := ⟨.hbm, 626, rfl⟩
abbrev main_call5_v2 : Ref sig .tc := ⟨.hbm, 627, rfl⟩
abbrev main_v455 : Ref sig .tc := ⟨.hbm, 628, rfl⟩
abbrev main_c_16 : Ref sig .tc := ⟨.hbm, 629, rfl⟩
abbrev main_v456 : Ref sig .tc := ⟨.hbm, 630, rfl⟩
abbrev main_cst_17 : Ref sig .tc := ⟨.hbm, 631, rfl⟩
abbrev main_v457 : Ref sig .tc := ⟨.hbm, 632, rfl⟩
abbrev main_v458 : Ref sig .tc := ⟨.hbm, 633, rfl⟩
abbrev main_v459 : Ref sig .tc := ⟨.hbm, 634, rfl⟩
abbrev main_v460 : Ref sig .tc := ⟨.hbm, 635, rfl⟩
abbrev main_v461 : Ref sig .tc := ⟨.hbm, 636, rfl⟩
abbrev main_c_18 : Ref sig .tc := ⟨.hbm, 637, rfl⟩
abbrev main_call6_v0 : Ref sig .tc := ⟨.hbm, 638, rfl⟩
abbrev main_call6_v1 : Ref sig .tc := ⟨.hbm, 639, rfl⟩
abbrev main_v462 : Ref sig .tc := ⟨.hbm, 640, rfl⟩
abbrev main_c_19 : Ref sig .tc := ⟨.hbm, 641, rfl⟩
abbrev main_v463 : Ref sig .tc := ⟨.hbm, 642, rfl⟩
abbrev main_c_20 : Ref sig .tc := ⟨.hbm, 643, rfl⟩
abbrev main_v464 : Ref sig .tc := ⟨.hbm, 644, rfl⟩
abbrev main_c_21 : Ref sig .tc := ⟨.hbm, 645, rfl⟩
abbrev main_v465 : Ref sig .tc := ⟨.hbm, 646, rfl⟩
abbrev main_v466 : Ref sig .tc := ⟨.hbm, 647, rfl⟩
abbrev main_v467 : Ref sig .tc := ⟨.hbm, 648, rfl⟩
abbrev main_v468 : Ref sig .tc := ⟨.hbm, 649, rfl⟩
abbrev main_c_22 : Ref sig .tc := ⟨.hbm, 650, rfl⟩
abbrev main_v469 : Ref sig .tc := ⟨.hbm, 651, rfl⟩
abbrev main_c_23 : Ref sig .tc := ⟨.hbm, 652, rfl⟩
abbrev main_v470 : Ref sig .tc := ⟨.hbm, 653, rfl⟩
abbrev main_v471 : Ref sig .tc := ⟨.hbm, 654, rfl⟩
abbrev main_c_24 : Ref sig .tc := ⟨.hbm, 655, rfl⟩
abbrev main_c_25 : Ref sig .tc := ⟨.hbm, 656, rfl⟩
abbrev main_v472 : Ref sig .tc := ⟨.hbm, 657, rfl⟩
abbrev main_c_26 : Ref sig .tc := ⟨.hbm, 658, rfl⟩
abbrev main_c_27 : Ref sig .tc := ⟨.hbm, 659, rfl⟩
abbrev main_v473 : Ref sig .tc := ⟨.hbm, 660, rfl⟩
abbrev main_c_28 : Ref sig .tc := ⟨.hbm, 661, rfl⟩
abbrev main_v474 : Ref sig .tc := ⟨.hbm, 662, rfl⟩
abbrev main_v475 : Ref sig .tc := ⟨.hbm, 663, rfl⟩
abbrev main_v476 : Ref sig .tc := ⟨.hbm, 664, rfl⟩
abbrev main_v477 : Ref sig .tc := ⟨.hbm, 665, rfl⟩
abbrev main_c_29 : Ref sig .tc := ⟨.hbm, 666, rfl⟩
abbrev main_v478 : Ref sig .tc := ⟨.hbm, 667, rfl⟩
abbrev main_c_30 : Ref sig .tc := ⟨.hbm, 668, rfl⟩
abbrev main_v479 : Ref sig .tc := ⟨.hbm, 669, rfl⟩
abbrev main_v480 : Ref sig .tc := ⟨.hbm, 670, rfl⟩
abbrev main_v481 : Ref sig .tc := ⟨.hbm, 671, rfl⟩
abbrev main_v482 : Ref sig .tc := ⟨.hbm, 672, rfl⟩
abbrev main_c_31 : Ref sig .tc := ⟨.hbm, 673, rfl⟩
abbrev main_v483 : Ref sig .tc := ⟨.hbm, 674, rfl⟩
abbrev main_c_32 : Ref sig .tc := ⟨.hbm, 675, rfl⟩
abbrev main_v484 : Ref sig .tc := ⟨.hbm, 676, rfl⟩
abbrev main_v485 : Ref sig .tc := ⟨.hbm, 677, rfl⟩
abbrev main_c_33 : Ref sig .tc := ⟨.hbm, 678, rfl⟩
abbrev main_c_34 : Ref sig .tc := ⟨.hbm, 679, rfl⟩
abbrev main_v486 : Ref sig .tc := ⟨.hbm, 680, rfl⟩
abbrev main_c_35 : Ref sig .tc := ⟨.hbm, 681, rfl⟩
abbrev main_c_36 : Ref sig .tc := ⟨.hbm, 682, rfl⟩
abbrev main_v487 : Ref sig .tc := ⟨.hbm, 683, rfl⟩
abbrev main_c_37 : Ref sig .tc := ⟨.hbm, 684, rfl⟩
abbrev main_v488 : Ref sig .tc := ⟨.hbm, 685, rfl⟩
abbrev main_v489 : Ref sig .tc := ⟨.hbm, 686, rfl⟩
abbrev main_v490 : Ref sig .tc := ⟨.hbm, 687, rfl⟩
abbrev main_v491 : Ref sig .tc := ⟨.hbm, 688, rfl⟩
abbrev main_v492 : Ref sig .tc := ⟨.hbm, 689, rfl⟩
abbrev main_cst_38 : Ref sig .tc := ⟨.hbm, 690, rfl⟩
abbrev main_v493 : Ref sig .tc := ⟨.hbm, 691, rfl⟩
abbrev main_v494 : Ref sig .tc := ⟨.hbm, 692, rfl⟩
abbrev main_v495 : Ref sig .tc := ⟨.hbm, 693, rfl⟩
abbrev main_cst_39 : Ref sig .tc := ⟨.hbm, 694, rfl⟩
abbrev main_v496 : Ref sig .tc := ⟨.hbm, 695, rfl⟩
abbrev main_v497 : Ref sig .tc := ⟨.hbm, 696, rfl⟩
abbrev main_v498 : Ref sig .tc := ⟨.hbm, 697, rfl⟩
abbrev main_v499 : Ref sig .tc := ⟨.hbm, 698, rfl⟩
abbrev main_v500 : Ref sig .tc := ⟨.hbm, 699, rfl⟩
abbrev main_v501 : Ref sig .tc := ⟨.hbm, 700, rfl⟩
abbrev main_v502 : Ref sig .tc := ⟨.hbm, 701, rfl⟩
abbrev main_cst_40 : Ref sig .tc := ⟨.hbm, 702, rfl⟩
abbrev main_v503 : Ref sig .tc := ⟨.hbm, 703, rfl⟩
abbrev main_v504 : Ref sig .tc := ⟨.hbm, 704, rfl⟩
abbrev main_v505 : Ref sig .tc := ⟨.hbm, 705, rfl⟩
abbrev main_v506 : Ref sig .tc := ⟨.hbm, 706, rfl⟩
abbrev main_cst_41 : Ref sig .tc := ⟨.hbm, 707, rfl⟩
abbrev main_v507 : Ref sig .tc := ⟨.hbm, 708, rfl⟩
abbrev main_v508 : Ref sig .tc := ⟨.hbm, 709, rfl⟩
abbrev main_v509 : Ref sig .tc := ⟨.hbm, 710, rfl⟩
abbrev main_v510 : Ref sig .tc := ⟨.hbm, 711, rfl⟩
abbrev main_v511 : Ref sig .tc := ⟨.hbm, 712, rfl⟩
abbrev main_c_42 : Ref sig .tc := ⟨.hbm, 713, rfl⟩
abbrev main_call7_v0 : Ref sig .tc := ⟨.hbm, 714, rfl⟩
abbrev main_call7_v1 : Ref sig .tc := ⟨.hbm, 715, rfl⟩
abbrev main_v512 : Ref sig .tc := ⟨.hbm, 716, rfl⟩
abbrev main_c_43 : Ref sig .tc := ⟨.hbm, 717, rfl⟩
abbrev main_v513 : Ref sig .tc := ⟨.hbm, 718, rfl⟩
abbrev main_v514 : Ref sig .tc := ⟨.hbm, 719, rfl⟩
abbrev main_v515 : Ref sig .tc := ⟨.hbm, 720, rfl⟩
abbrev main_v516 : Ref sig .tc := ⟨.hbm, 721, rfl⟩
abbrev main_cst_44 : Ref sig .tc := ⟨.hbm, 722, rfl⟩
abbrev main_call8_v0 : Ref sig .tc := ⟨.hbm, 723, rfl⟩
abbrev main_call8_v1 : Ref sig .tc := ⟨.hbm, 724, rfl⟩
abbrev main_v517 : Ref sig .tc := ⟨.hbm, 725, rfl⟩
abbrev main_cst_45 : Ref sig .tc := ⟨.hbm, 726, rfl⟩
abbrev main_v518 : Ref sig .tc := ⟨.hbm, 727, rfl⟩
abbrev main_v519 : Ref sig .tc := ⟨.hbm, 728, rfl⟩
abbrev main_v520 : Ref sig .tc := ⟨.hbm, 729, rfl⟩
abbrev main_v521 : Ref sig .tc := ⟨.hbm, 730, rfl⟩
abbrev main_v522 : Ref sig .tc := ⟨.hbm, 731, rfl⟩
abbrev main_c_46 : Ref sig .tc := ⟨.hbm, 732, rfl⟩
abbrev main_call9_v0 : Ref sig .tc := ⟨.hbm, 733, rfl⟩
abbrev main_call9_v1 : Ref sig .tc := ⟨.hbm, 734, rfl⟩
abbrev main_v523 : Ref sig .tc := ⟨.hbm, 735, rfl⟩
abbrev main_c_47 : Ref sig .tc := ⟨.hbm, 736, rfl⟩
abbrev main_v524 : Ref sig .tc := ⟨.hbm, 737, rfl⟩
abbrev main_v525 : Ref sig .tc := ⟨.hbm, 738, rfl⟩
abbrev main_c_48 : Ref sig .tc := ⟨.hbm, 739, rfl⟩
abbrev main_v526 : Ref sig .tc := ⟨.hbm, 740, rfl⟩
abbrev main_c_49 : Ref sig .tc := ⟨.hbm, 741, rfl⟩
abbrev main_v527 : Ref sig .tc := ⟨.hbm, 742, rfl⟩
abbrev main_v528 : Ref sig .tc := ⟨.hbm, 743, rfl⟩
abbrev main_c_50 : Ref sig .tc := ⟨.hbm, 744, rfl⟩
abbrev main_c_51 : Ref sig .tc := ⟨.hbm, 745, rfl⟩
abbrev main_v529 : Ref sig .tc := ⟨.hbm, 746, rfl⟩
abbrev main_c_52 : Ref sig .tc := ⟨.hbm, 747, rfl⟩
abbrev main_c_53 : Ref sig .tc := ⟨.hbm, 748, rfl⟩
abbrev main_v530 : Ref sig .tc := ⟨.hbm, 749, rfl⟩
abbrev main_c_54 : Ref sig .tc := ⟨.hbm, 750, rfl⟩
abbrev main_v531 : Ref sig .tc := ⟨.hbm, 751, rfl⟩
abbrev main_v532 : Ref sig .tc := ⟨.hbm, 752, rfl⟩
abbrev main_v533 : Ref sig .tc := ⟨.hbm, 753, rfl⟩
abbrev main_v534 : Ref sig .tc := ⟨.hbm, 754, rfl⟩
abbrev main_v535 : Ref sig .tc := ⟨.hbm, 755, rfl⟩
abbrev main_cst_55 : Ref sig .tc := ⟨.hbm, 756, rfl⟩
abbrev main_v536 : Ref sig .tc := ⟨.hbm, 757, rfl⟩
abbrev main_v537 : Ref sig .tc := ⟨.hbm, 758, rfl⟩
abbrev main_v538 : Ref sig .tc := ⟨.hbm, 759, rfl⟩
abbrev main_v539 : Ref sig .tc := ⟨.hbm, 760, rfl⟩
abbrev main_v540 : Ref sig .tc := ⟨.hbm, 761, rfl⟩
abbrev main_cst_56 : Ref sig .tc := ⟨.hbm, 762, rfl⟩
abbrev main_call10_v0 : Ref sig .tc := ⟨.hbm, 763, rfl⟩
abbrev main_call10_v1 : Ref sig .tc := ⟨.hbm, 764, rfl⟩
abbrev main_v541 : Ref sig .tc := ⟨.hbm, 765, rfl⟩
abbrev main_cst_57 : Ref sig .tc := ⟨.hbm, 766, rfl⟩
abbrev main_v542 : Ref sig .tc := ⟨.hbm, 767, rfl⟩
abbrev main_v543 : Ref sig .tc := ⟨.hbm, 768, rfl⟩
abbrev main_v544 : Ref sig .tc := ⟨.hbm, 769, rfl⟩
abbrev main_v545 : Ref sig .tc := ⟨.hbm, 770, rfl⟩
abbrev main_v546 : Ref sig .tc := ⟨.hbm, 771, rfl⟩
abbrev main_c_58 : Ref sig .tc := ⟨.hbm, 772, rfl⟩
abbrev main_call11_v0 : Ref sig .tc := ⟨.hbm, 773, rfl⟩
abbrev main_call11_v1 : Ref sig .tc := ⟨.hbm, 774, rfl⟩
abbrev main_v547 : Ref sig .tc := ⟨.hbm, 775, rfl⟩
abbrev main_c_59 : Ref sig .tc := ⟨.hbm, 776, rfl⟩
abbrev main_v548 : Ref sig .tc := ⟨.hbm, 777, rfl⟩
abbrev main_v549 : Ref sig .tc := ⟨.hbm, 778, rfl⟩
abbrev main_c_60 : Ref sig .tc := ⟨.hbm, 779, rfl⟩
abbrev main_v550 : Ref sig .tc := ⟨.hbm, 780, rfl⟩
abbrev main_c_61 : Ref sig .tc := ⟨.hbm, 781, rfl⟩
abbrev main_v551 : Ref sig .tc := ⟨.hbm, 782, rfl⟩
abbrev main_v552 : Ref sig .tc := ⟨.hbm, 783, rfl⟩
abbrev main_c_62 : Ref sig .tc := ⟨.hbm, 784, rfl⟩
abbrev main_c_63 : Ref sig .tc := ⟨.hbm, 785, rfl⟩
abbrev main_v553 : Ref sig .tc := ⟨.hbm, 786, rfl⟩
abbrev main_c_64 : Ref sig .tc := ⟨.hbm, 787, rfl⟩
abbrev main_c_65 : Ref sig .tc := ⟨.hbm, 788, rfl⟩
abbrev main_v554 : Ref sig .tc := ⟨.hbm, 789, rfl⟩
abbrev main_c_66 : Ref sig .tc := ⟨.hbm, 790, rfl⟩
abbrev main_v555 : Ref sig .tc := ⟨.hbm, 791, rfl⟩
abbrev main_v556 : Ref sig .tc := ⟨.hbm, 792, rfl⟩
abbrev main_v557 : Ref sig .tc := ⟨.hbm, 793, rfl⟩
abbrev main_v558 : Ref sig .tc := ⟨.hbm, 794, rfl⟩
abbrev main_v559 : Ref sig .tc := ⟨.hbm, 795, rfl⟩
abbrev main_cst_67 : Ref sig .tc := ⟨.hbm, 796, rfl⟩
abbrev main_v560 : Ref sig .tc := ⟨.hbm, 797, rfl⟩
abbrev main_v561 : Ref sig .tc := ⟨.hbm, 798, rfl⟩
abbrev main_v562 : Ref sig .tc := ⟨.hbm, 799, rfl⟩
abbrev main_v563 : Ref sig .tc := ⟨.hbm, 800, rfl⟩
abbrev main_v564 : Ref sig .tc := ⟨.hbm, 801, rfl⟩
abbrev main_cst_68 : Ref sig .tc := ⟨.hbm, 802, rfl⟩
abbrev main_call12_v0 : Ref sig .tc := ⟨.hbm, 803, rfl⟩
abbrev main_call12_v1 : Ref sig .tc := ⟨.hbm, 804, rfl⟩
abbrev main_v565 : Ref sig .tc := ⟨.hbm, 805, rfl⟩
abbrev main_cst_69 : Ref sig .tc := ⟨.hbm, 806, rfl⟩
abbrev main_v566 : Ref sig .tc := ⟨.hbm, 807, rfl⟩
abbrev main_v567 : Ref sig .tc := ⟨.hbm, 808, rfl⟩
abbrev main_v568 : Ref sig .tc := ⟨.hbm, 809, rfl⟩
abbrev main_v569 : Ref sig .tc := ⟨.hbm, 810, rfl⟩
abbrev main_v570 : Ref sig .tc := ⟨.hbm, 811, rfl⟩
abbrev main_cst_70 : Ref sig .tc := ⟨.hbm, 812, rfl⟩
abbrev main_v571 : Ref sig .tc := ⟨.hbm, 813, rfl⟩
abbrev main_v572 : Ref sig .tc := ⟨.hbm, 814, rfl⟩
abbrev main_v573 : Ref sig .tc := ⟨.hbm, 815, rfl⟩
abbrev main_v574 : Ref sig .tc := ⟨.hbm, 816, rfl⟩
abbrev main_v575 : Ref sig .tc := ⟨.hbm, 817, rfl⟩
abbrev main_cst_71 : Ref sig .tc := ⟨.hbm, 818, rfl⟩
abbrev main_v576 : Ref sig .tc := ⟨.hbm, 819, rfl⟩
abbrev main_v577 : Ref sig .tc := ⟨.hbm, 820, rfl⟩

abbrev nD : Nat := 1
abbrev τ : Topo := Topo.v7x

variable {F : FTy → Type} [FloatOps F]
-- ==== Proof.Run1.lean ====
/- What the first call's body does at a grid point: at the first point it resets the running minimum and takes in the
   first block of the library, at every later point it takes in its block, and at the last point it also writes the
   three outputs. -/
module

public import proofs.«01_k».proof.Proof.Gen.KernelIdeal
public import proofs.«01_k».proof.Proof.Gen.KernelIdeal.Points
public import proofs.«01_k».proof.Proof.Gen.KernelIdeal.Launch
public import proofs.«01_k».proof.Proof.Gen.KernelIdeal.Skeleton
public import Idealize.ShloMosaic.Lib.VecWindow
public import Idealize.ShloMosaic.Lib.Pipeline.FrameBody
public import Idealize.ShloMosaic.Lib.Tactic
public import Idealize.ShloMosaic.Lib.Ring
public import Idealize.ShloMosaic.Lib.WordCmp

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- The program asks whether this is the first point of the first call's grid. -/
abbrev first0 (i : grid0.Coords) : Prop := (Scalar.cmpi .ne (Scalar.extui (Scalar.cmpi .eq (BitVec.ofNat 32 (i 0).val) 0#32)) 0#32) = 1#1

/-- The program asks whether this is the last point of the first call's grid. -/
abbrev last0 (i : grid0.Coords) : Prop := k0_cond2 i = 1#1

theorem first0_iff (t : Fin cfg0.N) : first0 (grid0.coords t) ↔ t.val = 0 := by
  have ht : t.val < 32 := Nat.lt_of_lt_of_eq t.isLt N_0
  have e0 : (grid0.coords t 0).val = t.val / 1 % 32 := Pipeline.Grid.coords_val t 0 (by decide) rfl
  have : first0 (grid0.coords t) ↔ t.val % 32 = 0 := by
    simp only [first0, e0]
    word_cmp
  rw [this, Nat.mod_eq_of_lt ht]

theorem last0_iff (t : Fin cfg0.N) : last0 (grid0.coords t) ↔ t.val = 31 := by
  have ht : t.val < 32 := Nat.lt_of_lt_of_eq t.isLt N_0
  have e0 : (grid0.coords t 0).val = t.val / 1 % 32 := Pipeline.Grid.coords_val t 0 (by decide) rfl
  have : last0 (grid0.coords t) ↔ t.val % 32 = 31 := by
    simp only [last0, k0_cond2, e0]
    word_cmp
  rw [this, Nat.mod_eq_of_lt ht]

/-- Reading a whole buffer that holds `x` gives `x`. -/
theorem readAt_whole {κ : Kind} {sp : Space} {s : Shape} {e : EltTy} {m : Memref sig κ sp s e} (h : m.IsWhole) (x : s.Idx → Elt F e)
    {off : Fin s.rank → ℕ} (inb : ∀ a, off a + s.size a ≤ s.size a) :
    m.view.readAt (Elt F) (Rect.unit off s.size inb).toLoadRect (h.unread x) = x :=
  (View.readAt_full _ _ inb).trans (h.read_unread x)

section
variable (c : Dev nD) (i : grid0.Coords) (arg1 : Memref sig .tc .vmem S704x384 .f32) (harg1 : arg1.IsWhole)
  (arg2 : Memref sig .tc .vmem S704x384 .bf16) (harg2 : arg2.IsWhole) (arg3 : Memref sig .tc .vmem S2048x384 .f32) (harg3 : arg3.IsWhole)
  (arg4 : Memref sig .tc .vmem S1x704 .f32) (harg4 : arg4.IsWhole) (arg5 : Memref sig .tc .vmem S1x16 .i32) (harg5 : arg5.IsWhole)
  (arg6 : Memref sig .tc .vmem S16x384 .f32) (harg6 : arg6.IsWhole) (arg7 : Memref sig .tc .vmem S1x704 .f32) (harg7 : arg7.IsWhole)
  (x0 : Vec F S704x384 .f32) (x1 : Vec F S704x384 .bf16) (x2 : Vec F S2048x384 .f32) (xs : Vec F S1x704 .f32)

set_option maxHeartbeats 1000000 in
/-- The first point: whatever the running minimum holds, it is reset and the first block taken in. -/
theorem run0_first (h0 : first0 i) (h1 : ¬last0 i) (E : Set ℕ) (K : PUnit → sProp 𝕄) :
    iprop(owns (c : Thread nD τ) arg2 fullShare x1 ∗ owns (c : Thread nD τ) arg3 fullShare x2 ∗ (∃ d, owns (c : Thread nD τ) arg7 fullShare d)
        ∗ (iprop(owns (c : Thread nD τ) arg2 fullShare x1 ∗ owns (c : Thread nD τ) arg3 fullShare x2
            ∗ owns (c : Thread nD τ) arg7 fullShare (k0_pay2 x2 x1 k0_pay1)) -∗ K ⟨⟩))
      ⊢ wp frame (wpE (defs₀ (F := F)) Variants.none c none) E
          (cc0__k1_body i arg1 harg1 arg2 harg2 arg3 harg3 arg4 harg4 arg5 harg5 arg6 harg6 arg7 harg7) K := by
  simp only [cc0__k1_body_eq_skeleton]; unfold cc0__k1_body_skel
  unfold owns
  iintro ⟨⟨%f1, %hf1, H1⟩, ⟨%f2, %hf2, H2⟩, ⟨%d, %fs, -, HS⟩, Hk⟩
  obtain rfl := harg2.eq_unread hf1; obtain rfl := harg3.eq_unread hf2
  sl_exec (disch := first | sl_exact h0 | sl_exact h1)
  sl_step
  iapply Hk
  isplitl [H1]
  · iexists _; isplitr; · ipureintro; exact harg2.read_unread _
    iexact H1
  isplitl [H2]
  · iexists _; isplitr; · ipureintro; exact harg3.read_unread _
    iexact H2
  iexists _; isplitr
  swap; · iexact HS
  ipureintro
  rw [View.read_writes_full]
  congr 1
  · exact readAt_whole harg3 _ _
  · exact readAt_whole harg2 _ _
  · exact View.readCov_full _ _ _ _ _

set_option maxHeartbeats 1000000 in
/-- A point between: the block is taken into the running minimum. -/
theorem run0_middle (h0 : ¬first0 i) (h1 : ¬last0 i) (E : Set ℕ) (K : PUnit → sProp 𝕄) :
    iprop(owns (c : Thread nD τ) arg2 fullShare x1 ∗ owns (c : Thread nD τ) arg3 fullShare x2 ∗ owns (c : Thread nD τ) arg7 fullShare xs
        ∗ (iprop(owns (c : Thread nD τ) arg2 fullShare x1 ∗ owns (c : Thread nD τ) arg3 fullShare x2
            ∗ owns (c : Thread nD τ) arg7 fullShare (k0_pay2 x2 x1 xs)) -∗ K ⟨⟩))
      ⊢ wp frame (wpE (defs₀ (F := F)) Variants.none c none) E
          (cc0__k1_body i arg1 harg1 arg2 harg2 arg3 harg3 arg4 harg4 arg5 harg5 arg6 harg6 arg7 harg7) K := by
  simp only [cc0__k1_body_eq_skeleton]; unfold cc0__k1_body_skel
  unfold owns
  iintro ⟨⟨%f1, %hf1, H1⟩, ⟨%f2, %hf2, H2⟩, ⟨%fs, %hfs, HS⟩, Hk⟩
  obtain rfl := harg2.eq_unread hf1; obtain rfl := harg3.eq_unread hf2; obtain rfl := harg7.eq_unread hfs
  sl_exec (disch := first | sl_exact h0 | sl_exact h1)
  sl_step
  iapply Hk
  isplitl [H1]
  · iexists _; isplitr; · ipureintro; exact harg2.read_unread _
    iexact H1
  isplitl [H2]
  · iexists _; isplitr; · ipureintro; exact harg3.read_unread _
    iexact H2
  iexists _; isplitr
  swap; · iexact HS
  ipureintro
  rw [View.read_writes_full]
  congr 1
  · exact readAt_whole harg3 _ _
  · exact readAt_whole harg2 _ _
  · exact readAt_whole harg7 _ _

end

end Cert.KernelIdeal
-- ==== Proof.Run1Last.lean ====
/- What the first call's body does at the last grid point: it takes in its block and writes the three outputs. -/
module

public import proofs.«01_k».proof.Proof.Run1

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

section
variable (c : Dev nD) (i : grid0.Coords) (arg1 : Memref sig .tc .vmem S704x384 .f32) (harg1 : arg1.IsWhole)
  (arg2 : Memref sig .tc .vmem S704x384 .bf16) (harg2 : arg2.IsWhole) (arg3 : Memref sig .tc .vmem S2048x384 .f32) (harg3 : arg3.IsWhole)
  (arg4 : Memref sig .tc .vmem S1x704 .f32) (harg4 : arg4.IsWhole) (arg5 : Memref sig .tc .vmem S1x16 .i32) (harg5 : arg5.IsWhole)
  (arg6 : Memref sig .tc .vmem S16x384 .f32) (harg6 : arg6.IsWhole) (arg7 : Memref sig .tc .vmem S1x704 .f32) (harg7 : arg7.IsWhole)
  (x0 : Vec F S704x384 .f32) (x1 : Vec F S704x384 .bf16) (x2 : Vec F S2048x384 .f32) (xs : Vec F S1x704 .f32)

set_option maxHeartbeats 1000000 in
/-- The last point: the block is taken in, the outputs are written. The candidates' numbers are `.1`, the stores that write their
    sixteen rows `.2.1`. -/
def run0_last (h0 : ¬first0 i) (h1 : last0 i) :
    Σ' (cand : Vec F S1x16 .i32), { L : List (View.Piece (Elt F) S16x384 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2
                ∗ owns (c : Thread nD τ) arg4 fullShare (k0_pay5 x0 (k0_pay2 x2 x1 xs)) ∗ owns (c : Thread nD τ) arg5 fullShare cand
                ∗ (∃ f, arg6.view.loc (c : Thread nD τ) ↦[arg6.view.set]{fullShare} arg6.view.writes (Elt F) f L)
                ∗ owns (c : Thread nD τ) arg7 fullShare (k0_pay2 x2 x1 xs)) -∗ K ⟨⟩))
          ⊢ wp frame (wpE (defs₀ (F := F)) Variants.none c none) E
              (cc0__k1_body i arg1 harg1 arg2 harg2 arg3 harg3 arg4 harg4 arg5 harg5 arg6 harg6 arg7 harg7) K } := by
  refine ⟨?_, ?_, fun E K => ?run⟩
  case run =>
    simp only [cc0__k1_body_eq_skeleton]; unfold cc0__k1_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs, %hfs, HS⟩, Hk⟩
    obtain rfl := harg1.eq_unread hf0; obtain rfl := harg2.eq_unread hf1; obtain rfl := harg3.eq_unread hf2; obtain rfl := harg7.eq_unread hfs
    sl_exec (disch := first | sl_exact h0 | sl_exact h1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr
      swap; · iexact H3
      ipureintro
      rw [View.read_writes_full]
      congr 1
      · exact readAt_whole harg1 _ _
      · refine (View.readCov_full _ _ _ _ _).trans ?_
        congr 1
        · exact readAt_whole harg3 _ _
        · exact readAt_whole harg2 _ _
        · exact readAt_whole harg7 _ _
    isplitl [H4]
    · iexists _; isplitr
      swap; · iexact H4
      ipureintro
      exact View.read_writes_full _ _ _ _ _
    isplitl [H5]; · iexists _; iexact H5
    iexists _; isplitr
    swap; · iexact HS
    ipureintro
    refine (View.read_writes_full _ _ _ _ []).trans ?_
    congr 1
    · exact readAt_whole harg3 _ _
    · exact readAt_whole harg2 _ _
    · exact readAt_whole harg7 _ _

/-- The sixteen stores fill the candidates' rows. -/
theorem run0_cover (h0 : ¬first0 i) (h1 : last0 i) (y : S16x384.Idx) :
    ∃ pc ∈ (run0_last c i arg1 harg1 arg2 harg2 arg3 harg3 arg4 harg4 arg5 harg5 arg6 harg6 arg7 harg7 x0 x1 x2 xs h0 h1).2.1, y ∈ pc.1.set :=
  View.cover_of_tiledL (run0_last c i arg1 harg1 arg2 harg2 arg3 harg3 arg4 harg4 arg5 harg5 arg6 harg6 arg7 harg7 x0 x1 x2 xs h0 h1).2.1 S1x384.size (by sl_kernel_rfl) y
end

end Cert.KernelIdeal
-- ==== Proof.Call1.lean ====
/- The first call: what its buffers hold at every grid point, and that its body keeps to that. -/
module

public import proofs.«01_k».proof.Proof.Run1Last

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first call's point of number `n`, counted round its grid. -/
def pt0 (n : ℕ) : Fin cfg0.N := ⟨n % 32, lt_of_lt_of_eq (Nat.mod_lt _ (by decide)) N_0.symm⟩

theorem pt0_val (t : Fin cfg0.N) : pt0 t.val = t := Fin.ext (Nat.mod_eq_of_lt (lt_of_lt_of_eq t.isLt N_0))

/-- Window `w`'s block at a point, read off its array as the first call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running minimum after the point of number `n`. -/
def carried0 (c : Dev nD) : ℕ → Vec F S1x704 .f32
  | 0 => k0_pay2 (blk0 V c 2 (pt0 0)) (blk0 V c 1 (pt0 0)) k0_pay1
  | n + 1 => k0_pay2 (blk0 V c 2 (pt0 (n + 1))) (blk0 V c 1 (pt0 (n + 1))) (carried0 c n)

/-- The last point's run. -/
def lastRun0 (c : Dev nD) :=
  run0_last (F := F) c (grid0.coords (pt0 31)) (st0_0 (pt0 31)) (hstage0_0 ((cfg0.slots (pt0 31) 0).cast nbuf0_0)) (st0_1 (pt0 31)) (hstage0_1 ((cfg0.slots (pt0 31) 1).cast nbuf0_1))
    (st0_2 (pt0 31)) (hstage0_2 ((cfg0.slots (pt0 31) 2).cast nbuf0_2)) (st0_3 (pt0 31)) (hstage0_3 ((cfg0.slots (pt0 31) 3).cast nbuf0_3))
    (st0_4 (pt0 31)) (hstage0_4 ((cfg0.slots (pt0 31) 4).cast nbuf0_4)) (st0_5 (pt0 31)) (hstage0_5 ((cfg0.slots (pt0 31) 5).cast nbuf0_5))
    (Memref.whole cc0_scratch0) (Memref.isWhole_whole _) (blk0 V c 0 (pt0 31)) (blk0 V c 1 (pt0 31)) (blk0 V c 2 (pt0 31)) (carried0 V c 30)
    (fun h => absurd ((first0_iff _).mp h) (by decide)) ((last0_iff _).mpr rfl)

/-- The least distances the call leaves. -/
def minOut (c : Dev nD) : Vec F S1x704 .f32 := k0_pay5 (blk0 V c 0 (pt0 31)) (carried0 V c 31)

/-- The candidates' numbers it leaves. -/
def candOut (c : Dev nD) : Vec F S1x16 .i32 := (lastRun0 V c).1

/-- The candidates' rows it leaves. -/
def rowsOut (c : Dev nD) : Vec F S16x384 .f32 :=
  (Memref.whole cc0_stg5_0).view.read (Elt F) ((Memref.whole cc0_stg5_0).view.writes (Elt F) (Memref.whole cc0_stg5_0).view.junk (lastRun0 V c).2.1)

/-- The scoped buffers the first call does not touch. -/
def others0 (c : Dev nD) : sProp 𝕄 :=
  bigSepL [cc1_stg0_0, cc1_stg1_0, cc1_stg2_0, cc1_stg2_1, cc1_stg6_0, cc1_scratch0, cc1_scratch1, cc2_stg0_0, cc2_stg2_0, cc2_stg3_0, cc2_stg4_0, cc2_stg5_0, cc2_stg6_0, cc2_stg6_1, cc2_stg8_0, cc2_scratch0, cc1_stg3_0, cc1_stg4_0, cc1_stg5_0, cc2_stg1_0, cc2_stg7_0]
    fun b => iprop(∃ f : Buf (Elt F) ((c : Thread nD τ).loc b), ((c : Thread nD τ).loc b) ↦{fullShare} f)

/-- The first call's data: its arrays as it finds them, its blocks and outputs, and the running minimum between points. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => minOut V c
    | ⟨4, _⟩ => candOut V c
    | ⟨5, _⟩ => rowsOut V c
  Φ t := iprop((∃ d, ⌜t.val ≠ 0 → d = carried0 V c (t.val - 1)⌝ ∗ owns (c : Thread nD τ) (Memref.whole cc0_scratch0) fullShare d) ∗ others0 c)
  q _ := fullShare
  owed _ := 0

theorem before0_0 (c : Dev nD) (t : Fin cfg0.N) (d) : (dat0 V c).before 0 t d = blk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = blk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = blk0 V c 2 t :=
  ((dat0 V c).before_in_eq_fetched 2 rfl (fun _ => rfl) (fun _ _ _ => rfl) (fun _ => rfl) t d).trans rfl

theorem atRest0 (w : Fin cfg0.W) (hw : 3 ≤ w.val) : ∀ t : Fin cfg0.N, ¬last0 (grid0.coords t) → cfg0.idle w (grid0.coords t) = true := by
  revert w; decide +kernel
theorem noFlush0 (w : Fin cfg0.W) (hw : 3 ≤ w.val) : ∀ t : Fin cfg0.N, ¬last0 (grid0.coords t) → (cfg0.win w).flush t = false := by
  revert w; decide +kernel
theorem live0 (w : Fin cfg0.W) : ∀ t : Fin cfg0.N, last0 (grid0.coords t) → cfg0.idle w (grid0.coords t) = false := by
  revert w; decide +kernel

/-- At the point of number `n` the running minimum takes in that point's block. -/
theorem carried0_step (c : Dev nD) (t : Fin cfg0.N) (h : t.val ≠ 0) :
    k0_pay2 (blk0 V c 2 t) (blk0 V c 1 t) (carried0 V c (t.val - 1)) = carried0 V c t.val := by
  obtain ⟨n, hn⟩ := Nat.exists_eq_succ_of_ne_zero h
  rw [hn, Nat.succ_sub_one]
  show _ = k0_pay2 (blk0 V c 2 (pt0 (n + 1))) (blk0 V c 1 (pt0 (n + 1))) (carried0 V c n)
  rw [show pt0 (n + 1) = t from (congrArg pt0 hn.symm).trans (pt0_val t)]

set_option maxHeartbeats 4000000 in
/-- The body at any point. -/
theorem sound0 (c : Dev nD) (t : Fin cfg0.N) :
    iprop((dat0 V c).Φ t.castSucc ∗ (dat0 V c).owesAt () t.castSucc
        ∗ (∃ d, owns (c : Thread nD τ) (st0_0 t) fullShare ((dat0 V c).before 0 t d)) ∗ (∃ d, owns (c : Thread nD τ) (st0_1 t) fullShare ((dat0 V c).before 1 t d))
        ∗ (∃ d, owns (c : Thread nD τ) (st0_2 t) fullShare ((dat0 V c).before 2 t d)) ∗ (∃ d, owns (c : Thread nD τ) (st0_3 t) fullShare ((dat0 V c).before 3 t d))
        ∗ (∃ d, owns (c : Thread nD τ) (st0_4 t) fullShare ((dat0 V c).before 4 t d)) ∗ (∃ d, owns (c : Thread nD τ) (st0_5 t) fullShare ((dat0 V c).before 5 t d)))
      ⊢ wp frame (wpE (defs₀ (F := F)) Variants.none c none) Set.univ (bodyAt0 t) fun _ =>
        iprop((dat0 V c).Φ t.succ ∗ (dat0 V c).owesAt () t.succ ∗ (dat0 V c).leavesExact 0 t ∗ (dat0 V c).leavesExact 1 t ∗ (dat0 V c).leavesExact 2 t
          ∗ (dat0 V c).leavesExact 3 t ∗ (dat0 V c).leavesExact 4 t ∗ (dat0 V c).leavesExact 5 t) := by
  unfold bodyAt0
  simp only [before0_0, before0_1, before0_2]
  rw [show (dat0 V c).owesAt () t.succ = (dat0 V c).owesAt () t.castSucc from rfl]
  rw [show (dat0 V c).leavesExact 0 t = owns (c : Thread nD τ) (st0_0 t) fullShare (blk0 V c 0 t) from rfl,
    show (dat0 V c).leavesExact 1 t = owns (c : Thread nD τ) (st0_1 t) fullShare (blk0 V c 1 t) from rfl,
    show (dat0 V c).leavesExact 2 t = owns (c : Thread nD τ) (st0_2 t) fullShare (blk0 V c 2 t) from rfl]
  rw [show (dat0 V c).Φ t.castSucc = iprop((∃ d, ⌜t.val ≠ 0 → d = carried0 V c (t.val - 1)⌝ ∗ owns (c : Thread nD τ) (Memref.whole cc0_scratch0) fullShare d) ∗ others0 c) from rfl,
    show (dat0 V c).Φ t.succ = iprop((∃ d, ⌜t.val + 1 ≠ 0 → d = carried0 V c t.val⌝ ∗ owns (c : Thread nD τ) (Memref.whole cc0_scratch0) fullShare d) ∗ others0 c) from rfl]
  by_cases h1 : last0 (grid0.coords t)
  · have ht : t = pt0 31 := Fin.ext ((last0_iff t).mp h1)
    have h0 : ¬first0 (grid0.coords t) := fun h => by have := (first0_iff t).mp h; have := (last0_iff t).mp h1; omega
    have hz : t.val ≠ 0 := by have := (last0_iff t).mp h1; omega
    rw [show (dat0 V c).leavesExact 3 t = owns (c : Thread nD τ) (st0_3 t) fullShare (minOut V c) from by
        unfold Dat.leavesExact; rw [live0 3 t h1]; rfl,
      show (dat0 V c).leavesExact 4 t = owns (c : Thread nD τ) (st0_4 t) fullShare (candOut V c) from by
        unfold Dat.leavesExact; rw [live0 4 t h1]; rfl,
      show (dat0 V c).leavesExact 5 t = owns (c : Thread nD τ) (st0_5 t) fullShare (rowsOut V c) from by
        unfold Dat.leavesExact; rw [live0 5 t h1]; rfl]
    have hstep := carried0_step V c t hz
    subst ht
    iintro ⟨⟨⟨%ds, %hs, HS⟩, Hg⟩, Ho, ⟨%d0, H0⟩, ⟨%d1, H1⟩, ⟨%d2, H2⟩, ⟨%d3, H3⟩, ⟨%d4, H4⟩, ⟨%d5, H5⟩⟩
    obtain rfl := hs hz
    iapply ((lastRun0 V c).2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS]; · iexact HS
    iintro ⟨H0, H1, H2, H3, H4, ⟨%e5, H5⟩, HS⟩
    isplitl [HS Hg]
    · isplitl [HS]
      · iexists _; isplitr
        swap; · iexact HS
        ipureintro; exact fun _ => hstep
      iexact Hg
    isplitl [Ho]; · iexact Ho
    isplitl [H0]; · iexact H0
    isplitl [H1]; · iexact H1
    isplitl [H2]; · iexact H2
    isplitl [H3]
    · rw [show minOut V c = k0_pay5 (blk0 V c 0 (pt0 31)) (k0_pay2 (blk0 V c 2 (pt0 31)) (blk0 V c 1 (pt0 31)) (carried0 V c 30)) from rfl]
      iexact H3
    isplitl [H4]; · iexact H4
    unfold owns; iexists _; isplitr
    swap; · iexact H5
    ipureintro
    exact View.read_writes_of_cover _ _ _ _ _ (run0_cover c _ _ _ _ _ _ _ _ _ _ _ _ _ _ _ _ _ _ _ _ _)
  · rw [Dat.leavesExact_idle (dat0 V c) 3 t (atRest0 3 (by decide) t h1) (noFlush0 3 (by decide) t h1),
      Dat.leavesExact_idle (dat0 V c) 4 t (atRest0 4 (by decide) t h1) (noFlush0 4 (by decide) t h1),
      Dat.leavesExact_idle (dat0 V c) 5 t (atRest0 5 (by decide) t h1) (noFlush0 5 (by decide) t h1)]
    by_cases h0 : first0 (grid0.coords t)
    · have hz : t.val = 0 := (first0_iff t).mp h0
      iintro ⟨⟨⟨%ds, %hs, HS⟩, Hg⟩, Ho, ⟨%d0, H0⟩, ⟨%d1, H1⟩, ⟨%d2, H2⟩, H3, H4, H5⟩
      iapply (run0_first c (grid0.coords t) _ _ _ _ _ _ _ _ _ _ _ _ _ _ (blk0 V c 1 t) (blk0 V c 2 t) h0 h1 Set.univ _)
      isplitl [H1]; · iexact H1
      isplitl [H2]; · iexact H2
      isplitl [HS]; · iexists _; iexact HS
      iintro ⟨H1, H2, HS⟩
      isplitl [HS Hg]
      · isplitl [HS]
        · iexists _; isplitr
          swap; · iexact HS
          ipureintro
          intro _
          rw [hz]
          show _ = k0_pay2 (blk0 V c 2 (pt0 0)) (blk0 V c 1 (pt0 0)) k0_pay1
          rw [show pt0 0 = t from Fin.ext hz.symm]
        iexact Hg
      isplitl [Ho]; · iexact Ho
      isplitl [H0]; · iexact H0
      isplitl [H1]; · iexact H1
      isplitl [H2]; · iexact H2
      isplitl [H3]; · iexact H3
      isplitl [H4]; · iexact H4
      iexact H5
    · have hz : t.val ≠ 0 := fun h => h0 ((first0_iff t).mpr h)
      iintro ⟨⟨⟨%ds, %hs, HS⟩, Hg⟩, Ho, ⟨%d0, H0⟩, ⟨%d1, H1⟩, ⟨%d2, H2⟩, H3, H4, H5⟩
      obtain rfl := hs hz
      iapply (run0_middle c (grid0.coords t) _ _ _ _ _ _ _ _ _ _ _ _ _ _ (blk0 V c 1 t) (blk0 V c 2 t) (carried0 V c (t.val - 1)) h0 h1 Set.univ _)
      isplitl [H1]; · iexact H1
      isplitl [H2]; · iexact H2
      isplitl [HS]; · iexact HS
      iintro ⟨H1, H2, HS⟩
      isplitl [HS Hg]
      · isplitl [HS]
        · iexists _; isplitr
          swap; · iexact HS
          ipureintro
          exact fun _ => carried0_step V c t hz
        iexact Hg
      isplitl [Ho]; · iexact Ho
      isplitl [H0]; · iexact H0
      isplitl [H1]; · iexact H1
      isplitl [H2]; · iexact H2
      isplitl [H3]; · iexact H3
      isplitl [H4]; · iexact H4
      iexact H5

/-- The body's row of the table at a point's buffers. -/
theorem row0 (t : Fin cfg0.N) : defs₀ (F := F) .tc cfg0.body (cfg0.bodyArgs t (cfg0.slots t)) = bodyAt0 t := by
  unfold defs₀; rw [Defs.onTc_tc]

/-- The first call's body obligation. -/
theorem obligation0 (c : Dev nD) : BodyObligation (dat0 V c) (defs₀ (F := F)) Variants.none () Set.univ := fun t => by
  rw [bigSep_W0, bigSep_W0, row0]
  exact triple_restated (sound0 V c t) rfl .rfl fun _ => .rfl

theorem scoped0 (c : Dev nD) : Pipeline.scopedRest spec0 c
    = (iprop((∃ f : Buf (Elt F) ((c : Thread nD τ).loc cc0_scratch0), ((c : Thread nD τ).loc cc0_scratch0) ↦{fullShare} f) ∗ others0 c) : sProp 𝕄) :=
  Pipeline.scopedRest_eq_of_list spec0 c (cc0_scratch0 :: [cc1_stg0_0, cc1_stg1_0, cc1_stg2_0, cc1_stg2_1, cc1_stg6_0, cc1_scratch0, cc1_scratch1, cc2_stg0_0, cc2_stg2_0, cc2_stg3_0, cc2_stg4_0, cc2_stg5_0, cc2_stg6_0, cc2_stg6_1, cc2_stg8_0, cc2_scratch0, cc1_stg3_0, cc1_stg4_0, cc1_stg5_0, cc2_stg1_0, cc2_stg7_0])
    (by decide) (by decide)

/-- The invariant at the grid's start, from the scoped buffers. -/
theorem in0 (c : Dev nD) : Pipeline.scopedRest spec0 c ⊢ (dat0 V c).Φ 0 := by
  rw [show (dat0 V c).Φ 0 = iprop((∃ d, ⌜(0 : ℕ) ≠ 0 → d = carried0 V c (0 - 1)⌝ ∗ owns (c : Thread nD τ) (Memref.whole cc0_scratch0) fullShare d) ∗ others0 c) from rfl]
  rw [scoped0]
  iintro ⟨⟨%f, H⟩, Hg⟩
  isplitl [H]
  · iexists f; isplitr; · ipureintro; exact fun h => absurd rfl h
    rw [owns_whole_eq]; iexists f; isplitr; · ipureintro; rfl
    iexact H
  iexact Hg

/-- At its end they are given back. -/
theorem out0 (c : Dev nD) : (dat0 V c).Φ (Fin.last cfg0.N) ⊢ Pipeline.scopedRest spec0 c := by
  rw [show (dat0 V c).Φ (Fin.last cfg0.N) = iprop((∃ d, ⌜(Fin.last cfg0.N).val ≠ 0 → d = carried0 V c ((Fin.last cfg0.N).val - 1)⌝ ∗ owns (c : Thread nD τ) (Memref.whole cc0_scratch0) fullShare d) ∗ others0 c) from rfl]
  rw [scoped0]
  simp only [owns_whole_eq]
  iintro ⟨⟨%d, -, %f, -, H⟩, Hg⟩
  isplitl [H]; · iexists f; iexact H
  iexact Hg

end Cert.KernelIdeal
-- ==== Proof.Run2.lean ====
/- What the second call's body does at a grid point: it keeps, for every candidate row, the least squared distance met so
   far and where it was met; at the last point it writes out the largest of the least distances, its row and its place. -/
module

public import proofs.«01_k».proof.Proof.Run1

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- The program asks whether this is the first point of the second call's grid. -/
abbrev first1 (i : grid1.Coords) : Prop := (Scalar.cmpi .ne (Scalar.extui (Scalar.cmpi .eq (BitVec.ofNat 32 (i 0).val) 0#32)) 0#32) = 1#1

/-- The program asks whether this is the last point of the second call's grid. -/
abbrev last1 (i : grid1.Coords) : Prop := k1_cond2 i = 1#1

theorem first1_iff (t : Fin cfg1.N) : first1 (grid1.coords t) ↔ t.val = 0 := by
  have ht : t.val < 32 := Nat.lt_of_lt_of_eq t.isLt N_1
  have e0 : (grid1.coords t 0).val = t.val / 1 % 32 := Pipeline.Grid.coords_val t 0 (by decide) rfl
  have : first1 (grid1.coords t) ↔ t.val % 32 = 0 := by
    simp only [first1, e0]
    word_cmp
  rw [this, Nat.mod_eq_of_lt ht]

theorem last1_iff (t : Fin cfg1.N) : last1 (grid1.coords t) ↔ t.val = 31 := by
  have ht : t.val < 32 := Nat.lt_of_lt_of_eq t.isLt N_1
  have e0 : (grid1.coords t 0).val = t.val / 1 % 32 := Pipeline.Grid.coords_val t 0 (by decide) rfl
  have : last1 (grid1.coords t) ↔ t.val % 32 = 31 := by
    simp only [last1, k1_cond2, e0]
    word_cmp
  rw [this, Nat.mod_eq_of_lt ht]

/-- The least distances after a block. -/
def least (x0 : Vec F S16x384 .f32) (x2 : Vec F S2048x384 .f32) (s8 : Vec F S1x16 .f32) : Vec F S1x16 .f32 := k1_pay1 (k1_pay18 x0 x2 s8)

/-- Where they were met. -/
def place (i : grid1.Coords) (x0 : Vec F S16x384 .f32) (x2 : Vec F S2048x384 .f32) (s8 : Vec F S1x16 .f32) (s9 : Vec F S1x16 .i32) : Vec F S1x16 .i32 :=
  k1_pay2 (F := F) (BitVec.ofNat 32 (i 0).val) (k1_pay14 x0 x2) (k1_pay17 x0 x2 s8) s9

/-- The largest of the least distances. -/
def farValue (x0 : Vec F S16x384 .f32) (s8 : Vec F S1x16 .f32) : Vec F S1x1 .f32 := fun _ => k1_pay7 (k1_pay11 x0) s8

/-- The number of the row it belongs to. -/
def farRow (x0 : Vec F S16x384 .f32) (x1 : Vec F S1x16 .i32) (s8 : Vec F S1x16 .f32) : Vec F S1x1 .i32 :=
  fun _ => extractAt ![0, 0, 0] (k1_pay8 (k1_pay11 x0) s8 x1) inpos_S1x1x1_p0_0_0

/-- Where in the library its least distance was met. -/
def farPlace (x0 : Vec F S16x384 .f32) (x1 : Vec F S1x16 .i32) (s8 : Vec F S1x16 .f32) (s9 : Vec F S1x16 .i32) : Vec F S1x1 .i32 :=
  fun _ => extractAt ![0, 0, 0] (k1_pay3 (F := F) (k1_pay10 (k1_pay11 x0) s8 x1) s9) inpos_S1x1x1_p0_0_0

/-- The row itself. -/
def farPatch (x0 : Vec F S16x384 .f32) (x1 : Vec F S1x16 .i32) (s8 : Vec F S1x16 .f32) : Vec F S1x384 .f32 :=
  k1_pay4 (k1_pay11 x0) (extractAt ![0, 0, 0] (k1_pay9 (k1_pay11 x0) s8 x1) inpos_S1x1x1_p0_0_0)

theorem least_congr {x0 x0' : Vec F S16x384 .f32} {x2 x2' : Vec F S2048x384 .f32} {s8 s8' : Vec F S1x16 .f32} (h0 : x0 = x0') (h2 : x2 = x2')
    (h8 : s8 = s8') : least x0 x2 s8 = least x0' x2' s8' := by subst h0 h2 h8; rfl

theorem place_congr {i : grid1.Coords} {x0 x0' : Vec F S16x384 .f32} {x2 x2' : Vec F S2048x384 .f32} {s8 s8' : Vec F S1x16 .f32}
    {s9 s9' : Vec F S1x16 .i32} (h0 : x0 = x0') (h2 : x2 = x2') (h8 : s8 = s8') (h9 : s9 = s9') :
    place i x0 x2 s8 s9 = place i x0' x2' s8' s9' := by subst h0 h2 h8 h9; rfl

theorem farValue_congr {x0 x0' : Vec F S16x384 .f32} {s8 s8' : Vec F S1x16 .f32} (h0 : x0 = x0') (h8 : s8 = s8') :
    farValue x0 s8 = farValue x0' s8' := by subst h0 h8; rfl

theorem farRow_congr {x0 x0' : Vec F S16x384 .f32} {x1 x1' : Vec F S1x16 .i32} {s8 s8' : Vec F S1x16 .f32} (h0 : x0 = x0') (h1 : x1 = x1')
    (h8 : s8 = s8') : farRow x0 x1 s8 = farRow x0' x1' s8' := by subst h0 h1 h8; rfl

theorem farPlace_congr {x0 x0' : Vec F S16x384 .f32} {x1 x1' : Vec F S1x16 .i32} {s8 s8' : Vec F S1x16 .f32} {s9 s9' : Vec F S1x16 .i32}
    (h0 : x0 = x0') (h1 : x1 = x1') (h8 : s8 = s8') (h9 : s9 = s9') : farPlace x0 x1 s8 s9 = farPlace x0' x1' s8' s9' := by
  subst h0 h1 h8 h9; rfl

theorem farPatch_congr {x0 x0' : Vec F S16x384 .f32} {x1 x1' : Vec F S1x16 .i32} {s8 s8' : Vec F S1x16 .f32} (h0 : x0 = x0') (h1 : x1 = x1')
    (h8 : s8 = s8') : farPatch x0 x1 s8 = farPatch x0' x1' s8' := by subst h0 h1 h8; rfl

section
variable (c : Dev nD) (i : grid1.Coords) (arg1 : Memref sig .tc .vmem S16x384 .f32) (harg1 : arg1.IsWhole)
  (arg2 : Memref sig .tc .vmem S1x16 .i32) (harg2 : arg2.IsWhole) (arg3 : Memref sig .tc .vmem S2048x384 .f32) (harg3 : arg3.IsWhole)
  (arg4 : Memref sig .tc .smem S1x1 .f32) (harg4 : arg4.IsWhole) (arg5 : Memref sig .tc .smem S1x1 .i32) (harg5 : arg5.IsWhole)
  (arg6 : Memref sig .tc .smem S1x1 .i32) (harg6 : arg6.IsWhole) (arg7 : Memref sig .tc .vmem S1x384 .f32) (harg7 : arg7.IsWhole)
  (arg8 : Memref sig .tc .vmem S1x16 .f32) (harg8 : arg8.IsWhole) (arg9 : Memref sig .tc .vmem S1x16 .i32) (harg9 : arg9.IsWhole)
  (x0 : Vec F S16x384 .f32) (x1 : Vec F S1x16 .i32) (x2 : Vec F S2048x384 .f32) (s8 : Vec F S1x16 .f32) (s9 : Vec F S1x16 .i32)

set_option maxHeartbeats 1000000 in
/-- The first point: whatever the two scratch buffers hold, they are reset and the first block taken in. -/
theorem run1_first (h0 : first1 i) (h1 : ¬last1 i) (E : Set ℕ) (K : PUnit → sProp 𝕄) :
    iprop(owns (c : Thread nD τ) arg1 fullShare x0 ∗ owns (c : Thread nD τ) arg3 fullShare x2 ∗ (∃ d, owns (c : Thread nD τ) arg8 fullShare d) ∗ (∃ d, owns (c : Thread nD τ) arg9 fullShare d)
        ∗ (iprop(owns (c : Thread nD τ) arg1 fullShare x0 ∗ owns (c : Thread nD τ) arg3 fullShare x2
            ∗ owns (c : Thread nD τ) arg8 fullShare (least x0 x2 k1_pay15) ∗ owns (c : Thread nD τ) arg9 fullShare (place i x0 x2 k1_pay15 k1_pay16)) -∗ K ⟨⟩))
      ⊢ wp frame (wpE (defs₀ (F := F)) Variants.none c none) E
          (cc1__k1b_body i arg1 harg1 arg2 harg2 arg3 harg3 arg4 harg4 arg5 harg5 arg6 harg6 arg7 harg7 arg8 harg8 arg9 harg9) K := by
  simp only [cc1__k1b_body_eq_skeleton]; unfold cc1__k1b_body_skel
  simp only [k1_part2_eq_skeleton]
  unfold owns
  iintro ⟨⟨%f1, %hf1, H1⟩, ⟨%f2, %hf2, H2⟩, ⟨%d, %fs, -, HS⟩, ⟨%d', %ft, -, HT⟩, Hk⟩
  obtain rfl := harg1.eq_unread hf1; obtain rfl := harg3.eq_unread hf2
  sl_exec (disch := first | sl_exact h0 | sl_exact h1)
  sl_step
  iapply Hk
  isplitl [H1]
  · iexists _; isplitr; · ipureintro; exact harg1.read_unread _
    iexact H1
  isplitl [H2]
  · iexists _; isplitr; · ipureintro; exact harg3.read_unread _
    iexact H2
  isplitl [HS]
  · iexists _; isplitr
    swap; · iexact HS
    ipureintro
    refine (View.read_writes_full _ _ _ _ _).trans ?_
    exact least_congr (readAt_whole harg1 _ _) (readAt_whole harg3 _ _) (View.readCov_full _ _ _ _ _)
  iexists _; isplitr
  swap; · iexact HT
  ipureintro
  refine (View.read_writes_full _ _ _ _ _).trans ?_
  exact place_congr (readAt_whole harg1 _ _) (readAt_whole harg3 _ _) (View.readCov_full _ _ _ _ _)
    (View.readCov_full _ _ _ _ _)

set_option maxHeartbeats 1000000 in
/-- A point between: the block is taken in. -/
theorem run1_middle (h0 : ¬first1 i) (h1 : ¬last1 i) (E : Set ℕ) (K : PUnit → sProp 𝕄) :
    iprop(owns (c : Thread nD τ) arg1 fullShare x0 ∗ owns (c : Thread nD τ) arg3 fullShare x2 ∗ owns (c : Thread nD τ) arg8 fullShare s8 ∗ owns (c : Thread nD τ) arg9 fullShare s9
        ∗ (iprop(owns (c : Thread nD τ) arg1 fullShare x0 ∗ owns (c : Thread nD τ) arg3 fullShare x2
            ∗ owns (c : Thread nD τ) arg8 fullShare (least x0 x2 s8) ∗ owns (c : Thread nD τ) arg9 fullShare (place i x0 x2 s8 s9)) -∗ K ⟨⟩))
      ⊢ wp frame (wpE (defs₀ (F := F)) Variants.none c none) E
          (cc1__k1b_body i arg1 harg1 arg2 harg2 arg3 harg3 arg4 harg4 arg5 harg5 arg6 harg6 arg7 harg7 arg8 harg8 arg9 harg9) K := by
  simp only [cc1__k1b_body_eq_skeleton]; unfold cc1__k1b_body_skel
  simp only [k1_part2_eq_skeleton]
  unfold owns
  iintro ⟨⟨%f1, %hf1, H1⟩, ⟨%f2, %hf2, H2⟩, ⟨%fs, %hfs, HS⟩, ⟨%ft, %hft, HT⟩, Hk⟩
  obtain rfl := harg1.eq_unread hf1; obtain rfl := harg3.eq_unread hf2; obtain rfl := harg8.eq_unread hfs; obtain rfl := harg9.eq_unread hft
  sl_exec (disch := first | sl_exact h0 | sl_exact h1)
  sl_step
  iapply Hk
  isplitl [H1]
  · iexists _; isplitr; · ipureintro; exact harg1.read_unread _
    iexact H1
  isplitl [H2]
  · iexists _; isplitr; · ipureintro; exact harg3.read_unread _
    iexact H2
  isplitl [HS]
  · iexists _; isplitr
    swap; · iexact HS
    ipureintro
    refine (View.read_writes_full _ _ _ _ _).trans ?_
    exact least_congr (readAt_whole harg1 _ _) (readAt_whole harg3 _ _) (readAt_whole harg8 _ _)
  iexists _; isplitr
  swap; · iexact HT
  ipureintro
  refine (View.read_writes_full _ _ _ _ _).trans ?_
  exact place_congr (readAt_whole harg1 _ _) (readAt_whole harg3 _ _) (readAt_whole harg8 _ _)
    (readAt_whole harg9 _ _)

set_option maxHeartbeats 2000000 in
/-- The last point: the block is taken in and the four outputs are written. -/
theorem run1_last (h0 : ¬first1 i) (h1 : last1 i) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare s8 ∗ owns (c : Thread nD τ) arg9 fullShare s9
        ∗ (iprop(owns (c : Thread nD τ) arg1 fullShare x0 ∗ owns (c : Thread nD τ) arg2 fullShare x1 ∗ owns (c : Thread nD τ) arg3 fullShare x2
            ∗ owns (c : Thread nD τ) arg4 fullShare (farValue x0 (least x0 x2 s8)) ∗ owns (c : Thread nD τ) arg5 fullShare (farRow x0 x1 (least x0 x2 s8))
            ∗ owns (c : Thread nD τ) arg6 fullShare (farPlace x0 x1 (least x0 x2 s8) (place i x0 x2 s8 s9)) ∗ owns (c : Thread nD τ) arg7 fullShare (farPatch x0 x1 (least x0 x2 s8))
            ∗ owns (c : Thread nD τ) arg8 fullShare (least x0 x2 s8) ∗ owns (c : Thread nD τ) arg9 fullShare (place i x0 x2 s8 s9)) -∗ K ⟨⟩))
      ⊢ wp frame (wpE (defs₀ (F := F)) Variants.none c none) E
          (cc1__k1b_body i arg1 harg1 arg2 harg2 arg3 harg3 arg4 harg4 arg5 harg5 arg6 harg6 arg7 harg7 arg8 harg8 arg9 harg9) K := by
  simp only [cc1__k1b_body_eq_skeleton]; unfold cc1__k1b_body_skel
  simp only [k1_part2_eq_skeleton, k1_part1_eq_skeleton]
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%fs, %hfs, HS⟩, ⟨%ft, %hft, HT⟩, Hk⟩
  obtain rfl := harg1.eq_unread hf1; obtain rfl := harg2.eq_unread hf2; obtain rfl := harg3.eq_unread hf3; obtain rfl := harg8.eq_unread hfs; obtain rfl := harg9.eq_unread hft
  sl_exec (disch := first | sl_exact h0 | sl_exact h1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    refine (View.read_writes_full _ _ _ _ []).trans ?_
    exact farValue_congr (readAt_whole harg1 _ _) ((View.readCov_full _ _ _ _ _).trans
      (least_congr (readAt_whole harg1 _ _) (readAt_whole harg3 _ _) (readAt_whole harg8 _ _)))
  isplitl [H5]
  · iexists _; isplitr
    swap; · iexact H5
    ipureintro
    refine (View.read_writes_full _ _ _ _ []).trans ?_
    exact farRow_congr (readAt_whole harg1 _ _) (readAt_whole harg2 _ _) ((View.readCov_full _ _ _ _ _).trans
      (least_congr (readAt_whole harg1 _ _) (readAt_whole harg3 _ _) (readAt_whole harg8 _ _)))
  isplitl [H6]
  · iexists _; isplitr
    swap; · iexact H6
    ipureintro
    refine (View.read_writes_full _ _ _ _ []).trans ?_
    exact farPlace_congr (readAt_whole harg1 _ _) (readAt_whole harg2 _ _) ((View.readCov_full _ _ _ _ _).trans (least_congr (readAt_whole harg1 _ _) (readAt_whole harg3 _ _) (readAt_whole harg8 _ _)))
      ((View.readCov_full _ _ _ _ _).trans (place_congr (readAt_whole harg1 _ _) (readAt_whole harg3 _ _) (readAt_whole harg8 _ _) (readAt_whole harg9 _ _)))
  isplitl [H7]
  · iexists _; isplitr
    swap; · iexact H7
    ipureintro
    refine (View.read_writes_full _ _ _ _ []).trans ?_
    exact farPatch_congr (readAt_whole harg1 _ _) (readAt_whole harg2 _ _) ((View.readCov_full _ _ _ _ _).trans
      (least_congr (readAt_whole harg1 _ _) (readAt_whole harg3 _ _) (readAt_whole harg8 _ _)))
  isplitl [HS]
  · iexists _; isplitr
    swap; · iexact HS
    ipureintro
    refine (View.read_writes_full _ _ _ _ []).trans ?_
    exact least_congr (readAt_whole harg1 _ _) (readAt_whole harg3 _ _) (readAt_whole harg8 _ _)
  iexists _; isplitr
  swap; · iexact HT
  ipureintro
  refine (View.read_writes_full _ _ _ _ []).trans ?_
  exact place_congr (readAt_whole harg1 _ _) (readAt_whole harg3 _ _) (readAt_whole harg8 _ _)
    (readAt_whole harg9 _ _)
end

end Cert.KernelIdeal
-- ==== Proof.Call2.lean ====
/- The second call: what its buffers hold at every grid point, and that its body keeps to that. -/
module

public import proofs.«01_k».proof.Proof.Run2

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The second call's point of number `n`, counted round its grid. -/
def pt1 (n : ℕ) : Fin cfg1.N := ⟨n % 32, lt_of_lt_of_eq (Nat.mod_lt _ (by decide)) N_1.symm⟩

theorem pt1_val (t : Fin cfg1.N) : pt1 t.val = t := Fin.ext (Nat.mod_eq_of_lt (lt_of_lt_of_eq t.isLt N_1))

/-- Window `w`'s block at a point, read off its array as the second call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The least distances after the point of number `n`. -/
def least1 (c : Dev nD) : ℕ → Vec F S1x16 .f32
  | 0 => least (blk1 V c 0 (pt1 0)) (blk1 V c 2 (pt1 0)) k1_pay15
  | n + 1 => least (blk1 V c 0 (pt1 (n + 1))) (blk1 V c 2 (pt1 (n + 1))) (least1 c n)

/-- Where they were met, after the point of number `n`. -/
def place1 (c : Dev nD) : ℕ → Vec F S1x16 .i32
  | 0 => place (grid1.coords (pt1 0)) (blk1 V c 0 (pt1 0)) (blk1 V c 2 (pt1 0)) k1_pay15 k1_pay16
  | n + 1 => place (grid1.coords (pt1 (n + 1))) (blk1 V c 0 (pt1 (n + 1))) (blk1 V c 2 (pt1 (n + 1))) (least1 V c n) (place1 c n)

/-- The largest least distance the call leaves. -/
def farOut (c : Dev nD) : Vec F S1x1 .f32 := farValue (blk1 V c 0 (pt1 31)) (least1 V c 31)
/-- The number of its row. -/
def farRowOut (c : Dev nD) : Vec F S1x1 .i32 := farRow (blk1 V c 0 (pt1 31)) (blk1 V c 1 (pt1 31)) (least1 V c 31)
/-- Where in the library it was met. -/
def farPlaceOut (c : Dev nD) : Vec F S1x1 .i32 := farPlace (blk1 V c 0 (pt1 31)) (blk1 V c 1 (pt1 31)) (least1 V c 31) (place1 V c 31)
/-- The row. -/
def farPatchOut (c : Dev nD) : Vec F S1x384 .f32 := farPatch (blk1 V c 0 (pt1 31)) (blk1 V c 1 (pt1 31)) (least1 V c 31)

/-- The scoped buffers the second call does not touch. -/
def others1 (c : Dev nD) : sProp 𝕄 :=
  bigSepL [cc0_stg0_0, cc0_stg1_0, cc0_stg2_0, cc0_stg2_1, cc0_stg3_0, cc0_stg4_0, cc0_stg5_0, cc0_scratch0, cc2_stg0_0, cc2_stg2_0, cc2_stg3_0, cc2_stg4_0, cc2_stg5_0, cc2_stg6_0, cc2_stg6_1, cc2_stg8_0, cc2_scratch0, cc2_stg1_0, cc2_stg7_0]
    fun b => iprop(∃ f : Buf (Elt F) ((c : Thread nD τ).loc b), ((c : Thread nD τ).loc b) ↦{fullShare} f)

/-- The second call's data: its arrays as it finds them, its blocks and outputs, and the two scratch buffers between points. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => farOut V c
    | ⟨4, _⟩ => farRowOut V c
    | ⟨5, _⟩ => farPlaceOut V c
    | ⟨6, _⟩ => farPatchOut V c
  Φ t := iprop((∃ d e, ⌜t.val ≠ 0 → (d = least1 V c (t.val - 1) ∧ e = place1 V c (t.val - 1))⌝ ∗ owns (c : Thread nD τ) (Memref.whole cc1_scratch0) fullShare d ∗ owns (c : Thread nD τ) (Memref.whole cc1_scratch1) fullShare e) ∗ others1 c)
  q _ := fullShare
  owed _ := 0

theorem before1_0 (c : Dev nD) (t : Fin cfg1.N) (d) : (dat1 V c).before 0 t d = blk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = blk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = blk1 V c 2 t :=
  ((dat1 V c).before_in_eq_fetched 2 rfl (fun _ => rfl) (fun _ _ _ => rfl) (fun _ => rfl) t d).trans rfl

theorem atRest1 (w : Fin cfg1.W) (hw : 3 ≤ w.val) : ∀ t : Fin cfg1.N, ¬last1 (grid1.coords t) → cfg1.idle w (grid1.coords t) = true := by
  revert w; decide +kernel
theorem noFlush1 (w : Fin cfg1.W) (hw : 3 ≤ w.val) : ∀ t : Fin cfg1.N, ¬last1 (grid1.coords t) → (cfg1.win w).flush t = false := by
  revert w; decide +kernel
theorem live1 (w : Fin cfg1.W) : ∀ t : Fin cfg1.N, last1 (grid1.coords t) → cfg1.idle w (grid1.coords t) = false := by
  revert w; decide +kernel

/-- At a later point the least distances take in that point's block. -/
theorem least1_step (c : Dev nD) (t : Fin cfg1.N) (h : t.val ≠ 0) :
    least (blk1 V c 0 t) (blk1 V c 2 t) (least1 V c (t.val - 1)) = least1 V c t.val := by
  obtain ⟨n, hn⟩ := Nat.exists_eq_succ_of_ne_zero h
  rw [hn, Nat.succ_sub_one]
  show _ = least (blk1 V c 0 (pt1 (n + 1))) (blk1 V c 2 (pt1 (n + 1))) (least1 V c n)
  rw [show pt1 (n + 1) = t from (congrArg pt1 hn.symm).trans (pt1_val t)]

/-- And so does where they were met. -/
theorem place1_step (c : Dev nD) (t : Fin cfg1.N) (h : t.val ≠ 0) :
    place (grid1.coords t) (blk1 V c 0 t) (blk1 V c 2 t) (least1 V c (t.val - 1)) (place1 V c (t.val - 1)) = place1 V c t.val := by
  obtain ⟨n, hn⟩ := Nat.exists_eq_succ_of_ne_zero h
  rw [hn, Nat.succ_sub_one]
  show _ = place (grid1.coords (pt1 (n + 1))) (blk1 V c 0 (pt1 (n + 1))) (blk1 V c 2 (pt1 (n + 1))) (least1 V c n) (place1 V c n)
  rw [show pt1 (n + 1) = t from (congrArg pt1 hn.symm).trans (pt1_val t)]

set_option maxHeartbeats 4000000 in
/-- The body at any point. -/
theorem sound1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d))
        ∗ (∃ d, owns (c : Thread nD τ) (st1_4 t) fullShare ((dat1 V c).before 4 t d))
        ∗ (∃ d, owns (c : Thread nD τ) (st1_5 t) fullShare ((dat1 V c).before 5 t d))
        ∗ (∃ d, owns (c : Thread nD τ) (st1_6 t) fullShare ((dat1 V c).before 6 t d)))
      ⊢ wp frame (wpE (defs₀ (F := F)) Variants.none c none) Set.univ (bodyAt1 t) fun _ =>
        iprop((dat1 V c).Φ t.succ ∗ (dat1 V c).owesAt () t.succ
          ∗ (dat1 V c).leavesExact 0 t ∗ (dat1 V c).leavesExact 1 t ∗ (dat1 V c).leavesExact 2 t ∗ (dat1 V c).leavesExact 3 t ∗ (dat1 V c).leavesExact 4 t ∗ (dat1 V c).leavesExact 5 t ∗ (dat1 V c).leavesExact 6 t) := by
  unfold bodyAt1
  simp only [before1_0, before1_1, before1_2]
  rw [show (dat1 V c).owesAt () t.succ = (dat1 V c).owesAt () t.castSucc from rfl]
  rw [show (dat1 V c).leavesExact 0 t = owns (c : Thread nD τ) (st1_0 t) fullShare (blk1 V c 0 t) from rfl,
    show (dat1 V c).leavesExact 1 t = owns (c : Thread nD τ) (st1_1 t) fullShare (blk1 V c 1 t) from rfl,
    show (dat1 V c).leavesExact 2 t = owns (c : Thread nD τ) (st1_2 t) fullShare (blk1 V c 2 t) from rfl]
  rw [show (dat1 V c).Φ t.castSucc = iprop((∃ d e, ⌜t.val ≠ 0 → (d = least1 V c (t.val - 1) ∧ e = place1 V c (t.val - 1))⌝ ∗ owns (c : Thread nD τ) (Memref.whole cc1_scratch0) fullShare d ∗ owns (c : Thread nD τ) (Memref.whole cc1_scratch1) fullShare e) ∗ others1 c) from rfl,
    show (dat1 V c).Φ t.succ = iprop((∃ d e, ⌜t.val + 1 ≠ 0 → (d = least1 V c (t.val) ∧ e = place1 V c (t.val))⌝ ∗ owns (c : Thread nD τ) (Memref.whole cc1_scratch0) fullShare d ∗ owns (c : Thread nD τ) (Memref.whole cc1_scratch1) fullShare e) ∗ others1 c) from rfl]
  by_cases h1 : last1 (grid1.coords t)
  · have ht : t = pt1 31 := Fin.ext ((last1_iff t).mp h1)
    have h0 : ¬first1 (grid1.coords t) := fun h => by have := (first1_iff t).mp h; have := (last1_iff t).mp h1; omega
    have hz : t.val ≠ 0 := by have := (last1_iff t).mp h1; omega
    rw [show (dat1 V c).leavesExact 3 t = owns (c : Thread nD τ) (st1_3 t) fullShare (farOut V c) from by
        unfold Dat.leavesExact; rw [live1 3 t h1]; rfl,
      show (dat1 V c).leavesExact 4 t = owns (c : Thread nD τ) (st1_4 t) fullShare (farRowOut V c) from by
        unfold Dat.leavesExact; rw [live1 4 t h1]; rfl,
      show (dat1 V c).leavesExact 5 t = owns (c : Thread nD τ) (st1_5 t) fullShare (farPlaceOut V c) from by
        unfold Dat.leavesExact; rw [live1 5 t h1]; rfl,
      show (dat1 V c).leavesExact 6 t = owns (c : Thread nD τ) (st1_6 t) fullShare (farPatchOut V c) from by
        unfold Dat.leavesExact; rw [live1 6 t h1]; rfl]
    have hstep := least1_step V c t hz
    have hstep' := place1_step V c t hz
    have e3 : farOut V c = farValue (blk1 V c 0 t) (least (blk1 V c 0 t) (blk1 V c 2 t) (least1 V c (t.val - 1))) := by rw [hstep, ht]; rfl
    have e4 : farRowOut V c = farRow (blk1 V c 0 t) (blk1 V c 1 t) (least (blk1 V c 0 t) (blk1 V c 2 t) (least1 V c (t.val - 1))) := by rw [hstep, ht]; rfl
    have e5 : farPlaceOut V c = farPlace (blk1 V c 0 t) (blk1 V c 1 t) (least (blk1 V c 0 t) (blk1 V c 2 t) (least1 V c (t.val - 1)))
        (place (grid1.coords t) (blk1 V c 0 t) (blk1 V c 2 t) (least1 V c (t.val - 1)) (place1 V c (t.val - 1))) := by rw [hstep, hstep', ht]; rfl
    have e6 : farPatchOut V c = farPatch (blk1 V c 0 t) (blk1 V c 1 t) (least (blk1 V c 0 t) (blk1 V c 2 t) (least1 V c (t.val - 1))) := by rw [hstep, ht]; rfl
    rw [e3, e4, e5, e6]
    iintro ⟨⟨⟨%ds, %es, %hs, HS, HT⟩, Hg⟩, Ho, ⟨%d0, H0⟩, ⟨%d1, H1⟩, ⟨%d2, H2⟩, ⟨%d3, H3⟩, ⟨%d4, H4⟩, ⟨%d5, H5⟩, ⟨%d6, H6⟩⟩
    obtain ⟨rfl, rfl⟩ := hs hz
    iapply (run1_last c (grid1.coords t) _ _ _ _ _ _ _ _ _ _ _ _ _ _ _ _ _ _ (blk1 V c 0 t) (blk1 V c 1 t) (blk1 V c 2 t)
      (least1 V c (t.val - 1)) (place1 V c (t.val - 1)) h0 h1 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [HS]; · iexact HS
    isplitl [HT]; · iexact HT
    iintro ⟨H0, H1, H2, H3, H4, H5, H6, HS, HT⟩
    isplitl [HS HT Hg]
    · isplitl [HS HT]
      · iexists _; iexists _; isplitr
        swap
        · isplitl [HS]; · iexact HS
          iexact HT
        ipureintro; exact fun _ => ⟨hstep, hstep'⟩
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Dat.leavesExact_idle (dat1 V c) 3 t (atRest1 3 (by decide) t h1) (noFlush1 3 (by decide) t h1),
      Dat.leavesExact_idle (dat1 V c) 4 t (atRest1 4 (by decide) t h1) (noFlush1 4 (by decide) t h1),
      Dat.leavesExact_idle (dat1 V c) 5 t (atRest1 5 (by decide) t h1) (noFlush1 5 (by decide) t h1),
      Dat.leavesExact_idle (dat1 V c) 6 t (atRest1 6 (by decide) t h1) (noFlush1 6 (by decide) t h1)]
    by_cases h0 : first1 (grid1.coords t)
    · have hz : t.val = 0 := (first1_iff t).mp h0
      iintro ⟨⟨⟨%ds, %es, %hs, HS, HT⟩, Hg⟩, Ho, ⟨%d0, H0⟩, ⟨%d1, H1⟩, ⟨%d2, H2⟩, H3, H4, H5, H6⟩
      iapply (run1_first c (grid1.coords t) _ _ _ _ _ _ _ _ _ _ _ _ _ _ _ _ _ _ (blk1 V c 0 t) (blk1 V c 2 t) h0 h1 Set.univ _)
      isplitl [H0]; · iexact H0
      isplitl [H2]; · iexact H2
      isplitl [HS]; · iexists _; iexact HS
      isplitl [HT]; · iexists _; iexact HT
      iintro ⟨H0, H2, HS, HT⟩
      isplitl [HS HT Hg]
      · isplitl [HS HT]
        · iexists _; iexists _; isplitr
          swap
          · isplitl [HS]; · iexact HS
            iexact HT
          ipureintro
          intro _
          rw [hz, show t = pt1 0 from Fin.ext hz]
          exact ⟨rfl, rfl⟩
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hz : t.val ≠ 0 := fun h => h0 ((first1_iff t).mpr h)
      iintro ⟨⟨⟨%ds, %es, %hs, HS, HT⟩, Hg⟩, Ho, ⟨%d0, H0⟩, ⟨%d1, H1⟩, ⟨%d2, H2⟩, H3, H4, H5, H6⟩
      obtain ⟨rfl, rfl⟩ := hs hz
      iapply (run1_middle c (grid1.coords t) _ _ _ _ _ _ _ _ _ _ _ _ _ _ _ _ _ _ (blk1 V c 0 t) (blk1 V c 2 t) (least1 V c (t.val - 1)) (place1 V c (t.val - 1)) h0 h1 Set.univ _)
      isplitl [H0]; · iexact H0
      isplitl [H2]; · iexact H2
      isplitl [HS]; · iexact HS
      isplitl [HT]; · iexact HT
      iintro ⟨H0, H2, HS, HT⟩
      isplitl [HS HT Hg]
      · isplitl [HS HT]
        · iexists _; iexists _; isplitr
          swap
          · isplitl [HS]; · iexact HS
            iexact HT
          ipureintro
          exact fun _ => ⟨least1_step V c t hz, place1_step V c t hz⟩
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body's row of the table at a point's buffers. -/
theorem row1 (t : Fin cfg1.N) : defs₀ (F := F) .tc cfg1.body (cfg1.bodyArgs t (cfg1.slots t)) = bodyAt1 t := by
  unfold defs₀; rw [Defs.onTc_tc]

/-- The second call's body obligation. -/
theorem obligation1 (c : Dev nD) : BodyObligation (dat1 V c) (defs₀ (F := F)) Variants.none () Set.univ := fun t => by
  rw [bigSep_W1, bigSep_W1, row1]
  exact triple_restated (sound1 V c t) rfl .rfl fun _ => .rfl

theorem scoped1 (c : Dev nD) : Pipeline.scopedRest spec1 c
    = (iprop((∃ f : Buf (Elt F) ((c : Thread nD τ).loc cc1_scratch0), ((c : Thread nD τ).loc cc1_scratch0) ↦{fullShare} f)
        ∗ (∃ f : Buf (Elt F) ((c : Thread nD τ).loc cc1_scratch1), ((c : Thread nD τ).loc cc1_scratch1) ↦{fullShare} f) ∗ others1 c) : sProp 𝕄) :=
  Pipeline.scopedRest_eq_of_list spec1 c (cc1_scratch0 :: cc1_scratch1 :: [cc0_stg0_0, cc0_stg1_0, cc0_stg2_0, cc0_stg2_1, cc0_stg3_0, cc0_stg4_0, cc0_stg5_0, cc0_scratch0, cc2_stg0_0, cc2_stg2_0, cc2_stg3_0, cc2_stg4_0, cc2_stg5_0, cc2_stg6_0, cc2_stg6_1, cc2_stg8_0, cc2_scratch0, cc2_stg1_0, cc2_stg7_0])
    (by decide) (by decide)

/-- The invariant at the grid's start, from the scoped buffers. -/
theorem in1 (c : Dev nD) : Pipeline.scopedRest spec1 c ⊢ (dat1 V c).Φ 0 := by
  rw [show (dat1 V c).Φ 0 = iprop((∃ d e, ⌜(0 : ℕ) ≠ 0 → (d = least1 V c (0 - 1) ∧ e = place1 V c (0 - 1))⌝ ∗ owns (c : Thread nD τ) (Memref.whole cc1_scratch0) fullShare d ∗ owns (c : Thread nD τ) (Memref.whole cc1_scratch1) fullShare e) ∗ others1 c) from rfl]
  rw [scoped1]
  iintro ⟨⟨%f, H⟩, ⟨%g, H'⟩, Hg⟩
  isplitl [H H']
  · iexists f; iexists g; isplitr; · ipureintro; exact fun h => absurd rfl h
    rw [owns_whole_eq, owns_whole_eq]
    isplitl [H]
    · iexists f; isplitr; · ipureintro; rfl
      iexact H
    iexists g; isplitr; · ipureintro; rfl
    iexact H'
  iexact Hg

/-- At its end they are given back. -/
theorem out1 (c : Dev nD) : (dat1 V c).Φ (Fin.last cfg1.N) ⊢ Pipeline.scopedRest spec1 c := by
  rw [show (dat1 V c).Φ (Fin.last cfg1.N) = iprop((∃ d e, ⌜(Fin.last cfg1.N).val ≠ 0 → (d = least1 V c ((Fin.last cfg1.N).val - 1) ∧ e = place1 V c ((Fin.last cfg1.N).val - 1))⌝ ∗ owns (c : Thread nD τ) (Memref.whole cc1_scratch0) fullShare d ∗ owns (c : Thread nD τ) (Memref.whole cc1_scratch1) fullShare e) ∗ others1 c) from rfl]
  rw [scoped1]
  simp only [owns_whole_eq]
  iintro ⟨⟨%d, %e, -, ⟨%f, -, H⟩, ⟨%g, -, H'⟩⟩, Hg⟩
  isplitl [H]; · iexists f; iexact H
  isplitl [H']; · iexists g; iexact H'
  iexact Hg

end Cert.KernelIdeal
-- ==== Proof.Run3.lean ====
/- What the third call's body does at a grid point: it writes the block's squared distances to eight given rows into its
   place of the table; at the last point it computes the score and the smoothed map. -/
module

public import proofs.«01_k».proof.Proof.Run1

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- The program asks whether this is the last point of the third call's grid. -/
abbrev last2 (i : grid2.Coords) : Prop := k2_cond1 i = 1#1

theorem last2_iff (t : Fin cfg2.N) : last2 (grid2.coords t) ↔ t.val = 31 := by
  have ht : t.val < 32 := Nat.lt_of_lt_of_eq t.isLt N_2
  have e0 : (grid2.coords t 0).val = t.val / 1 % 32 := Pipeline.Grid.coords_val t 0 (by decide) rfl
  have : last2 (grid2.coords t) ↔ t.val % 32 = 31 := by
    simp only [last2, k2_cond1, e0]
    word_cmp
  rw [this, Nat.mod_eq_of_lt ht]

/-- The table with a block's distances in its place. -/
def table (i : grid2.Coords) (s : Vec F S8x65536 .f32) (x0 : Vec F S8x384 .f32) (x6 : Vec F S2048x384 .f32) : Vec F S8x65536 .f32 :=
  VecWindow.put s (k2_off1 i) S8x2048.size (k2_pay2 x0 x6)

/-- The score, from the eight rows, the largest least distance and the table. -/
def score (x0 : Vec F S8x384 .f32) (x1 : Vec F S1x1 .f32) (s : Vec F S8x65536 .f32) : Vec F S1x1 .f32 :=
  fun _ => k2_pay9 (k2_pay5 (k2_pay1 x0) s) (iota .tc S1x65536 32 [1] iota_S1x65536_d1_w32)
    (extractAt ![0, 0, 0] (k2_pay7 (k2_pay1 x0) s) inpos_S1x1x1_p0_0_0) (k2_pay8 (k2_pay1 x0) s) 65536#32 (x1 (Shape.Idx.first (s := S1x1) (numel1_S1x1.symm ▸ Nat.one_pos)))

/-- The smoothed map. -/
def smoothed (x2 : Vec F S1x704 .f32) (x3 : Vec F S224x704 .f32) (x4 x5 : Vec F S224x704 .bf16) : Vec F S224x224 .f32 :=
  k2_pay3 (k2_pay10 x3) x2 x4 x5

section
variable (c : Dev nD) (i : grid2.Coords) (arg1 : Memref sig .tc .vmem S8x384 .f32) (harg1 : arg1.IsWhole)
  (arg2 : Memref sig .tc .smem S1x1 .f32) (harg2 : arg2.IsWhole) (arg3 : Memref sig .tc .vmem S1x704 .f32) (harg3 : arg3.IsWhole)
  (arg4 : Memref sig .tc .vmem S224x704 .f32) (harg4 : arg4.IsWhole) (arg5 : Memref sig .tc .vmem S224x704 .bf16) (harg5 : arg5.IsWhole)
  (arg6 : Memref sig .tc .vmem S224x704 .bf16) (harg6 : arg6.IsWhole) (arg7 : Memref sig .tc .vmem S2048x384 .f32) (harg7 : arg7.IsWhole)
  (arg8 : Memref sig .tc .smem S1x1 .f32) (harg8 : arg8.IsWhole) (arg9 : Memref sig .tc .vmem S224x224 .f32) (harg9 : arg9.IsWhole)
  (arg10 : Memref sig .tc .vmem S8x65536 .f32) (harg10 : arg10.IsWhole)
  (x0 : Vec F S8x384 .f32) (x1 : Vec F S1x1 .f32) (x2 : Vec F S1x704 .f32) (x3 : Vec F S224x704 .f32) (x4 x5 : Vec F S224x704 .bf16)
  (x6 : Vec F S2048x384 .f32) (s : Vec F S8x65536 .f32)

set_option maxHeartbeats 1000000 in
/-- A point before the last: the block's distances go into their place. -/
theorem run2_before (h1 : ¬last2 i) (E : Set ℕ) (K : PUnit → sProp 𝕄) :
    iprop(owns (c : Thread nD τ) arg1 fullShare x0 ∗ owns (c : Thread nD τ) arg7 fullShare x6 ∗ owns (c : Thread nD τ) arg10 fullShare s
        ∗ (iprop(owns (c : Thread nD τ) arg1 fullShare x0 ∗ owns (c : Thread nD τ) arg7 fullShare x6 ∗ owns (c : Thread nD τ) arg10 fullShare (table i s x0 x6)) -∗ K ⟨⟩))
      ⊢ wp frame (wpE (defs₀ (F := F)) Variants.none c none) E
          (cc2__k2_body i arg1 harg1 arg2 harg2 arg3 harg3 arg4 harg4 arg5 harg5 arg6 harg6 arg7 harg7 arg8 harg8 arg9 harg9 arg10 harg10) K := by
  simp only [cc2__k2_body_eq_skeleton]; unfold cc2__k2_body_skel
  unfold owns
  iintro ⟨⟨%f1, %hf1, H1⟩, ⟨%f2, %hf2, H2⟩, ⟨%fs, %hfs, HS⟩, Hk⟩
  obtain rfl := harg1.eq_unread hf1; obtain rfl := harg7.eq_unread hf2; obtain rfl := harg10.eq_unread hfs
  sl_exec (disch := first | sl_exact h1)
  sl_step
  iapply Hk
  isplitl [H1]
  · iexists _; isplitr; · ipureintro; exact harg1.read_unread _
    iexact H1
  isplitl [H2]
  · iexists _; isplitr; · ipureintro; exact harg7.read_unread _
    iexact H2
  iexists _; isplitr
  swap; · iexact HS
  ipureintro
  refine (View.read_writes_cons_put _ _ _ _ [] rfl).trans ?_
  show table i _ _ _ = table i s x0 x6
  exact congr (congr (congrArg (table i) hfs) (readAt_whole harg1 _ _)) (readAt_whole harg7 _ _)

set_option maxHeartbeats 2000000 in
/-- The last point: the block's distances go into their place, and the two outputs are written. -/
theorem run2_last (h1 : last2 i) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ owns (c : Thread nD τ) arg10 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (score x0 x1 (table i s x0 x6)) ∗ owns (c : Thread nD τ) arg9 fullShare (smoothed x2 x3 x4 x5)
            ∗ owns (c : Thread nD τ) arg10 fullShare (table i s x0 x6)) -∗ K ⟨⟩))
      ⊢ wp frame (wpE (defs₀ (F := F)) Variants.none c none) E
          (cc2__k2_body i arg1 harg1 arg2 harg2 arg3 harg3 arg4 harg4 arg5 harg5 arg6 harg6 arg7 harg7 arg8 harg8 arg9 harg9 arg10 harg10) K := by
  simp only [cc2__k2_body_eq_skeleton]; unfold cc2__k2_body_skel
  simp only [k2_part1_eq_skeleton, k2_part2_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs, %hfs, HS⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg10.eq_unread hfs
  sl_exec (disch := first | sl_exact h1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    refine (View.read_writes_full _ _ _ _ []).trans ?_
    have ht : arg10.view.readAt (Elt F) (Rect.unit ![0, 0] S8x65536.size inb_S8x65536_S8x65536_0_0).toLoadRect
        (arg10.view.writes (Elt F) (harg10.unread s) (run2_last.sl.HS_1 c i arg1 harg1 arg7 harg7 x0 x6)) = table i s x0 x6 := by
      refine (View.readAt_full _ _ _).trans ((View.read_writes_cons_put _ _ _ _ [] rfl).trans ?_)
      show table i _ _ _ = table i s x0 x6
      exact congr (congr (congrArg (table i) hfs) (readAt_whole harg1 _ _)) (readAt_whole harg7 _ _)
    exact congr (congr (congrArg score (readAt_whole harg1 x0 inb_S8x384_S8x384_0_0)) (readAt_whole harg2 x1 inb_S1x1_S1x1_0_0)) ht
  isplitl [H9]
  · iexists _; isplitr
    swap; · iexact H9
    ipureintro
    refine (View.read_writes_full _ _ _ _ []).trans ?_
    exact congr (congr (congr (congrArg smoothed (readAt_whole harg3 _ _)) (readAt_whole harg4 _ _)) (readAt_whole harg5 _ _)) (readAt_whole harg6 _ _)
  iexists _; isplitr
  swap; · iexact HS
  ipureintro
  refine (View.read_writes_cons_put _ _ _ _ [] rfl).trans ?_
  show table i _ _ _ = table i s x0 x6
  exact congr (congr (congrArg (table i) hfs) (readAt_whole harg1 _ _)) (readAt_whole harg7 _ _)
end

end Cert.KernelIdeal
-- ==== Proof.Call3.lean ====
/- The third call: what its buffers hold at every grid point, and that its body keeps to that. -/
module

public import proofs.«01_k».proof.Proof.Run3
public import Idealize.ShloMosaic.Lib.Pointwise

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The third call's point of number `n`, counted round its grid. -/
def pt2 (n : ℕ) : Fin cfg2.N := ⟨n % 32, lt_of_lt_of_eq (Nat.mod_lt _ (by decide)) N_2.symm⟩

theorem pt2_val (t : Fin cfg2.N) : pt2 t.val = t := Fin.ext (Nat.mod_eq_of_lt (lt_of_lt_of_eq t.isLt N_2))

/-- Window `w`'s block at a point, read off its array as the third call finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The table once every block is in its place. -/
def tableOut (c : Dev nD) : Vec F S8x65536 .f32 := fun y =>
  k2_pay2 (blk2 V c 0 (pt2 ((y 1).val / 2048))) (blk2 V c 6 (pt2 ((y 1).val / 2048))) (ix2 (y 0) ⟨(y 1).val % 2048, Nat.mod_lt _ (by decide)⟩)

/-- The table's first `n` blocks are in their places. -/
def Filled (c : Dev nD) (n : ℕ) (d : Vec F S8x65536 .f32) : Prop := ∀ y : S8x65536.Idx, (y 1).val < 2048 * n → d y = tableOut V c y

theorem offset2 : ∀ t : Fin cfg2.N, k2_off1 (grid2.coords t) 1 = t.val * 2048 ∧ k2_off1 (grid2.coords t) 0 = 0 := by decide +kernel

/-- A point puts its block in its place. -/
theorem filled_step (c : Dev nD) (t : Fin cfg2.N) (d : Vec F S8x65536 .f32) (hd : Filled V c t.val d) :
    Filled V c (t.val + 1) (table (grid2.coords t) d (blk2 V c 0 t) (blk2 V c 6 t)) := by
  intro y hy
  have ho := offset2 t
  unfold table VecWindow.put
  split_ifs with h
  · have h1 := h 1
    have hs : S8x2048.size 1 = 2048 := rfl
    rw [ho.1] at h1
    have hq : (y 1).val / 2048 = t.val := by omega
    unfold tableOut
    rw [hq, pt2_val]
    congr 1
    funext a
    apply Fin.ext
    match a with
    | ⟨0, _⟩ => show (y 0).val - k2_off1 (grid2.coords t) 0 = (y 0).val; rw [ho.2]; rfl
    | ⟨1, _⟩ => show (y 1).val - k2_off1 (grid2.coords t) 1 = (y 1).val % 2048; rw [ho.1]; omega
  · refine hd y (not_le.mp fun hle => h fun a => ?_)
    match a with
    | ⟨0, _⟩ => have h8 : (y 0).val < 8 := (y 0).isLt
                show k2_off1 (grid2.coords t) 0 ≤ (y 0).val ∧ (y 0).val < k2_off1 (grid2.coords t) 0 + 8
                rw [ho.2]; omega
    | ⟨1, _⟩ => show k2_off1 (grid2.coords t) 1 ≤ (y 1).val ∧ (y 1).val < k2_off1 (grid2.coords t) 1 + 2048
                rw [ho.1]; omega

theorem filled_all (c : Dev nD) (d : Vec F S8x65536 .f32) (hd : Filled V c 32 d) : d = tableOut V c :=
  funext fun y => hd y (by have h : (y 1).val < 65536 := (y 1).isLt; omega)

/-- The score the call leaves. -/
def scoreOut (c : Dev nD) : Vec F S1x1 .f32 := score (blk2 V c 0 (pt2 31)) (blk2 V c 1 (pt2 31)) (tableOut V c)
/-- The smoothed map it leaves. -/
def mapOut (c : Dev nD) : Vec F S224x224 .f32 := smoothed (blk2 V c 2 (pt2 31)) (blk2 V c 3 (pt2 31)) (blk2 V c 4 (pt2 31)) (blk2 V c 5 (pt2 31))

/-- The scoped buffers the third call does not touch. -/
def others2 (c : Dev nD) : sProp 𝕄 :=
  bigSepL [cc0_stg0_0, cc0_stg1_0, cc0_stg2_0, cc0_stg2_1, cc0_stg3_0, cc0_stg4_0, cc0_stg5_0, cc0_scratch0, cc1_stg0_0, cc1_stg1_0, cc1_stg2_0, cc1_stg2_1, cc1_stg6_0, cc1_scratch0, cc1_scratch1, cc1_stg3_0, cc1_stg4_0, cc1_stg5_0]
    fun b => iprop(∃ f : Buf (Elt F) ((c : Thread nD τ).loc b), ((c : Thread nD τ).loc b) ↦{fullShare} f)

/-- The third call's data: its arrays as it finds them, its blocks and outputs, and the table between points. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => blk2 V c 6 t
    | ⟨7, _⟩ => scoreOut V c
    | ⟨8, _⟩ => mapOut V c
  Φ t := iprop((∃ d, ⌜Filled V c (t.val) d⌝ ∗ owns (c : Thread nD τ) (Memref.whole cc2_scratch0) fullShare d) ∗ others2 c)
  q _ := fullShare
  owed _ := 0

theorem before2_0 (c : Dev nD) (t : Fin cfg2.N) (d) : (dat2 V c).before 0 t d = blk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = blk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = blk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = blk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = blk2 V c 4 t :=
  ((dat2 V c).before_in_eq_fetched 4 rfl (fun _ => rfl) (fun _ _ _ => rfl) (fun _ => rfl) t d).trans rfl
theorem before2_5 (c : Dev nD) (t : Fin cfg2.N) (d) : (dat2 V c).before 5 t d = blk2 V c 5 t :=
  ((dat2 V c).before_in_eq_fetched 5 rfl (fun _ => rfl) (fun _ _ _ => rfl) (fun _ => rfl) t d).trans rfl
theorem before2_6 (c : Dev nD) (t : Fin cfg2.N) (d) : (dat2 V c).before 6 t d = blk2 V c 6 t :=
  ((dat2 V c).before_in_eq_fetched 6 rfl (fun _ => rfl) (fun _ _ _ => rfl) (fun _ => rfl) t d).trans rfl

theorem atRest2 (w : Fin cfg2.W) (hw : 7 ≤ w.val) : ∀ t : Fin cfg2.N, ¬last2 (grid2.coords t) → cfg2.idle w (grid2.coords t) = true := by
  revert w; decide +kernel
theorem noFlush2 (w : Fin cfg2.W) (hw : 7 ≤ w.val) : ∀ t : Fin cfg2.N, ¬last2 (grid2.coords t) → (cfg2.win w).flush t = false := by
  revert w; decide +kernel
theorem live2 (w : Fin cfg2.W) : ∀ t : Fin cfg2.N, last2 (grid2.coords t) → cfg2.idle w (grid2.coords t) = false := by
  revert w; decide +kernel

set_option maxHeartbeats 4000000 in
/-- The body at any point. -/
theorem sound2 (c : Dev nD) (t : Fin cfg2.N) :
    iprop((dat2 V c).Φ t.castSucc ∗ (dat2 V c).owesAt () t.castSucc
        ∗ (∃ d, owns (c : Thread nD τ) (st2_0 t) fullShare ((dat2 V c).before 0 t d))
        ∗ (∃ d, owns (c : Thread nD τ) (st2_1 t) fullShare ((dat2 V c).before 1 t d))
        ∗ (∃ d, owns (c : Thread nD τ) (st2_2 t) fullShare ((dat2 V c).before 2 t d))
        ∗ (∃ d, owns (c : Thread nD τ) (st2_3 t) fullShare ((dat2 V c).before 3 t d))
        ∗ (∃ d, owns (c : Thread nD τ) (st2_4 t) fullShare ((dat2 V c).before 4 t d))
        ∗ (∃ d, owns (c : Thread nD τ) (st2_5 t) fullShare ((dat2 V c).before 5 t d))
        ∗ (∃ d, owns (c : Thread nD τ) (st2_6 t) fullShare ((dat2 V c).before 6 t d))
        ∗ (∃ d, owns (c : Thread nD τ) (st2_7 t) fullShare ((dat2 V c).before 7 t d))
        ∗ (∃ d, owns (c : Thread nD τ) (st2_8 t) fullShare ((dat2 V c).before 8 t d)))
      ⊢ wp frame (wpE (defs₀ (F := F)) Variants.none c none) Set.univ (bodyAt2 t) fun _ =>
        iprop((dat2 V c).Φ t.succ ∗ (dat2 V c).owesAt () t.succ
          ∗ (dat2 V c).leavesExact 0 t ∗ (dat2 V c).leavesExact 1 t ∗ (dat2 V c).leavesExact 2 t ∗ (dat2 V c).leavesExact 3 t ∗ (dat2 V c).leavesExact 4 t ∗ (dat2 V c).leavesExact 5 t ∗ (dat2 V c).leavesExact 6 t ∗ (dat2 V c).leavesExact 7 t ∗ (dat2 V c).leavesExact 8 t) := by
  unfold bodyAt2
  simp only [before2_0, before2_1, before2_2, before2_3, before2_4, before2_5, before2_6]
  rw [show (dat2 V c).owesAt () t.succ = (dat2 V c).owesAt () t.castSucc from rfl]
  rw [show (dat2 V c).leavesExact 0 t = owns (c : Thread nD τ) (st2_0 t) fullShare (blk2 V c 0 t) from rfl,
    show (dat2 V c).leavesExact 1 t = owns (c : Thread nD τ) (st2_1 t) fullShare (blk2 V c 1 t) from rfl,
    show (dat2 V c).leavesExact 2 t = owns (c : Thread nD τ) (st2_2 t) fullShare (blk2 V c 2 t) from rfl,
    show (dat2 V c).leavesExact 3 t = owns (c : Thread nD τ) (st2_3 t) fullShare (blk2 V c 3 t) from rfl,
    show (dat2 V c).leavesExact 4 t = owns (c : Thread nD τ) (st2_4 t) fullShare (blk2 V c 4 t) from rfl,
    show (dat2 V c).leavesExact 5 t = owns (c : Thread nD τ) (st2_5 t) fullShare (blk2 V c 5 t) from rfl,
    show (dat2 V c).leavesExact 6 t = owns (c : Thread nD τ) (st2_6 t) fullShare (blk2 V c 6 t) from rfl]
  rw [show (dat2 V c).Φ t.castSucc = iprop((∃ d, ⌜Filled V c (t.val) d⌝ ∗ owns (c : Thread nD τ) (Memref.whole cc2_scratch0) fullShare d) ∗ others2 c) from rfl,
    show (dat2 V c).Φ t.succ = iprop((∃ d, ⌜Filled V c (t.val + 1) d⌝ ∗ owns (c : Thread nD τ) (Memref.whole cc2_scratch0) fullShare d) ∗ others2 c) from rfl]
  by_cases h1 : last2 (grid2.coords t)
  · have ht : t = pt2 31 := Fin.ext ((last2_iff t).mp h1)
    rw [show (dat2 V c).leavesExact 7 t = owns (c : Thread nD τ) (st2_7 t) fullShare (scoreOut V c) from by
        unfold Dat.leavesExact; rw [live2 7 t h1]; rfl,
      show (dat2 V c).leavesExact 8 t = owns (c : Thread nD τ) (st2_8 t) fullShare (mapOut V c) from by
        unfold Dat.leavesExact; rw [live2 8 t h1]; rfl]
    iintro ⟨⟨⟨%ds, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have hstep := filled_step V c t ds hs
    have e7 : scoreOut V c = score (blk2 V c 0 t) (blk2 V c 1 t) (table (grid2.coords t) ds (blk2 V c 0 t) (blk2 V c 6 t)) := by
      have hv : Filled V c 32 (table (grid2.coords t) ds (blk2 V c 0 t) (blk2 V c 6 t)) := by rw [(last2_iff t).mp h1] at hstep; exact hstep
      rw [filled_all V c _ hv, ht]; rfl
    have e8 : mapOut V c = smoothed (blk2 V c 2 t) (blk2 V c 3 t) (blk2 V c 4 t) (blk2 V c 5 t) := by rw [ht]; rfl
    rw [e7, e8]
    iapply (run2_last c (grid2.coords t) _ _ _ _ _ _ _ _ _ _ _ _ _ _ _ _ _ _ _ _ (blk2 V c 0 t) (blk2 V c 1 t) (blk2 V c 2 t) (blk2 V c 3 t) (blk2 V c 4 t) (blk2 V c 5 t) (blk2 V c 6 t) ds h1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    iintro ⟨H0, H1, H2, H3, H4, H5, H6, H7, H8, HS⟩
    isplitl [HS Hg]
    · isplitl [HS]
      · iexists _; isplitr
        swap; · iexact HS
        ipureintro; exact hstep
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [Dat.leavesExact_idle (dat2 V c) 7 t (atRest2 7 (by decide) t h1) (noFlush2 7 (by decide) t h1),
      Dat.leavesExact_idle (dat2 V c) 8 t (atRest2 8 (by decide) t h1) (noFlush2 8 (by decide) t h1)]
    iintro ⟨⟨⟨%ds, %hs, HS⟩, Hg⟩, Ho, ⟨%d0, H0⟩, ⟨%d1, H1⟩, ⟨%d2, H2⟩, ⟨%d3, H3⟩, ⟨%d4, H4⟩, ⟨%d5, H5⟩, ⟨%d6, H6⟩, H7, H8⟩
    iapply (run2_before c (grid2.coords t) _ _ _ _ _ _ _ _ _ _ _ _ _ _ _ _ _ _ _ _ (blk2 V c 0 t) (blk2 V c 6 t) ds h1 Set.univ _)
    isplitl [H0]; · iexact H0
    isplitl [H6]; · iexact H6
    isplitl [HS]; · iexact HS
    iintro ⟨H0, H6, HS⟩
    isplitl [HS Hg]
    · isplitl [HS]
      · iexists _; isplitr
        swap; · iexact HS
        ipureintro; exact filled_step V c t ds hs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body's row of the table at a point's buffers. -/
theorem row2 (t : Fin cfg2.N) : defs₀ (F := F) .tc cfg2.body (cfg2.bodyArgs t (cfg2.slots t)) = bodyAt2 t := by
  unfold defs₀; rw [Defs.onTc_tc]

/-- The third call's body obligation. -/
theorem obligation2 (c : Dev nD) : BodyObligation (dat2 V c) (defs₀ (F := F)) Variants.none () Set.univ := fun t => by
  rw [bigSep_W2, bigSep_W2, row2]
  exact triple_restated (sound2 V c t) rfl .rfl fun _ => .rfl

theorem scoped2 (c : Dev nD) : Pipeline.scopedRest spec2 c
    = (iprop((∃ f : Buf (Elt F) ((c : Thread nD τ).loc cc2_scratch0), ((c : Thread nD τ).loc cc2_scratch0) ↦{fullShare} f) ∗ others2 c) : sProp 𝕄) :=
  Pipeline.scopedRest_eq_of_list spec2 c (cc2_scratch0 :: [cc0_stg0_0, cc0_stg1_0, cc0_stg2_0, cc0_stg2_1, cc0_stg3_0, cc0_stg4_0, cc0_stg5_0, cc0_scratch0, cc1_stg0_0, cc1_stg1_0, cc1_stg2_0, cc1_stg2_1, cc1_stg6_0, cc1_scratch0, cc1_scratch1, cc1_stg3_0, cc1_stg4_0, cc1_stg5_0])
    (by decide) (by decide)

/-- The invariant at the grid's start, from the scoped buffers. -/
theorem in2 (c : Dev nD) : Pipeline.scopedRest spec2 c ⊢ (dat2 V c).Φ 0 := by
  rw [show (dat2 V c).Φ 0 = iprop((∃ d, ⌜Filled V c (0) d⌝ ∗ owns (c : Thread nD τ) (Memref.whole cc2_scratch0) fullShare d) ∗ others2 c) from rfl]
  rw [scoped2]
  iintro ⟨⟨%f, H⟩, Hg⟩
  isplitl [H]
  · iexists f; isplitr; · ipureintro; exact fun y hy => absurd hy (by omega)
    rw [owns_whole_eq]; iexists f; isplitr; · ipureintro; rfl
    iexact H
  iexact Hg

/-- At its end they are given back. -/
theorem out2 (c : Dev nD) : (dat2 V c).Φ (Fin.last cfg2.N) ⊢ Pipeline.scopedRest spec2 c := by
  rw [show (dat2 V c).Φ (Fin.last cfg2.N) = iprop((∃ d, ⌜Filled V c ((Fin.last cfg2.N).val) d⌝ ∗ owns (c : Thread nD τ) (Memref.whole cc2_scratch0) fullShare d) ∗ others2 c) from rfl]
  rw [scoped2]
  simp only [owns_whole_eq]
  iintro ⟨⟨%d, -, %f, -, H⟩, Hg⟩
  isplitl [H]; · iexists f; iexact H
  iexact Hg

end Cert.KernelIdeal
-- ==== Proof.Whole.lean ====
/- The whole program: what each call leaves, each call's record between its neighbours, and the program's run. -/
module

public import proofs.«01_k».proof.Proof.Call1
public import proofs.«01_k».proof.Proof.Call2
public import proofs.«01_k».proof.Proof.Call3
public import proofs.«01_k».proof.Proof.Gen.KernelIdeal.Regions
public import Idealize.ShloMosaic.Lib.Pipeline.RegionArraysS

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every buffer after the first call. -/
def after0 (c : Dev nD) : Valuation τ sig (Elt F) := Pipeline.afterRegion (dat0 (fun c b => V3 m c b) c) (V3 m c)

/-- What is known once the first call is done. -/
def outsA : Outs (F := F) := fun _ r c => after0 m c r

/-- Every buffer after the second call. -/
def after1 (c : Dev nD) : Valuation τ sig (Elt F) := Pipeline.afterRegion (dat1 (fun c b => V4 m (outsA m) c b) c) (V4 m (outsA m) c)

/-- What is known once the second call is done. -/
def outsB : Outs (F := F)
  | 4, r, c => after0 m c r
  | _, r, c => after1 m c r

/-- Every buffer after the third call. -/
def after2 (c : Dev nD) : Valuation τ sig (Elt F) := Pipeline.afterRegion (dat2 (fun c b => V16 m (outsB m) c b) c) (V16 m (outsB m) c)

/-- What the three calls leave. -/
def outs : Outs (F := F)
  | 4, r, c => after0 m c r
  | 5, r, c => after1 m c r
  | _, r, c => after2 m c r

theorem V4_outs (c : Dev nD) : V4 m (outsA m) c = V4 m (outs m) c := rfl

theorem V16_congr (o o' : Outs (F := F)) (c : Dev nD) (h4 : ∀ r c, o 4 r c = o' 4 r c) (h5 : ∀ r c, o 5 r c = o' 5 r c) : V16 m o c = V16 m o' c := by
  have h : V5 m o c = V5 m o' c := by simp only [V5, V4, h4, h5]
  unfold V16 V15 V14 V13 V12 V11 V10 V9 V8 V7 V6
  rw [h]

theorem V16_outs (c : Dev nD) : V16 m (outsB m) c = V16 m (outs m) c := V16_congr m _ _ c (fun _ _ => rfl) (fun _ _ => rfl)

/-- A call leaves every buffer as it was but the arrays of its outputs. -/
theorem held_after {Λ : Idealize.SL.Sem.Labels} {cfg : Cfg sig Λ} {c : Dev nD} (dat : Dat τ (Elt F) Unit ℕ (UR sig nD τ) ℕ cfg c) (V V' : Valuation τ sig (Elt F))
    (l : List (Ref sig .tc)) (hinj : Function.Injective (Pipeline.arrRef cfg.spec))
    (hA : ∀ w, dat.A w = V (Proc.devRef .tc (Pipeline.arrRef cfg.spec w)))
    (hkeep : ∀ r : Ref sig .tc, r ∉ l → V' (Proc.devRef .tc r) = V (Proc.devRef .tc r))
    (hout : ∀ r ∈ l, V' (Proc.devRef .tc r) = Pipeline.afterRegion dat V (Proc.devRef .tc r))
    (hw : ∀ w, (cfg.win w).isOut = true → Pipeline.arrRef cfg.spec w ∈ l) :
    (StableHlo.held (c : Thread nD τ) (Pipeline.ucRefs τ sig) (Pipeline.afterRegion dat V) : sProp 𝕄)
      = StableHlo.held (c : Thread nD τ) (Pipeline.ucRefs τ sig) V' := by
  refine StableHlo.held_congr (c : Thread nD τ) fun b hb => ?_
  obtain ⟨r, -, rfl⟩ := Finset.mem_map.mp (Finset.mem_filter.mp hb).1
  show Pipeline.afterRegion dat V (Proc.devRef .tc r) = V' (Proc.devRef .tc r)
  by_cases hr : r ∈ l
  · exact (hout r hr).symm
  · refine (Pipeline.afterRegion_keeps dat V hinj hA r fun w e => ?_).trans (hkeep r hr).symm
    by_contra h
    exact hr (e ▸ hw w (by simpa using h))

/-- The three calls' data. -/
def pdats : (p : Fin 3) → (c : Dev nD) → Dat τ (Elt F) Unit ℕ (UR sig nD τ) ℕ (cfgs p) c
  | ⟨0, _⟩ => fun c => dat0 (fun c b => V3 m c b) c
  | ⟨1, _⟩ => fun c => dat1 (fun c b => V4 m (outsA m) c b) c
  | ⟨2, _⟩ => fun c => dat2 (fun c b => V16 m (outsB m) c b) c

/-- One level, at the core's own semaphores. -/
def levels : GSem nD τ sig → Finset Unit := fun g => if g.1.2 = .tc then {()} else ∅
abbrev heights : GSem nD τ sig → Unit → ℕ := fun _ _ => 0

theorem cut (p : Fin 3) : Pipeline.LevelCut (pcfgs (F := F)) adm () levels heights p (0 : Dev nD → CellTallies nD τ sig Unit) fun _ => 0 :=
  ⟨fun c _ _ => by unfold levels; rw [if_pos rfl]; exact Finset.mem_singleton_self _, fun _ _ _ => le_refl _, fun _ _ _ h => absurd h (Nat.lt_irrefl 0)⟩

/-- What a core carries beside its buffers: it owes nothing. -/
abbrev rest (c : Dev nD) : sProp 𝕄 := iprop(∃ W, owes (c : Thread nD τ) (0 : CellTallies nD τ sig Unit) W)

theorem pad (P Q : sProp 𝕄) : iprop(P ∗ Q) ⊢ iprop(P ∗ (Q ∗ emp ∗ emp)) := by
  iintro ⟨H, HO⟩
  isplitl [H]; · iexact H
  isplitl [HO]; · iexact HO
  isplitl <;> iempintro

set_option backward.isDefEq.respectTransparency.types false in
/-- The first call's record. -/
def reg0 : Pipeline.RegionSeg (pcfgs (F := F)) adm (pdats m) () defs₀ Variants.none levels heights 0 :=
  Pipeline.RegionSeg.ofHeldIn (pcfgs (F := F)) adm (pdats m) () defs₀ Variants.none levels heights 0 0 (Pipeline.ucRefs τ sig) (fun _ => iprop(emp)) (fun _ => iprop(emp))
    launch0.toP rfl (fun c => (obligation0 _ c).loose) (fun _ _ => rfl) (fun _ => rfl) (fun c => (pdats m 0 c).share_full fun _ => rfl)
    (fun c => (show iprop(Pipeline.scopedRest spec0 c ∗ emp) ⊢ (Pipeline.scopedRest spec0 c : sProp 𝕄) from by iintro ⟨H, -⟩; iexact H).trans (in0 (fun c b => V3 m c b) c))
    (fun c => (out0 (fun c b => V3 m c b) c).trans (show (Pipeline.scopedRest spec0 c : sProp 𝕄) ⊢ iprop(Pipeline.scopedRest spec0 c ∗ emp) from by
      iintro H
      isplitl [H]; · iexact H
      iempintro))
    (fun _ => 0) (cut 0) (fun _ => iprop(emp)) (fun c => V3 m c) (fun c w => rfl)

set_option backward.isDefEq.respectTransparency.types false in
/-- The second call's record. -/
def reg1 : Pipeline.RegionSeg (pcfgs (F := F)) adm (pdats m) () defs₀ Variants.none levels heights 1 :=
  Pipeline.RegionSeg.ofHeldIn (pcfgs (F := F)) adm (pdats m) () defs₀ Variants.none levels heights 1 0 (Pipeline.ucRefs τ sig) (fun _ => iprop(emp)) (fun _ => iprop(emp))
    launch1.toP rfl (fun c => (obligation1 _ c).loose) (fun _ _ => rfl) (fun _ => rfl) (fun c => (pdats m 1 c).share_full fun _ => rfl)
    (fun c => (show iprop(Pipeline.scopedRest spec1 c ∗ emp) ⊢ (Pipeline.scopedRest spec1 c : sProp 𝕄) from by iintro ⟨H, -⟩; iexact H).trans (in1 (fun c b => V4 m (outsA m) c b) c))
    (fun c => (out1 (fun c b => V4 m (outsA m) c b) c).trans (show (Pipeline.scopedRest spec1 c : sProp 𝕄) ⊢ iprop(Pipeline.scopedRest spec1 c ∗ emp) from by
      iintro H
      isplitl [H]; · iexact H
      iempintro))
    (fun _ => 0) (cut 1) (fun _ => iprop(emp)) (fun c => V4 m (outsA m) c) (fun c w => rfl)

set_option backward.isDefEq.respectTransparency.types false in
/-- The third call's record. -/
def reg2 : Pipeline.RegionSeg (pcfgs (F := F)) adm (pdats m) () defs₀ Variants.none levels heights 2 :=
  Pipeline.RegionSeg.ofHeldIn (pcfgs (F := F)) adm (pdats m) () defs₀ Variants.none levels heights 2 0 (Pipeline.ucRefs τ sig) (fun _ => iprop(emp)) (fun _ => iprop(emp))
    launch2.toP rfl (fun c => (obligation2 _ c).loose) (fun _ _ => rfl) (fun _ => rfl) (fun c => (pdats m 2 c).share_full fun _ => rfl)
    (fun c => (show iprop(Pipeline.scopedRest spec2 c ∗ emp) ⊢ (Pipeline.scopedRest spec2 c : sProp 𝕄) from by iintro ⟨H, -⟩; iexact H).trans (in2 (fun c b => V16 m (outsB m) c b) c))
    (fun c => (out2 (fun c b => V16 m (outsB m) c b) c).trans (show (Pipeline.scopedRest spec2 c : sProp 𝕄) ⊢ iprop(Pipeline.scopedRest spec2 c ∗ emp) from by
      iintro H
      isplitl [H]; · iexact H
      iempintro))
    (fun _ => 0) (cut 2) (fun _ => iprop(emp)) (fun c => V16 m (outsB m) c) (fun c w => rfl)

set_option backward.isDefEq.respectTransparency.types false in
theorem pre0 (c : Dev nD) : iprop(StableHlo.held (c : Thread nD τ) (Pipeline.ucRefs τ sig) (V3 m c) ∗ rest c) ⊢ (reg0 m).pre c := by
  have h : iprop(StableHlo.held (c : Thread nD τ) (Pipeline.ucRefs τ sig) (V3 m c) ∗ (rest (F := F) c ∗ emp ∗ emp)) ⊢ (reg0 m).pre c := by
    unfold reg0
    exact Pipeline.RegionSeg.ofHeldIn_pre (pcs := pcfgs (F := F)) (a := adm) (pdats := pdats m) (ι := ()) (defs₀ := defs₀) (𝒱₀ := Variants.none) (L := levels) (lv := heights) (p := 0) (D := 0)
      (X := fun _ => iprop(emp)) (Y := fun _ => iprop(emp)) (R := fun _ => iprop(emp)) (W := fun c => V3 m c) (Pipeline.arrRefs_sub_ucRefs _ launch0.win.arr_unscoped) c
  rw [show V3 m c = V3 m c from rfl]
  exact (pad _ _).trans h

theorem keep0 (c : Dev nD) (r : Ref sig .tc) (h : r ∉ ([main_v4_0, main_v4_1, main_v4_2] : List (Ref sig .tc))) : V4 m (outs m) c (Proc.devRef .tc r) = V3 m c (Proc.devRef .tc r) :=
  (V4_of m (outs m) c r h).trans rfl

theorem new0 (c : Dev nD) (r : Ref sig .tc) (h : r ∈ ([main_v4_0, main_v4_1, main_v4_2] : List (Ref sig .tc))) : V4 m (outs m) c (Proc.devRef .tc r) = after0 m c (Proc.devRef .tc r) := by
  simp only [List.mem_cons, List.not_mem_nil, or_false] at h
  rcases h with rfl | rfl | rfl
  · unfold V4
    rw [Function.update_of_ne (StableHlo.devRef_ne_of_ne (by decide))]
    rw [Function.update_of_ne (StableHlo.devRef_ne_of_ne (by decide))]
    rw [Function.update_self]; rfl
  · unfold V4
    rw [Function.update_of_ne (StableHlo.devRef_ne_of_ne (by decide))]
    rw [Function.update_self]; rfl
  · unfold V4
    rw [Function.update_self]; rfl

theorem after0_eq (c : Dev nD) : after0 m c = Pipeline.afterRegion (pdats m 0 c) (V3 m c) := rfl

set_option backward.isDefEq.respectTransparency.types false in
theorem post0 (c : Dev nD) : (reg0 m).post c ⊢ iprop(StableHlo.held (c : Thread nD τ) (Pipeline.ucRefs τ sig) (V4 m (outs m) c) ∗ rest c) := by
  have h : (reg0 m).post c ⊢ iprop(StableHlo.held (c : Thread nD τ) (Pipeline.ucRefs τ sig) (Pipeline.afterRegion (pdats m 0 c) (V3 m c)) ∗ (rest (F := F) c ∗ emp ∗ emp)) := by
    unfold reg0
    exact Pipeline.RegionSeg.ofHeldIn_post (pcs := pcfgs (F := F)) (a := adm) (pdats := pdats m) (ι := ()) (defs₀ := defs₀) (𝒱₀ := Variants.none) (L := levels) (lv := heights) (p := 0) (D := 0)
      (X := fun _ => iprop(emp)) (Y := fun _ => iprop(emp)) (R := fun _ => iprop(emp)) (W := fun c => V3 m c) (Pipeline.arrRefs_sub_ucRefs _ launch0.win.arr_unscoped) c
  have e : (StableHlo.held (c : Thread nD τ) (Pipeline.ucRefs τ sig) (Pipeline.afterRegion (pdats m 0 c) (V3 m c)) : sProp 𝕄)
      = StableHlo.held (c : Thread nD τ) (Pipeline.ucRefs τ sig) (V4 m (outs m) c) :=
    held_after (pdats m 0 c) (V3 m c) (V4 m (outs m) c) [main_v4_0, main_v4_1, main_v4_2] launch0.win.arr_inj (fun w => rfl) (keep0 m c) (fun r hr => (new0 m c r hr).trans (congrFun (after0_eq m c) _)) (by decide)
  rw [e] at h
  refine h.trans ?_
  iintro ⟨H, HO, -⟩
  isplitl [H]; · iexact H
  iexact HO

set_option backward.isDefEq.respectTransparency.types false in
theorem pre1 (c : Dev nD) : iprop(StableHlo.held (c : Thread nD τ) (Pipeline.ucRefs τ sig) (V4 m (outs m) c) ∗ rest c) ⊢ (reg1 m).pre c := by
  have h : iprop(StableHlo.held (c : Thread nD τ) (Pipeline.ucRefs τ sig) (V4 m (outsA m) c) ∗ (rest (F := F) c ∗ emp ∗ emp)) ⊢ (reg1 m).pre c := by
    unfold reg1
    exact Pipeline.RegionSeg.ofHeldIn_pre (pcs := pcfgs (F := F)) (a := adm) (pdats := pdats m) (ι := ()) (defs₀ := defs₀) (𝒱₀ := Variants.none) (L := levels) (lv := heights) (p := 1) (D := 0)
      (X := fun _ => iprop(emp)) (Y := fun _ => iprop(emp)) (R := fun _ => iprop(emp)) (W := fun c => V4 m (outsA m) c) (Pipeline.arrRefs_sub_ucRefs _ launch1.win.arr_unscoped) c
  rw [show V4 m (outs m) c = V4 m (outsA m) c from rfl]
  exact (pad _ _).trans h

theorem keep1 (c : Dev nD) (r : Ref sig .tc) (h : r ∉ ([main_v5_0, main_v5_1, main_v5_2, main_v5_3] : List (Ref sig .tc))) : V5 m (outs m) c (Proc.devRef .tc r) = V4 m (outsA m) c (Proc.devRef .tc r) :=
  (V5_of m (outs m) c r h).trans rfl

theorem new1 (c : Dev nD) (r : Ref sig .tc) (h : r ∈ ([main_v5_0, main_v5_1, main_v5_2, main_v5_3] : List (Ref sig .tc))) : V5 m (outs m) c (Proc.devRef .tc r) = after1 m c (Proc.devRef .tc r) := by
  simp only [List.mem_cons, List.not_mem_nil, or_false] at h
  rcases h with rfl | rfl | rfl | rfl
  · unfold V5
    rw [Function.update_of_ne (StableHlo.devRef_ne_of_ne (by decide))]
    rw [Function.update_of_ne (StableHlo.devRef_ne_of_ne (by decide))]
    rw [Function.update_of_ne (StableHlo.devRef_ne_of_ne (by decide))]
    rw [Function.update_self]; rfl
  · unfold V5
    rw [Function.update_of_ne (StableHlo.devRef_ne_of_ne (by decide))]
    rw [Function.update_of_ne (StableHlo.devRef_ne_of_ne (by decide))]
    rw [Function.update_self]; rfl
  · unfold V5
    rw [Function.update_of_ne (StableHlo.devRef_ne_of_ne (by decide))]
    rw [Function.update_self]; rfl
  · unfold V5
    rw [Function.update_self]; rfl

theorem after1_eq (c : Dev nD) : after1 m c = Pipeline.afterRegion (pdats m 1 c) (V4 m (outsA m) c) := rfl

set_option backward.isDefEq.respectTransparency.types false in
theorem post1 (c : Dev nD) : (reg1 m).post c ⊢ iprop(StableHlo.held (c : Thread nD τ) (Pipeline.ucRefs τ sig) (V5 m (outs m) c) ∗ rest c) := by
  have h : (reg1 m).post c ⊢ iprop(StableHlo.held (c : Thread nD τ) (Pipeline.ucRefs τ sig) (Pipeline.afterRegion (pdats m 1 c) (V4 m (outsA m) c)) ∗ (rest (F := F) c ∗ emp ∗ emp)) := by
    unfold reg1
    exact Pipeline.RegionSeg.ofHeldIn_post (pcs := pcfgs (F := F)) (a := adm) (pdats := pdats m) (ι := ()) (defs₀ := defs₀) (𝒱₀ := Variants.none) (L := levels) (lv := heights) (p := 1) (D := 0)
      (X := fun _ => iprop(emp)) (Y := fun _ => iprop(emp)) (R := fun _ => iprop(emp)) (W := fun c => V4 m (outsA m) c) (Pipeline.arrRefs_sub_ucRefs _ launch1.win.arr_unscoped) c
  have e : (StableHlo.held (c : Thread nD τ) (Pipeline.ucRefs τ sig) (Pipeline.afterRegion (pdats m 1 c) (V4 m (outsA m) c)) : sProp 𝕄)
      = StableHlo.held (c : Thread nD τ) (Pipeline.ucRefs τ sig) (V5 m (outs m) c) :=
    held_after (pdats m 1 c) (V4 m (outsA m) c) (V5 m (outs m) c) [main_v5_0, main_v5_1, main_v5_2, main_v5_3] launch1.win.arr_inj (fun w => rfl) (keep1 m c) (fun r hr => (new1 m c r hr).trans (congrFun (after1_eq m c) _)) (by decide)
  rw [e] at h
  refine h.trans ?_
  iintro ⟨H, HO, -⟩
  isplitl [H]; · iexact H
  iexact HO

set_option backward.isDefEq.respectTransparency.types false in
theorem pre2 (c : Dev nD) : iprop(StableHlo.held (c : Thread nD τ) (Pipeline.ucRefs τ sig) (V16 m (outs m) c) ∗ rest c) ⊢ (reg2 m).pre c := by
  have h : iprop(StableHlo.held (c : Thread nD τ) (Pipeline.ucRefs τ sig) (V16 m (outsB m) c) ∗ (rest (F := F) c ∗ emp ∗ emp)) ⊢ (reg2 m).pre c := by
    unfold reg2
    exact Pipeline.RegionSeg.ofHeldIn_pre (pcs := pcfgs (F := F)) (a := adm) (pdats := pdats m) (ι := ()) (defs₀ := defs₀) (𝒱₀ := Variants.none) (L := levels) (lv := heights) (p := 2) (D := 0)
      (X := fun _ => iprop(emp)) (Y := fun _ => iprop(emp)) (R := fun _ => iprop(emp)) (W := fun c => V16 m (outsB m) c) (Pipeline.arrRefs_sub_ucRefs _ launch2.win.arr_unscoped) c
  rw [show V16 m (outs m) c = V16 m (outsB m) c from (V16_outs m c).symm]
  exact (pad _ _).trans h

theorem keep2 (c : Dev nD) (r : Ref sig .tc) (h : r ∉ ([main_v87_0, main_v87_1] : List (Ref sig .tc))) : V17 m (outs m) c (Proc.devRef .tc r) = V16 m (outsB m) c (Proc.devRef .tc r) :=
  (V17_of m (outs m) c r h).trans (congrFun (V16_outs m c).symm _)

theorem new2 (c : Dev nD) (r : Ref sig .tc) (h : r ∈ ([main_v87_0, main_v87_1] : List (Ref sig .tc))) : V17 m (outs m) c (Proc.devRef .tc r) = after2 m c (Proc.devRef .tc r) := by
  simp only [List.mem_cons, List.not_mem_nil, or_false] at h
  rcases h with rfl | rfl
  · unfold V17
    rw [Function.update_of_ne (StableHlo.devRef_ne_of_ne (by decide))]
    rw [Function.update_self]; rfl
  · unfold V17
    rw [Function.update_self]; rfl

theorem after2_eq (c : Dev nD) : after2 m c = Pipeline.afterRegion (pdats m 2 c) (V16 m (outsB m) c) := rfl

set_option backward.isDefEq.respectTransparency.types false in
theorem post2 (c : Dev nD) : (reg2 m).post c ⊢ iprop(StableHlo.held (c : Thread nD τ) (Pipeline.ucRefs τ sig) (V17 m (outs m) c) ∗ rest c) := by
  have h : (reg2 m).post c ⊢ iprop(StableHlo.held (c : Thread nD τ) (Pipeline.ucRefs τ sig) (Pipeline.afterRegion (pdats m 2 c) (V16 m (outsB m) c)) ∗ (rest (F := F) c ∗ emp ∗ emp)) := by
    unfold reg2
    exact Pipeline.RegionSeg.ofHeldIn_post (pcs := pcfgs (F := F)) (a := adm) (pdats := pdats m) (ι := ()) (defs₀ := defs₀) (𝒱₀ := Variants.none) (L := levels) (lv := heights) (p := 2) (D := 0)
      (X := fun _ => iprop(emp)) (Y := fun _ => iprop(emp)) (R := fun _ => iprop(emp)) (W := fun c => V16 m (outsB m) c) (Pipeline.arrRefs_sub_ucRefs _ launch2.win.arr_unscoped) c
  have e : (StableHlo.held (c : Thread nD τ) (Pipeline.ucRefs τ sig) (Pipeline.afterRegion (pdats m 2 c) (V16 m (outsB m) c)) : sProp 𝕄)
      = StableHlo.held (c : Thread nD τ) (Pipeline.ucRefs τ sig) (V17 m (outs m) c) :=
    held_after (pdats m 2 c) (V16 m (outsB m) c) (V17 m (outs m) c) [main_v87_0, main_v87_1] launch2.win.arr_inj (fun w => rfl) (keep2 m c) (fun r hr => (new2 m c r hr).trans (congrFun (after2_eq m c) _)) (by decide)
  rw [e] at h
  refine h.trans ?_
  iintro ⟨H, HO, -⟩
  isplitl [H]; · iexact H
  iexact HO

/-- What the run leaves on a core: the arguments as they were, the result at the last valuation. -/
def Left (c : Dev nD) (s : MemSt nD τ sig (Elt F)) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_v88) = V18 m (outs m) c main_v88
    ∧ s.mem ((c.tc : Thread nD τ).loc main_v89) = V18 m (outs m) c main_v89

set_option backward.isDefEq.respectTransparency.types false in
/-- From any memory whose semaphores are at zero the program ends, and every end is as `Left` says with the semaphores
    at zero again. -/
theorem run_whole (ρ : Dev nD → PrngReg) :
    θ_run defs (onTc (τ := τ) (main (F := F))) ⟨m, fun _ => 0, ρ⟩ (fun r => (∀ c : Dev nD, Left m c r.2) ∧ r.2.sem = fun _ => 0) := by
  refine Pipeline.θ_run_regions_kit_dev_sems (pcfgs (F := F)) adm (pdats m) () cellOf_inj (emb₁ : Emb (UR sig nD τ) 𝕄) defs₀ Variants.none levels heights m ρ main
    (segs m (outs m) Variants.none levels heights (fun _ => rest) () (pdats m) (reg0 m) (reg1 m) (reg2 m))
    (fun c Q => by
      rewrite [main_chain c, Pipeline.Seg.run_eq_chain,
        show (segs m (outs m) Variants.none levels heights (fun _ => rest) () (pdats m) (reg0 m) (reg1 m) (reg2 m) c).map Pipeline.Seg.prog = [
          StableHlo.seq hostOps0, StableHlo.seq hostOps0_1, StableHlo.seq hostOps0_2,
          Prog.lift (.customCall (Pipeline.entry 0) ()), Prog.lift (.customCall (Pipeline.entry 1) ()),
          StableHlo.seq hostOps2, StableHlo.seq hostOps2_1, StableHlo.seq hostOps2_2, StableHlo.seq hostOps2_3, StableHlo.seq hostOps2_4,
          StableHlo.seq hostOps2_5, StableHlo.seq hostOps2_6, StableHlo.seq hostOps2_7, StableHlo.seq hostOps2_8, StableHlo.seq hostOps2_9,
          StableHlo.seq hostOps2_10, Prog.lift (.customCall (Pipeline.entry 2) ()), StableHlo.seq hostOps3] from rfl]
      dsimp (config := { failIfUnchanged := false }) only
      exact .rfl)
    (fun c => by simp only [segs, Pipeline.Seg.pipes_host, Pipeline.Seg.pipes_region, Pipeline.Seg.pipes_nil]; decide)
    (0 : Dev nD → CellTallies nD τ sig Unit) (fun g hg => by unfold levels; rw [if_neg hg]) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ rest c))
    (Tₙ := fun c => StableHlo.held (c : Thread nD τ) (Pipeline.ucRefs τ sig) (V18 m (outs m) c))
    (hch := fun c => ⟨.rfl, .rfl, .rfl, pre0 m c, (post0 m c).trans (pre1 m c), post1 m c, .rfl, .rfl, .rfl, .rfl, .rfl, .rfl, .rfl, .rfl, .rfl, .rfl, pre2 m c, post2 m c, .rfl⟩)
    (hinit := ?_) (QY := Left m) (hfin := fun c s' => ?_) (hQ := fun _ h hz => ⟨h, funext fun g => hz g (.inr (regions_no_unscoped g.2))⟩)
  · iintro Hu
    imodintro
    isplitl [Hu]; · rw [← ownU_emb₁]; iexact Hu
    iapply (show (BI.emp : sProp 𝕄) ⊢ bigSep Finset.univ (fun _ : Dev nD => (BI.emp : sProp 𝕄)) from by rw [BI.bigSep_emp_const])
    iempintro
  · refine Pipeline.initEach levels heights fun c => ?_
    rw [show unscopedBufs c (fun b => m ((c : Thread nD τ).loc b)) = (StableHlo.held (c : Thread nD τ) (Pipeline.ucRefs τ sig) (V0 m c) : sProp 𝕄) from Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V18 m (outs m) c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V18_main_arg0 m (outs m) c),
        (h (Proc.devRef .tc main_arg1) (Finset.mem_filter.mpr ⟨StableHlo.devRef_mem_tcRefs main_arg1, by decide⟩)).trans (V18_main_arg1 m (outs m) c),
        h (Proc.devRef .tc main_v88) (Finset.mem_filter.mpr ⟨StableHlo.devRef_mem_tcRefs main_v88, by decide⟩),
        h (Proc.devRef .tc main_v89) (Finset.mem_filter.mpr ⟨StableHlo.devRef_mem_tcRefs main_v89, by decide⟩)⟩
    · iexact HSI

end Cert.KernelIdeal
-- ==== Proof.Matrix.lean ====
module

public import proofs.«01_k».proof.Proof.Gen.KernelIdeal.Regions
public import proofs.«01_k».proof.Proof.Gen.ReferenceIdeal.Read
public import Idealize.ShloMosaic.Lib.StableHlo.RunRead

@[expose] public section

/-!
# The matrix the host makes for the smoothing

The kernel's host code makes one matrix of the bilinear weights and of the blur, and hands the third call two arrays made of it. Here each
array is named, and every stretch of host operations is read at the arrays it makes.
-/

namespace Cert.KernelIdeal

open Idealize.ShloMosaic Idealize.ShloMosaic.TcCoe Cert.KernelIdeal.Gen

variable {F : FTy → Type} [FloatOps F]

/-- Where each of the 224 output positions falls among the 26 input positions. -/
noncomputable def position : FVec F S224 .f32 :=
  subf (mulf (addf (sitofp .f32 (iotaInDim S224 32 0)) (broadcastInDim S224 ![] bcast_S_S224 (constant S_ .f32 0x3F000000#32)))
    (broadcastInDim S224 ![] bcast_S_S224 (constant S_ .f32 0x3DEDB6DB#32))) (broadcastInDim S224 ![] bcast_S_S224 (constant S_ .f32 0x3F000000#32))

/-- The bilinear weights before they are normed: `max 0 (1 - |x - j|)`. -/
noncomputable def tent : FVec F S224x26 .f32 :=
  maximumf (broadcastInDim S224x26 ![] bcast_S_S224x26 (constant S_ .f32 0x00000000#32))
    (subf (broadcastInDim S224x26 ![] bcast_S_S224x26 (constant S_ .f32 0x3F800000#32))
      (Host.absf (subf (broadcastInDim S224x26 ![0, 1] bcast_S224x1_S224x26_0_1 (broadcastInDim S224x1 ![0] bcast_S224_S224x1_0 position))
        (broadcastInDim S224x26 ![0, 1] bcast_S1x26_S224x26_0_1 (broadcastInDim S1x26 ![1] bcast_S26_S1x26_1 (sitofp .f32 (iotaInDim S26 32 0)))))))

/-- The bilinear weights: each row divided by its sum. -/
noncomputable def weight : FVec F S224x26 .f32 :=
  Host.divf tent (broadcastInDim S224x26 ![0, 1] bcast_S224x1_S224x26_0_1
    (broadcastInDim S224x1 ![0] bcast_S224_S224x1_0 (Host.reduceAdd tent (constant S_ .f32 0x00000000#32) reducesTo_S224x26_S224_d1 h_S_)))

/-- The distance of `y + d - 16` from zero. -/
noncomputable def offset : IVec S224x33 32 :=
  absi (subi (addi (broadcastInDim S224x33 ![0, 1] bcast_S224x1_S224x33_0_1 (broadcastInDim S224x1 ![0] bcast_S224_S224x1_0 (iotaInDim S224 32 0)))
    (broadcastInDim S224x33 ![0, 1] bcast_S1x33_S224x33_0_1 (broadcastInDim S1x33 ![1] bcast_S33_S1x33_1 (iotaInDim S33 32 0))))
    (broadcastInDim S224x33 ![] bcast_S_S224x33 (constantI S_ 32 16#32)))

/-- The position `y + d - 16` reflected into the image at both ends. -/
noncomputable def mirror : IVec S224x33 32 :=
  select (cmpi .sgt offset (broadcastInDim S224x33 ![] bcast_S_S224x33 (constantI S_ 32 223#32)))
    (subi (broadcastInDim S224x33 ![] bcast_S_S224x33 (constantI S_ 32 446#32)) offset) offset

/-- The blur's 33 factors. -/
noncomputable def gauss : FVec F S33 .f32 := ReferenceIdeal.Read.val_main_v34

/-- The factor of step `d` for output `y` placed at the position it reads. -/
noncomputable def spread : FVec F S224x33x224 .f32 :=
  select (cmpi .eq (broadcastInDim S224x33x224 ![0, 1, 2] bcast_S224x33x1_S224x33x224_0_1_2 (broadcastInDim S224x33x1 ![0, 1] bcast_S224x33_S224x33x1_0_1 mirror))
      (broadcastInDim S224x33x224 ![0, 1, 2] bcast_S1x1x224_S224x33x224_0_1_2 (broadcastInDim S1x1x224 ![2] bcast_S224_S1x1x224_2 (iotaInDim S224 32 0))))
    (broadcastInDim S224x33x224 ![0, 1, 2] bcast_S1x33x1_S224x33x224_0_1_2 (broadcastInDim S1x33x1 ![1] bcast_S33_S1x33x1_1 gauss))
    (broadcastInDim S224x33x224 ![] bcast_S_S224x33x224 (constant S_ .f32 0x00000000#32))

/-- The blur as a matrix. -/
noncomputable def blur : FVec F S224x224 .f32 :=
  Host.reduceAdd spread (constant S_ .f32 0x00000000#32) reducesTo_S224x33x224_S224x224_d1 h_S_

/-- The blur of the weights: the matrix of resizing and blurring along one axis. -/
noncomputable def smooth : FVec F S224x26 .f32 :=
  Host.reduceAdd (mulf (broadcastInDim S224x224x26 ![0, 1, 2] bcast_S224x224x1_S224x224x26_0_1_2 (broadcastInDim S224x224x1 ![0, 1] bcast_S224x224_S224x224x1_0_1 blur))
    (broadcastInDim S224x224x26 ![0, 1, 2] bcast_S1x224x26_S224x224x26_0_1_2 (broadcastInDim S1x224x26 ![1, 2] bcast_S224x26_S1x224x26_1_2 weight)))
    (constant S_ .f32 0x00000000#32) reducesTo_S224x224x26_S224x26_d1 h_S_

/-- The matrix at the row of each patch, with columns of zeros for the padded patches. -/
noncomputable def alongRows : FVec F S224x704 .f32 :=
  pad S224x704 ![0, 0] ![0, 28] ![0, 0]
    (shapeCast S224x676 (broadcastInDim S224x26x26 ![0, 1, 2] bcast_S224x26x1_S224x26x26_0_1_2 (broadcastInDim S224x26x1 ![0, 1] bcast_S224x26_S224x26x1_0_1 smooth)) shapeCasts_S224x26x26_S224x676)
    (sitofp .f32 (constantI S_ 32 0#32)) pads_S224x676_S224x704_000_0280 h_S_

/-- The matrix at the column of each patch, likewise. -/
noncomputable def alongColumns : FVec F S224x704 .f32 :=
  pad S224x704 ![0, 0] ![0, 28] ![0, 0]
    (shapeCast S224x676 (broadcastInDim S224x26x26 ![0, 1, 2] bcast_S224x1x26_S224x26x26_0_1_2 (broadcastInDim S224x1x26 ![0, 2] bcast_S224x26_S224x1x26_0_2 smooth)) shapeCasts_S224x26x26_S224x676)
    (sitofp .f32 (constantI S_ 32 0#32)) pads_S224x676_S224x704_000_0280 h_S_

/-! ## Each stretch of host operations at the arrays it makes -/

theorem read_weight (V : Valuation τ sig (Elt F)) : StableHlo.after (hostOps2_2 (F := F)) V (Proc.devRef .tc main_v32) = weight := by
  after_reads_simp
  rfl

theorem read_gauss (V : Valuation τ sig (Elt F)) : StableHlo.after (hostOps2_2 (F := F)) V (Proc.devRef .tc main_v44) = gauss := by
  after_reads_simp
  rfl

theorem read_offset (V : Valuation τ sig (Elt F)) : StableHlo.after (hostOps2_2 (F := F)) V (Proc.devRef .tc main_v54) = offset := by
  after_reads_simp
  rfl

theorem read_beyond (V : Valuation τ sig (Elt F)) : StableHlo.after (hostOps2_2 (F := F)) V (Proc.devRef .tc main_v56)
    = cmpi .sgt offset (broadcastInDim S224x33 ![] bcast_S_S224x33 (constantI S_ 32 223#32)) := by
  after_reads_simp
  rfl

theorem read_back (V : Valuation τ sig (Elt F)) : StableHlo.after (hostOps2_2 (F := F)) V (Proc.devRef .tc main_v58)
    = subi (broadcastInDim S224x33 ![] bcast_S_S224x33 (constantI S_ 32 446#32)) offset := by
  after_reads_simp
  rfl

theorem read_mirror (V : Valuation τ sig (Elt F)) : StableHlo.after (hostOps2_3 (F := F)) V (Proc.devRef .tc main_v59)
    = select (V (Proc.devRef .tc main_v56)) (V (Proc.devRef .tc main_v58)) (V (Proc.devRef .tc main_v54)) := by
  after_reads_simp
  rfl

theorem read_equal (V : Valuation τ sig (Elt F)) : StableHlo.after (hostOps2_4 (F := F)) V (Proc.devRef .tc main_v65)
    = cmpi .eq (broadcastInDim S224x33x224 ![0, 1, 2] bcast_S224x33x1_S224x33x224_0_1_2 (broadcastInDim S224x33x1 ![0, 1] bcast_S224x33_S224x33x1_0_1 (V (Proc.devRef .tc main_v59))))
      (broadcastInDim S224x33x224 ![0, 1, 2] bcast_S1x1x224_S224x33x224_0_1_2 (broadcastInDim S1x1x224 ![2] bcast_S224_S1x1x224_2 (iotaInDim S224 32 0))) := by
  after_reads_simp

theorem read_factors (V : Valuation τ sig (Elt F)) : StableHlo.after (hostOps2_4 (F := F)) V (Proc.devRef .tc main_v66)
    = broadcastInDim S1x33x1 ![1] bcast_S33_S1x33x1_1 (V (Proc.devRef .tc main_v44)) := by
  after_reads_simp

theorem read_nothing (V : Valuation τ sig (Elt F)) : StableHlo.after (hostOps2_4 (F := F)) V (Proc.devRef .tc main_cst_18) = constant S_ .f32 0x00000000#32 := by
  after_reads_simp

theorem read_spread (V : Valuation τ sig (Elt F)) : StableHlo.after (hostOps2_5 (F := F)) V (Proc.devRef .tc main_v67)
    = select (V (Proc.devRef .tc main_v65)) (broadcastInDim S224x33x224 ![0, 1, 2] bcast_S1x33x1_S224x33x224_0_1_2 (V (Proc.devRef .tc main_v66)))
      (broadcastInDim S224x33x224 ![] bcast_S_S224x33x224 (V (Proc.devRef .tc main_cst_18))) := by
  after_reads_simp
  rfl

/-- The smoothing matrix of what the blur's factors are placed at and of the weights. -/
noncomputable def smoothOf (x : FVec F S224x33x224 .f32) (w : FVec F S224x26 .f32) : FVec F S224x26 .f32 :=
  Host.reduceAdd (mulf (broadcastInDim S224x224x26 ![0, 1, 2] bcast_S224x224x1_S224x224x26_0_1_2 (broadcastInDim S224x224x1 ![0, 1] bcast_S224x224_S224x224x1_0_1
      (Host.reduceAdd x (constant S_ .f32 0x00000000#32) reducesTo_S224x33x224_S224x224_d1 h_S_)))
    (broadcastInDim S224x224x26 ![0, 1, 2] bcast_S1x224x26_S224x224x26_0_1_2 (broadcastInDim S1x224x26 ![1, 2] bcast_S224x26_S1x224x26_1_2 w)))
    (constant S_ .f32 0x00000000#32) reducesTo_S224x224x26_S224x26_d1 h_S_

theorem read_smooth (V : Valuation τ sig (Elt F)) : StableHlo.after (hostOps2_6 (F := F)) V (Proc.devRef .tc main_v74)
    = smoothOf (V (Proc.devRef .tc main_v67)) (V (Proc.devRef .tc main_v32)) := by
  after_reads_simp
  rfl

theorem read_rows (V : Valuation τ sig (Elt F)) : StableHlo.after (hostOps2_6 (F := F)) V (Proc.devRef .tc main_v77)
    = shapeCast S224x676 (broadcastInDim S224x26x26 ![0, 1, 2] bcast_S224x26x1_S224x26x26_0_1_2 (broadcastInDim S224x26x1 ![0, 1] bcast_S224x26_S224x26x1_0_1
        (smoothOf (V (Proc.devRef .tc main_v67)) (V (Proc.devRef .tc main_v32))))) shapeCasts_S224x26x26_S224x676 := by
  after_reads_simp
  rfl

theorem read_zero (V : Valuation τ sig (Elt F)) : StableHlo.after (hostOps2_6 (F := F)) V (Proc.devRef .tc main_c_21) = constantI S_ 32 0#32 := by
  after_reads_simp

theorem read_alongRows (V : Valuation τ sig (Elt F)) : StableHlo.after (hostOps2_7 (F := F)) V (Proc.devRef .tc main_v78)
    = pad S224x704 ![0, 0] ![0, 28] ![0, 0] (V (Proc.devRef .tc main_v77)) (sitofp .f32 (V (Proc.devRef .tc main_c_21))) pads_S224x676_S224x704_000_0280 h_S_ := by
  after_reads_simp
  rfl

theorem read_columns (V : Valuation τ sig (Elt F)) : StableHlo.after (hostOps2_8 (F := F)) V (Proc.devRef .tc main_v81)
    = shapeCast S224x676 (broadcastInDim S224x26x26 ![0, 1, 2] bcast_S224x1x26_S224x26x26_0_1_2 (broadcastInDim S224x1x26 ![0, 2] bcast_S224x26_S224x1x26_0_2
        (V (Proc.devRef .tc main_v74)))) shapeCasts_S224x26x26_S224x676 := by
  after_reads_simp
  rfl

theorem read_zero' (V : Valuation τ sig (Elt F)) : StableHlo.after (hostOps2_8 (F := F)) V (Proc.devRef .tc main_c_22) = constantI S_ 32 0#32 := by
  after_reads_simp

theorem read_alongColumns (V : Valuation τ sig (Elt F)) : StableHlo.after (hostOps2_9 (F := F)) V (Proc.devRef .tc main_v82)
    = pad S224x704 ![0, 0] ![0, 28] ![0, 0] (V (Proc.devRef .tc main_v81)) (sitofp .f32 (V (Proc.devRef .tc main_c_22))) pads_S224x676_S224x704_000_0280 h_S_ := by
  after_reads_simp
  rfl

theorem read_leading (V : Valuation τ sig (Elt F)) : StableHlo.after (hostOps2_10 (F := F)) V (Proc.devRef .tc main_v83)
    = (truncf .bf16 (V (Proc.devRef .tc main_v82) : FVec F S224x704 .f32) bitsLt_bf16_f32 : FVec F S224x704 .bf16) := by
  after_reads_simp

theorem read_rest (V : Valuation τ sig (Elt F)) : StableHlo.after (hostOps2_10 (F := F)) V (Proc.devRef .tc main_v86)
    = (truncf .bf16 (subf (V (Proc.devRef .tc main_v82) : FVec F S224x704 .f32) (extf .f32 (truncf .bf16 (V (Proc.devRef .tc main_v82) : FVec F S224x704 .f32) bitsLt_bf16_f32 : FVec F S224x704 .bf16) bitsLt_bf16_f32)) bitsLt_bf16_f32 : FVec F S224x704 .bf16) := by
  after_reads_simp

/-! ## What the third call is given -/

variable (m : (ℓ : Loc nD τ sig) → Buf (Elt F) ℓ) (outs : ℕ → (b : Ref sig .tc) → (c : Dev nD) → Buf (Elt F) ((c.tc : Thread nD τ).loc b)) (c : Dev nD)

theorem at_spread : V11 m outs c main_v67 = spread := by
  refine (read_spread (V10 m outs c)).trans ?_
  rw [show V10 m outs c (Proc.devRef .tc main_v65) = _ from read_equal (V9 m outs c), show V10 m outs c (Proc.devRef .tc main_v66) = _ from read_factors (V9 m outs c),
    show V10 m outs c (Proc.devRef .tc main_cst_18) = _ from read_nothing (V9 m outs c), show V9 m outs c (Proc.devRef .tc main_v59) = _ from read_mirror (V8 m outs c),
    V9_of m outs c main_v44 (by decide), show V8 m outs c (Proc.devRef .tc main_v44) = _ from read_gauss (V7 m outs c),
    show V8 m outs c (Proc.devRef .tc main_v56) = _ from read_beyond (V7 m outs c), show V8 m outs c (Proc.devRef .tc main_v58) = _ from read_back (V7 m outs c),
    show V8 m outs c (Proc.devRef .tc main_v54) = _ from read_offset (V7 m outs c)]
  rfl

theorem at_weight : V11 m outs c main_v32 = weight := by
  rw [V11_of m outs c main_v32 (by decide), V10_of m outs c main_v32 (by decide), V9_of m outs c main_v32 (by decide)]
  exact read_weight (V7 m outs c)

theorem at_alongRows : V16 m outs c main_v78 = alongRows := by
  rw [V16_of m outs c main_v78 (by decide), V15_of m outs c main_v78 (by decide), V14_of m outs c main_v78 (by decide)]
  refine (read_alongRows (V12 m outs c)).trans ?_
  rw [show V12 m outs c (Proc.devRef .tc main_v77) = _ from read_rows (V11 m outs c), show V12 m outs c (Proc.devRef .tc main_c_21) = _ from read_zero (V11 m outs c),
    show V11 m outs c (Proc.devRef .tc main_v67) = _ from at_spread m outs c, show V11 m outs c (Proc.devRef .tc main_v32) = _ from at_weight m outs c]
  rfl

theorem at_alongColumns : V15 m outs c main_v82 = alongColumns := by
  refine (read_alongColumns (V14 m outs c)).trans ?_
  rw [show V14 m outs c (Proc.devRef .tc main_v81) = _ from read_columns (V13 m outs c), show V14 m outs c (Proc.devRef .tc main_c_22) = _ from read_zero' (V13 m outs c),
    V13_of m outs c main_v74 (by decide), show V12 m outs c (Proc.devRef .tc main_v74) = _ from read_smooth (V11 m outs c),
    show V11 m outs c (Proc.devRef .tc main_v67) = _ from at_spread m outs c, show V11 m outs c (Proc.devRef .tc main_v32) = _ from at_weight m outs c]
  rfl

theorem at_leading : V16 m outs c main_v83 = (truncf .bf16 (alongColumns (F := F)) bitsLt_bf16_f32 : FVec F S224x704 .bf16) := by
  refine (read_leading (V15 m outs c)).trans ?_
  rw [show V15 m outs c (Proc.devRef .tc main_v82) = _ from at_alongColumns m outs c]

theorem at_rest : V16 m outs c main_v86
    = (truncf .bf16 (subf (alongColumns (F := F)) (extf .f32 (truncf .bf16 (alongColumns (F := F)) bitsLt_bf16_f32 : FVec F S224x704 .bf16) bitsLt_bf16_f32)) bitsLt_bf16_f32 : FVec F S224x704 .bf16) := by
  refine (read_rest (V15 m outs c)).trans ?_
  rw [show V15 m outs c (Proc.devRef .tc main_v82) = _ from at_alongColumns m outs c]

theorem at_least : V16 m outs c main_v4_0 = V4 m outs c main_v4_0 := by
  rw [V16_of m outs c main_v4_0 (by decide), V15_of m outs c main_v4_0 (by decide), V14_of m outs c main_v4_0 (by decide), V13_of m outs c main_v4_0 (by decide),
    V12_of m outs c main_v4_0 (by decide), V11_of m outs c main_v4_0 (by decide), V10_of m outs c main_v4_0 (by decide), V9_of m outs c main_v4_0 (by decide),
    V8_of m outs c main_v4_0 (by decide), V7_of m outs c main_v4_0 (by decide), V6_of m outs c main_v4_0 (by decide), V5_of m outs c main_v4_0 (by decide)]

end Cert.KernelIdeal
-- ==== Proof.Math.lean ====
module

public import Idealize.ShloMosaic.Lib.Pointwise
public import Mathlib.Data.EReal.Operations

@[expose] public section

/-!
# The arithmetic of the distances, over the extended reals

What is used of square roots, minima and sums of finite numbers, free of any program.
-/

namespace Cert.Math

open Idealize.ShloMosaic

/-- The square root (negative numbers and `⊥` go to `⊥`) preserves the order. -/
theorem sqrt_mono : Monotone Ideal.sqrt := by
  intro x y h
  induction x with
  | bot => exact bot_le
  | top => rw [top_le_iff.mp h]
  | coe x =>
    induction y with
    | bot => exact absurd h (by simp)
    | top => exact le_top
    | coe y =>
      have hxy : x ≤ y := EReal.coe_le_coe_iff.mp h
      show (if x < 0 then (⊥ : EReal) else (Real.sqrt x : EReal)) ≤ (if y < 0 then (⊥ : EReal) else (Real.sqrt y : EReal))
      split_ifs with h1 h2
      · exact le_rfl
      · exact bot_le
      · exact absurd (hxy.trans_lt ‹y < 0›) h1
      · exact EReal.coe_le_coe_iff.mpr (Real.sqrt_le_sqrt hxy)

/-- A monotone function goes inside a minimum over a finite set that starts from `⊤`, where it keeps `⊤`. -/
theorem map_fold_min {ι : Type*} (s : Finset ι) (f : ι → EReal) (φ : EReal → EReal) (hφ : Monotone φ) (ht : φ ⊤ = ⊤) :
    φ (s.fold min ⊤ f) = s.fold min ⊤ (fun i => φ (f i)) := by
  have h := Finset.fold_hom (op := min) (op' := min) (s := s) (f := f) (b := ⊤) (m := φ) (fun x y => hφ.map_min)
  rw [ht] at h
  exact h.symm

/-- A number is finite: neither `⊥` nor `⊤`. -/
def Fin' (x : EReal) : Prop := x ≠ ⊥ ∧ x ≠ ⊤

theorem finite_of_abs_lt {x : EReal} (h : max x (-x) < ⊤) : Fin' x := by
  unfold Fin'
  induction x with
  | bot => simp at h
  | top => simp at h
  | coe x => exact ⟨EReal.coe_ne_bot x, EReal.coe_ne_top x⟩

theorem Fin'.coe_toReal {x : EReal} (h : Fin' x) : ((x.toReal : ℝ) : EReal) = x := EReal.coe_toReal h.2 h.1

/-- A sum of real numbers, taken in the extended reals, is the sum of the reals. -/
theorem coe_sum {ι : Type*} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- THE SQUARED DISTANCE: on finite vectors the kernel's order of the terms — the products with `-2 a`, then `|b|²`, then
    `|a|²` in two parts, the second of them zero — is the usual `|a|² + |b|² - 2 a·b`. -/
theorem sq_dist {n : ℕ} (a b : Fin n → EReal) (ha : ∀ k, Fin' (a k)) (hb : ∀ k, Fin' (b k)) :
    (0 + ∑ k, b k * (((-2 : ℝ) : EReal) * a k)) + (∑ k, b k * b k)
        + (0 + (∑ k, 1 * (a k * a k)) + (0 + ∑ k, 1 * (a k * a k - a k * a k)))
      = ((0 + ∑ k, a k * a k) + (0 + ∑ k, b k * b k)) - ((2 : ℝ) : EReal) * ∑ k, a k * b k := by
  obtain ⟨a', rfl⟩ : ∃ a' : Fin n → ℝ, a = fun k => (a' k : EReal) := ⟨fun k => (a k).toReal, funext fun k => (ha k).coe_toReal.symm⟩
  obtain ⟨b', rfl⟩ : ∃ b' : Fin n → ℝ, b = fun k => (b' k : EReal) := ⟨fun k => (b k).toReal, funext fun k => (hb k).coe_toReal.symm⟩
  simp only [one_mul, zero_add, ← EReal.coe_mul, ← EReal.coe_sub, coe_sum, ← EReal.coe_add]
  congr 1
  have h1 : ∑ k, b' k * (-2 * a' k) = -(2 * ∑ k, a' k * b' k) := by
    rw [Finset.mul_sum, ← Finset.sum_neg_distrib]
    exact Finset.sum_congr rfl fun k _ => by ring
  rw [h1]
  simp
  ring

/-- A sum of products of finite numbers is finite. -/
theorem finite_sum_mul {n : ℕ} (a b : Fin n → EReal) (ha : ∀ k, Fin' (a k)) (hb : ∀ k, Fin' (b k)) : Fin' (∑ k, a k * b k) := by
  have h : (∑ k, a k * b k) = ((∑ k, (a k).toReal * (b k).toReal : ℝ) : EReal) := by
    rw [← coe_sum]
    exact Finset.sum_congr rfl fun k _ => by rw [EReal.coe_mul, (ha k).coe_toReal, (hb k).coe_toReal]
  rw [h]
  exact ⟨EReal.coe_ne_bot _, EReal.coe_ne_top _⟩

/-- The squared length in two parts is not `⊥`. -/
theorem finite_norm {n : ℕ} (a : Fin n → EReal) (ha : ∀ k, Fin' (a k)) :
    (0 + ∑ k, 1 * (a k * a k)) + (0 + ∑ k, 1 * (a k * a k - a k * a k)) ≠ ⊥ := by
  obtain ⟨a', rfl⟩ : ∃ a' : Fin n → ℝ, a = fun k => (a' k : EReal) := ⟨fun k => (a k).toReal, funext fun k => (ha k).coe_toReal.symm⟩
  simp only [one_mul, zero_add, ← EReal.coe_mul, ← EReal.coe_sub, coe_sum, ← EReal.coe_add]
  exact EReal.coe_ne_bot _

end Cert.Math
-- ==== Proof.Block.lean ====
module

public import proofs.«01_k».proof.Proof.Gen.KernelIdeal.Skeleton
public import proofs.«01_k».proof.Proof.Math
public import Idealize.ShloMosaic.Lib.Pointwise

@[expose] public section

/-!
# What one grid point of the first call computes, at the extended reals

Each stored vector at an index: the reset value, the running minimum over a block of 2048 library rows, and the smallest
distance made of it at the last point.
-/

namespace Cert.KernelIdeal

open Idealize.ShloMosaic Cert.KernelIdeal.Gen

/-- The pattern of `+∞`. -/
theorem ofBits_inf : Ideal.ofBits .f32 0x7F800000#32 = ⊤ := by
  simp [Ideal.ofBits, Ideal.ieee]

/-- The running minimum starts at `+∞`. -/
theorem reset_apply (i : S1x704.Idx) : k0_pay1 (F := Ideal) i = ⊤ := by
  unfold k0_pay1
  simp only [pointwise]
  exact ofBits_inf

/-- One block's step: the minimum of what is carried and of the block's 2048 values `b·(-2a) + |b|²`. -/
theorem step_apply (b : Vec Ideal S2048x384 .f32) (a : Vec Ideal S704x384 .bf16) (acc : Vec Ideal S1x704 .f32) (i : S1x704.Idx) :
    k0_pay2 (F := Ideal) b a acc i
      = min (acc i) (Finset.univ.fold min ⊤ fun r : Fin 2048 =>
          0 + ∑ k : Fin 384, b (ix2 r k) * a (ix2 (i 1) k) + ∑ k : Fin 384, b (ix2 r k) * b (ix2 r k)) := by
  unfold k0_pay2
  simp only [pointwise]
  rw [ofBits_inf]
  rfl

/-- The smallest distance of patch `p` made of the minimum `x`: `|a|²` is added in two parts (its leading part and the rest,
    which is nothing at the extended reals), the sum bounded below, the root taken. -/
noncomputable def root (a : FVec Ideal S704x384 .f32) (x : EReal) (p : Fin 704) : EReal :=
  Ideal.sqrt (max (x + (0 + ∑ k : Fin 384, 1 * (a (ix2 p k) * a (ix2 p k))
    + (0 + ∑ k : Fin 384, 1 * (a (ix2 p k) * a (ix2 p k) - a (ix2 p k) * a (ix2 p k))))) (Ideal.ofBits .f32 0x2B8CBCCC#32))

/-- What the last point stores. -/
theorem root_apply (a : Vec Ideal S704x384 .f32) (acc : Vec Ideal S1x704 .f32) (i : S1x704.Idx) :
    k0_pay5 (F := Ideal) a acc i = root a (acc i) (i 1) := by
  unfold k0_pay5 root
  simp only [pointwise]

/-- What library row `r` adds to the minimum of patch `p`: `b·(-2a) + |b|²`. -/
noncomputable def cross (lib : FVec Ideal S65536x384 .f32) (a : FVec Ideal S704x384 .bf16) (p : Fin 704) (r : Fin 65536) : EReal :=
  0 + ∑ k : Fin 384, lib (ix2 r k) * a (ix2 p k) + ∑ k : Fin 384, lib (ix2 r k) * lib (ix2 r k)

/-- A block step takes the minimum over the rows below `2048 t` to the minimum over the rows below `2048 (t + 1)`: a number
    is below the carried value when it is below every row's value so far. -/
theorem step_le_iff (lib : FVec Ideal S65536x384 .f32) (a : FVec Ideal S704x384 .bf16) (t : ℕ) (ht : t < 32)
    (b : Vec Ideal S2048x384 .f32) (hb : ∀ (r : Fin 2048) (k : Fin 384), b (ix2 r k) = lib (ix2 ⟨2048 * t + r.val, by omega⟩ k))
    (acc : Vec Ideal S1x704 .f32) (i : S1x704.Idx) (x : EReal)
    (hacc : x ≤ acc i ↔ ∀ r : Fin 65536, r.val < 2048 * t → x ≤ cross lib a (i 1) r) :
    x ≤ k0_pay2 (F := Ideal) b a acc i ↔ ∀ r : Fin 65536, r.val < 2048 * (t + 1) → x ≤ cross lib a (i 1) r := by
  rw [step_apply, le_min_iff, Finset.le_fold_min, hacc]
  constructor
  · rintro ⟨h0, -, h1⟩ r hr
    by_cases hlt : r.val < 2048 * t
    · exact h0 r hlt
    · have e : (⟨2048 * t + (r.val - 2048 * t), by omega⟩ : Fin 65536) = r := Fin.ext (by simp only; omega)
      have h := h1 ⟨r.val - 2048 * t, by omega⟩ (Finset.mem_univ _)
      simp only [hb] at h
      rw [e] at h
      exact h
  · intro h
    refine ⟨fun r hr => h r (by omega), le_top, fun r _ => ?_⟩
    simp only [hb]
    exact h ⟨2048 * t + r.val, by omega⟩ (by simp only; omega)

end Cert.KernelIdeal
-- ==== Proof.Least.lean ====
module

public import proofs.«01_k».proof.Proof.Call1
public import proofs.«01_k».proof.Proof.Block
public import Idealize.ShloMosaic.Lib.Pipeline.ValueKit

@[expose] public section

/-!
# The first call's running minimum over its grid

What the scratch carries after each point, and the smallest distances stored at the last one.
-/

namespace Cert.KernelIdeal

open Idealize.ShloMosaic Idealize.ShloMosaic.TcCoe Cert.KernelIdeal.Gen

variable (V : (c : Dev nD) → (b : Ref sig .tc) → Buf (Elt Ideal) ((c : Thread nD τ).loc b)) (c : Dev nD)

/-- The library's window at point `t` starts at row `2048 t`. -/
theorem index_lib (t : Fin cfg0.N) : win0_2.index t 0 = t.val ∧ win0_2.index t 1 = 0 := by
  have h : ∀ t : Fin 32, win0_2.index (t.cast N_0.symm) 0 = t.val ∧ win0_2.index (t.cast N_0.symm) 1 = 0 := by decide
  exact h (t.cast N_0)

/-- The block of the library read at point `t`. -/
theorem block_lib (t : Fin cfg0.N) (r : Fin 2048) (k : Fin 384) (h : 2048 * t.val + r.val < 65536) :
    (blk0 V c 2 t : Vec Ideal S2048x384 .f32) (ix2 r k) = V c main_arg1 (ix2 ⟨2048 * t.val + r.val, h⟩ k) := by
  unfold blk0
  rw [View.read_apply]
  show V c main_arg1 _ = V c main_arg1 _
  congr 1
  funext a
  apply Fin.ext
  match a with
  | ⟨0, _⟩ => show win0_2.index t 0 * 2048 + 1 * r.val = 2048 * t.val + r.val; rw [(index_lib t).1]; omega
  | ⟨1, _⟩ => show win0_2.index t 1 * 384 + 1 * k.val = k.val; rw [(index_lib t).2]; omega

/-- The patches' window is the whole array. -/
theorem block_patch (t : Fin cfg0.N) : (blk0 V c 0 t : Vec Ideal S704x384 .f32) = V c main_v0 := by
  funext i
  unfold blk0
  rw [View.read_apply]
  show V c main_v0 _ = V c main_v0 _
  congr 1
  funext a
  apply Fin.ext
  match a with
  | ⟨0, _⟩ => show 0 * 704 + 1 * (i 0).val = (i 0).val; omega
  | ⟨1, _⟩ => show 0 * 384 + 1 * (i 1).val = (i 1).val; omega

/-- So is the window of the patches times `-2`. -/
theorem block_scaled (t : Fin cfg0.N) : (blk0 V c 1 t : Vec Ideal S704x384 .bf16) = V c main_v3 := by
  funext i
  unfold blk0
  rw [View.read_apply]
  show V c main_v3 _ = V c main_v3 _
  congr 1
  funext a
  apply Fin.ext
  match a with
  | ⟨0, _⟩ => show 0 * 704 + 1 * (i 0).val = (i 0).val; omega
  | ⟨1, _⟩ => show 0 * 384 + 1 * (i 1).val = (i 1).val; omega

theorem pt0_of_lt {n : ℕ} (h : n < 32) : (pt0 n).val = n := Nat.mod_eq_of_lt h

/-- THE RUNNING MINIMUM after point `n`: a number is below it when it is below the values of all rows read so far. -/
theorem carried_le_iff (i : S1x704.Idx) (x : EReal) : ∀ (n : ℕ) (_ : n < 32),
    x ≤ carried0 V c n i ↔ ∀ r : Fin 65536, r.val < 2048 * (n + 1) → x ≤ cross (V c main_arg1) (V c main_v3) (i 1) r := by
  intro n
  induction n with
  | zero =>
    intro h
    unfold carried0
    rw [block_scaled]
    exact step_le_iff _ _ 0 (by omega) _ (fun r k => block_lib V c (pt0 0) r k _) _ i x
      ⟨fun _ r hr => absurd hr (by omega), fun _ => by rw [reset_apply]; exact le_top⟩
  | succ n ih =>
    intro h
    unfold carried0
    rw [block_scaled]
    refine step_le_iff _ _ (n + 1) h _ (fun r k => ?_) _ i x (ih (Nat.lt_of_succ_lt h))
    have e := pt0_of_lt h
    refine (block_lib V c (pt0 (n + 1)) r k (by omega)).trans (congrArg (V c main_arg1) ?_)
    simp only [e]

/-- THE RESULT: at the last point the running minimum covers the whole library, and its root is stored. -/
theorem least_apply (i : S1x704.Idx) :
    minOut V c i = root (V c main_v0) (Finset.univ.fold min ⊤ fun r : Fin 65536 => cross (V c main_arg1) (V c main_v3) (i 1) r) (i 1) := by
  have hlast : carried0 V c 31 i = Finset.univ.fold min ⊤ fun r : Fin 65536 => cross (V c main_arg1) (V c main_v3) (i 1) r := by
    refine eq_of_forall_le_iff fun x => ?_
    rw [carried_le_iff V c i x 31 (by decide), Finset.le_fold_min]
    exact ⟨fun h => ⟨le_top, fun r _ => h r (by omega)⟩, fun h r _ => h.2 r (Finset.mem_univ _)⟩
  unfold minOut
  rw [root_apply, hlast, block_patch]

end Cert.KernelIdeal
-- ==== Proof.Map.lean ====
module

public import proofs.«01_k».proof.Proof.Whole
public import proofs.«01_k».proof.Proof.Matrix
public import proofs.«01_k».proof.Proof.Least
public import Idealize.ShloMosaic.Lib.Pipeline.ValueKit

@[expose] public section

/-!
# The map the kernel leaves, element by element

The result is the third call's second output; that call reads the least distances of the first and the two matrices of the host.
-/

namespace Cert.KernelIdeal

open Idealize.ShloMosaic Idealize.ShloMosaic.TcCoe Cert.KernelIdeal.Gen Cert.Math

section Blocks

variable (V : (c : Dev nD) → (b : Ref sig .tc) → Buf (Elt Ideal) ((c : Thread nD τ).loc b)) (c : Dev nD)

/-- The least distances' window of the third call is the whole array, -/
theorem block_least (t : Fin cfg2.N) : (blk2 V c 2 t : Vec Ideal S1x704 .f32) = V c main_v4_0 := by
  funext i
  unfold blk2
  rw [View.read_apply]
  show V c main_v4_0 _ = V c main_v4_0 _
  congr 1
  funext a
  apply Fin.ext
  match a with
  | ⟨0, _⟩ => show 0 * 1 + 1 * (i 0).val = (i 0).val; omega
  | ⟨1, _⟩ => show 0 * 704 + 1 * (i 1).val = (i 1).val; omega

/-- and so are the windows of the matrix along the rows, -/
theorem block_rows (t : Fin cfg2.N) : (blk2 V c 3 t : Vec Ideal S224x704 .f32) = V c main_v78 := by
  funext i
  unfold blk2
  rw [View.read_apply]
  show V c main_v78 _ = V c main_v78 _
  congr 1
  funext a
  apply Fin.ext
  match a with
  | ⟨0, _⟩ => show 0 * 224 + 1 * (i 0).val = (i 0).val; omega
  | ⟨1, _⟩ => show 0 * 704 + 1 * (i 1).val = (i 1).val; omega

/-- of the leading part of the matrix along the columns, -/
theorem block_leading (t : Fin cfg2.N) : (blk2 V c 4 t : Vec Ideal S224x704 .bf16) = V c main_v83 := by
  funext i
  unfold blk2
  rw [View.read_apply]
  show V c main_v83 _ = V c main_v83 _
  congr 1
  funext a
  apply Fin.ext
  match a with
  | ⟨0, _⟩ => show 0 * 224 + 1 * (i 0).val = (i 0).val; omega
  | ⟨1, _⟩ => show 0 * 704 + 1 * (i 1).val = (i 1).val; omega

/-- and of the rest of it. -/
theorem block_rest (t : Fin cfg2.N) : (blk2 V c 5 t : Vec Ideal S224x704 .bf16) = V c main_v86 := by
  funext i
  unfold blk2
  rw [View.read_apply]
  show V c main_v86 _ = V c main_v86 _
  congr 1
  funext a
  apply Fin.ext
  match a with
  | ⟨0, _⟩ => show 0 * 224 + 1 * (i 0).val = (i 0).val; omega
  | ⟨1, _⟩ => show 0 * 704 + 1 * (i 1).val = (i 1).val; omega

end Blocks

/-- The two products of the third call's last point, as sums: the rows times the least distances, in two parts, against the columns in
    two parts. -/
theorem smoothed_apply (v : Vec Ideal S1x704 .f32) (A : Vec Ideal S224x704 .f32) (B B' : Vec Ideal S224x704 .bf16) (y x : Fin 224) :
    smoothed (F := Ideal) v A B B' (ix2 y x)
      = (0 + ∑ p : Fin 704, A (ix2 y p) * v (ix2 0 p) * B (ix2 x p))
        + ((0 + ∑ p : Fin 704, A (ix2 y p) * v (ix2 0 p) * B' (ix2 x p))
          + (0 + ∑ p : Fin 704, (A (ix2 y p) * v (ix2 0 p) - A (ix2 y p) * v (ix2 0 p)) * B (ix2 x p))) := by
  unfold smoothed k2_pay3 k2_pay10
  simp only [pointwise]
  rfl

/-- ON FINITE NUMBERS the second parts are nothing. -/
theorem smoothed_eq (v : Vec Ideal S1x704 .f32) (A C : Vec Ideal S224x704 .f32) (hv : ∀ i, Fin' (v i)) (hA : ∀ i, Fin' (A i)) (hC : ∀ i, Fin' (C i)) (y x : Fin 224) :
    smoothed (F := Ideal) v A (truncf .bf16 C bitsLt_bf16_f32 : FVec Ideal S224x704 .bf16)
        (truncf .bf16 (subf C (extf .f32 (truncf .bf16 C bitsLt_bf16_f32 : FVec Ideal S224x704 .bf16) bitsLt_bf16_f32)) bitsLt_bf16_f32 : FVec Ideal S224x704 .bf16) (ix2 y x)
      = ∑ p : Fin 704, A (ix2 y p) * v (ix2 0 p) * C (ix2 x p) := by
  have e : ∀ p : Fin 704, ∃ a b d : ℝ, A (ix2 y p) = (a : EReal) ∧ v (ix2 0 p) = (b : EReal) ∧ C (ix2 x p) = (d : EReal) := fun p =>
    ⟨_, _, _, (hA _).coe_toReal.symm, (hv _).coe_toReal.symm, (hC _).coe_toReal.symm⟩
  have h1 : ∀ p : Fin 704, A (ix2 y p) * v (ix2 0 p) * (C (ix2 x p) - C (ix2 x p)) = 0 := fun p => by
    obtain ⟨a, b, d, ha, hb, hd⟩ := e p
    rw [ha, hb, hd, ← EReal.coe_sub, ← EReal.coe_mul, ← EReal.coe_mul, sub_self, mul_zero]; rfl
  have h2 : ∀ p : Fin 704, (A (ix2 y p) * v (ix2 0 p) - A (ix2 y p) * v (ix2 0 p)) * C (ix2 x p) = 0 := fun p => by
    obtain ⟨a, b, d, ha, hb, hd⟩ := e p
    rw [ha, hb, hd, ← EReal.coe_mul, ← EReal.coe_sub, ← EReal.coe_mul, sub_self, zero_mul]; rfl
  rw [smoothed_apply]
  simp only [pointwise, h1, h2, Finset.sum_const_zero, add_zero, zero_add]

variable (m : (ℓ : Loc nD τ sig) → Buf (Elt Ideal) ℓ) (c : Dev nD)

/-- The first call's first output, after the call. -/
theorem left_least : V4 m (outs m) c main_v4_0 = minOut (fun c b => V3 m c b) c := by
  refine (new0 m c main_v4_0 (by decide)).trans ?_
  refine (Pipeline.afterRegion_arr (dat0 (fun c b => V3 m c b) c) (V3 m c) launch0.win.arr_inj 3).trans ?_
  exact (dat0 (fun c b => V3 m c b) c).arrAt_eq_of_after_last 3 (pt0 31) (by decide +kernel) _ fun j => rfl

/-- The third call's second output, after the call. -/
theorem left_map : V17 m (outs m) c main_v87_1 = mapOut (fun c b => V16 m (outsB m) c b) c := by
  refine (new2 m c main_v87_1 (by decide)).trans ?_
  refine (Pipeline.afterRegion_arr (dat2 (fun c b => V16 m (outsB m) c b) c) (V16 m (outsB m) c) launch2.win.arr_inj 8).trans ?_
  exact (dat2 (fun c b => V16 m (outsB m) c b) c).arrAt_eq_of_after_last 8 (pt2 31) (by decide +kernel) _ fun j => rfl

/-- The last host operation only reshapes the map. -/
theorem read_result (V : Valuation τ sig (Elt Ideal)) : StableHlo.after (hostOps3 (F := Ideal)) V (Proc.devRef .tc main_v89)
    = shapeCast S1x1x224x224 (V (Proc.devRef .tc main_v87_1)) shapeCasts_S224x224_S1x1x224x224 := by
  after_reads_simp
  rfl

/-- THE KERNEL'S RESULT: the map of the least distances and of the host's matrices. -/
theorem result_eq : V18 m (outs m) c main_v89
    = shapeCast S1x1x224x224 (smoothed (F := Ideal) (minOut (fun c b => V3 m c b) c) (alongRows (F := Ideal)) (truncf .bf16 (alongColumns (F := Ideal)) bitsLt_bf16_f32 : FVec Ideal S224x704 .bf16)
        (truncf .bf16 (subf (alongColumns (F := Ideal)) (extf .f32 (truncf .bf16 (alongColumns (F := Ideal)) bitsLt_bf16_f32 : FVec Ideal S224x704 .bf16) bitsLt_bf16_f32)) bitsLt_bf16_f32 : FVec Ideal S224x704 .bf16))
      shapeCasts_S224x224_S1x1x224x224 := by
  refine (read_result (V17 m (outs m) c)).trans ?_
  refine congrArg (fun z => shapeCast S1x1x224x224 z shapeCasts_S224x224_S1x1x224x224) ?_
  refine (left_map m c).trans ?_
  unfold mapOut
  rw [block_least, block_rows, block_leading, block_rest]
  refine (congrArg (fun z => smoothed (F := Ideal) z _ _ _) ((at_least m (outsB m) c).trans (left_least m c))).trans ?_
  rw [at_alongRows m (outsB m) c, at_leading m (outsB m) c, at_rest m (outsB m) c]

end Cert.KernelIdeal
-- ==== Proof.Distance.lean ====
module

public import proofs.«01_k».proof.Proof.Block
public import proofs.«01_k».proof.Proof.Gen.ReferenceIdeal.Read
public import proofs.«01_k».proof.Proof.Gen.Pre_finite
public import proofs.«01_k».proof.Defs

@[expose] public section

/-!
# The least distances of kernel and reference

Both sides at one patch, on finite arguments.
-/

namespace Cert.Proof

open Idealize.ShloMosaic Idealize.ShloMosaic.TcCoe Cert.Math

/-- The distance of two vectors as the reference writes it: the root of `|a|² + |b|² - 2 a·b`, bounded below. -/
noncomputable def distance (a b : Fin 384 → EReal) : EReal :=
  Ideal.sqrt (max (Ideal.ofBits .f32 0x2B8CBCCC#32)
    (((0 + ∑ k, a k * a k) + (0 + ∑ k, b k * b k)) - ((2 : ℝ) : EReal) * ∑ k, a k * b k))

/-- The least distance of a vector from the library's rows. -/
noncomputable def least (a : Fin 384 → EReal) (y : FVec Ideal ReferenceIdeal.S65536x384 .f32) : EReal :=
  Finset.univ.fold min ⊤ fun r : Fin 65536 => distance a fun k => y (ix2 r k)

/-- One distance of the reference. -/
theorem reference_distance (x : FVec Ideal ReferenceIdeal.S676x384 .f32) (y : FVec Ideal ReferenceIdeal.S65536x384 .f32) (p : Fin 676) (r : Fin 65536) :
    ReferenceIdeal.Read.val_main_v16 (F := Ideal) x y (ix2 p r) = distance (fun k => x (ix2 p k)) fun k => y (ix2 r k) := by
  have two : Ideal.ofBits .f32 0x40000000#32 = ((2 : ℝ) : EReal) := by
    simp [Ideal.ofBits, Ideal.ieee, -EReal.coe_mul]
    norm_num
  have e1 : ∀ k : Fin 384, ReferenceIdeal.Read.idx_main_v1 (ReferenceIdeal.Read.idx_main_v2 (ReferenceIdeal.Read.idx_main_v7 (ix2 p r))) k = ix2 p k :=
    fun k => funext fun a => match a with | ⟨0, _⟩ => rfl | ⟨1, _⟩ => rfl
  have e2 : ∀ k : Fin 384, ReferenceIdeal.Read.idx_main_v4 (ReferenceIdeal.Read.idx_main_v5 (ReferenceIdeal.Read.idx_main_v6 (ReferenceIdeal.Read.idx_main_v8 (ix2 p r)))) k = ix2 r k :=
    fun k => funext fun a => match a with | ⟨0, _⟩ => rfl | ⟨1, _⟩ => rfl
  have e3 : ∀ k : Fin 384, ReferenceIdeal.Read.lidx_main_v11 (ix2 p r) k = ix2 p k :=
    fun k => funext fun a => match a with | ⟨0, _⟩ => rfl | ⟨1, _⟩ => rfl
  have e4 : ∀ k : Fin 384, ReferenceIdeal.Read.idx_main_v10 (ReferenceIdeal.Read.ridx_main_v11 (ix2 p r) k) = ix2 r k :=
    fun k => funext fun a => match a with | ⟨0, _⟩ => rfl | ⟨1, _⟩ => rfl
  unfold distance
  simp only [ReferenceIdeal.Read.val_main_v16_apply, ReferenceIdeal.Read.val_main_v15_apply,
    ReferenceIdeal.Read.val_main_v14_apply, ReferenceIdeal.Read.val_main_v13_apply, ReferenceIdeal.Read.val_main_v12_apply, ReferenceIdeal.Read.val_main_v11_apply,
    ReferenceIdeal.Read.val_main_v10_apply, ReferenceIdeal.Read.val_main_v9_apply, ReferenceIdeal.Read.val_main_v8_apply, ReferenceIdeal.Read.val_main_v7_apply,
    ReferenceIdeal.Read.val_main_v6_apply, ReferenceIdeal.Read.val_main_v5_apply, ReferenceIdeal.Read.val_main_v4_apply, ReferenceIdeal.Read.val_main_v3_apply,
    ReferenceIdeal.Read.val_main_v2_apply, ReferenceIdeal.Read.val_main_v1_apply, ReferenceIdeal.Read.val_main_v0_apply, ReferenceIdeal.Read.val_main_call0_v1_apply, ReferenceIdeal.Read.val_main_call0_v0_apply,
    ReferenceIdeal.Read.val_main_cst_2_apply, ReferenceIdeal.Read.val_main_cst_1_apply, ReferenceIdeal.Read.val_main_cst_0_apply, ReferenceIdeal.Read.val_main_cst_apply,
    pointwise, e1, e2, e3, e4, two]

/-- The reference's minimum over the library. -/
theorem reference_least (x : FVec Ideal ReferenceIdeal.S676x384 .f32) (y : FVec Ideal ReferenceIdeal.S65536x384 .f32) (i : ReferenceIdeal.S676.Idx) :
    ReferenceIdeal.Read.val_main_v17 (F := Ideal) x y i = least (fun k => x (ix2 (i 0) k)) y := by
  have h : ∀ r, ReferenceIdeal.Read.val_main_v16 (F := Ideal) x y (ix2 (i 0) r) = _ := reference_distance x y (i 0)
  unfold ReferenceIdeal.Read.val_main_v17 least
  generalize ReferenceIdeal.Read.val_main_v16 (F := Ideal) x y = z at h ⊢
  simp only [pointwise, ReferenceIdeal.Read.val_main_cst_3_apply]
  rw [show Ideal.ofBits .f32 0x7F800000#32 = (⊤ : EReal) from KernelIdeal.ofBits_inf]
  exact congrArg (fun f => Finset.univ.fold min ⊤ f) (funext fun r => h r)

/-- What the precondition says of an element. -/
theorem finite_of_lt (x : EReal) (h : BitVec.ofBool (decide (FloatOps.absf (F := Ideal) (φ := .f32) x < Ideal.ofBits .f32 0x7F800000#32)) = 1#1) : Fin' x := by
  rw [KernelIdeal.ofBits_inf] at h
  refine finite_of_abs_lt ?_
  by_contra hn
  rw [decide_eq_false (show ¬FloatOps.absf (F := Ideal) (φ := .f32) x < ⊤ from hn)] at h
  exact absurd h (by decide)

/-- The precondition: both arguments are finite throughout. -/
theorem finite_args (x : FVec Ideal Pre_finite.S676x384 .f32) (y : FVec Ideal Pre_finite.S65536x384 .f32)
    (h1 : (Pre_finite.fn (F := Ideal) x y).1 = fun _ => 1#1) (h2 : (Pre_finite.fn (F := Ideal) x y).2 = fun _ => 1#1) :
    (∀ i, Fin' (x i)) ∧ ∀ i, Fin' (y i) := by
  constructor
  · intro i
    have h := congrFun h1 i
    unfold Pre_finite.fn at h
    dsimp only at h
    simp only [pointwise] at h
    exact finite_of_lt (x i) h
  · intro i
    have h := congrFun h2 i
    unfold Pre_finite.fn at h
    dsimp only at h
    simp only [pointwise] at h
    exact finite_of_lt (y i) h

/-- ON FINITE ARGUMENTS the root of the minimum is the minimum of the roots, and each root is the reference's distance. -/
theorem root_min (a : FVec Ideal KernelIdeal.S704x384 .f32) (y : FVec Ideal ReferenceIdeal.S65536x384 .f32)
    (ha : ∀ i, Fin' (a i)) (hy : ∀ i, Fin' (y i)) (s : FVec Ideal KernelIdeal.S704x384 .bf16)
    (hs : ∀ i, s i = ((-2 : ℝ) : EReal) * a i) (p : Fin 704) :
    KernelIdeal.root a (Finset.univ.fold min ⊤ fun r : Fin 65536 => KernelIdeal.cross y s p r) p = least (fun k => a (ix2 p k)) y := by
  have hp : ∀ k, Fin' (a (ix2 p k)) := fun k => ha _
  unfold least
  refine (map_fold_min _ _ (fun x => KernelIdeal.root a x p) ?_ ?_).trans ?_
  · intro x x' h
    exact sqrt_mono (max_le_max (add_le_add h le_rfl) le_rfl)
  · unfold KernelIdeal.root
    rw [EReal.top_add_of_ne_bot (finite_norm _ hp), max_eq_left le_top]
    rfl
  · refine congrArg (fun f => Finset.univ.fold min ⊤ f) (funext fun r => ?_)
    unfold distance
    rw [max_comm]
    unfold KernelIdeal.root KernelIdeal.cross
    simp only [hs]
    rw [sq_dist _ _ hp (fun k => hy _)]

/-- A distance of finite vectors is a nonnegative number, and finite. -/
theorem finite_distance (a b : Fin 384 → EReal) (ha : ∀ k, Fin' (a k)) (hb : ∀ k, Fin' (b k)) : 0 ≤ distance a b ∧ distance a b < ⊤ := by
  have h : ∃ z : ℝ, max (Ideal.ofBits .f32 0x2B8CBCCC#32) (((0 + ∑ k, a k * a k) + (0 + ∑ k, b k * b k)) - ((2 : ℝ) : EReal) * ∑ k, a k * b k) = (z : EReal) ∧ 0 ≤ z := by
    obtain ⟨a', rfl⟩ : ∃ a' : Fin 384 → ℝ, a = fun k => (a' k : EReal) := ⟨fun k => (a k).toReal, funext fun k => (ha k).coe_toReal.symm⟩
    obtain ⟨b', rfl⟩ : ∃ b' : Fin 384 → ℝ, b = fun k => (b' k : EReal) := ⟨fun k => (b k).toReal, funext fun k => (hb k).coe_toReal.symm⟩
    obtain ⟨e, he, he0⟩ : ∃ e : ℝ, Ideal.ofBits .f32 0x2B8CBCCC#32 = (e : EReal) ∧ 0 ≤ e := by
      refine ⟨9223372 / 9223372036854775808, ?_, by norm_num⟩
      simp [Ideal.ofBits, Ideal.ieee, -EReal.coe_mul]
      norm_num
    simp only [zero_add, ← EReal.coe_mul, ← EReal.coe_sub, coe_sum, ← EReal.coe_add, he]
    exact ⟨_, (EReal.coe_strictMono.monotone.map_max).symm, le_max_of_le_left he0⟩
  obtain ⟨z, hz, hz0⟩ := h
  unfold distance
  rw [hz]
  show 0 ≤ (if z < 0 then (⊥ : EReal) else (Real.sqrt z : EReal)) ∧ (if z < 0 then (⊥ : EReal) else (Real.sqrt z : EReal)) < ⊤
  rw [if_neg (not_lt.mpr hz0)]
  exact ⟨EReal.coe_nonneg.mpr (Real.sqrt_nonneg z), EReal.coe_lt_top _⟩

/-- So is the least of them. -/
theorem finite_least (a : Fin 384 → EReal) (y : FVec Ideal ReferenceIdeal.S65536x384 .f32) (ha : ∀ k, Fin' (a k)) (hy : ∀ i, Fin' (y i)) : Fin' (least a y) := by
  have h := fun r : Fin 65536 => finite_distance a (fun k => y (ix2 r k)) ha (fun k => hy _)
  constructor
  · refine ne_of_gt (lt_of_lt_of_le EReal.bot_lt_zero ?_)
    unfold least
    rw [Finset.le_fold_min]
    exact ⟨le_top, fun r _ => (h r).1⟩
  · refine ne_of_lt (lt_of_le_of_lt ?_ (h 0).2)
    unfold least
    exact ((Finset.le_fold_min _).mp le_rfl).2 0 (Finset.mem_univ _)

end Cert.Proof
-- ==== Proof.Tent.lean ====
module

public import proofs.«01_k».proof.Proof.Matrix
public import proofs.«01_k».proof.Proof.Math

@[expose] public section

/-!
# The bilinear weights, over the reals

The 224 output positions lie among the 26 input positions, each within a half of one of them; so the weights of a position have a sum of a
half at least, and both programs' norming of them is the division by that sum.
-/

namespace Cert.Proof

open Idealize.ShloMosaic Idealize.ShloMosaic.TcCoe Cert.Math

/-- The step between two output positions, as its 32 bits have it. -/
noncomputable def stride : ℝ := 15578843 / 134217728

/-- The output position of number `y`. -/
noncomputable def place (y : ℕ) : ℝ := ((y : ℝ) + 1 / 2) * stride - 1 / 2

/-- The weight of input `r` before norming. -/
noncomputable def hat (y r : ℕ) : ℝ := max 0 (1 - |place y - r|)

/-- The sum of the weights of `y`. -/
noncomputable def total (y : ℕ) : ℝ := ∑ r : Fin 26, hat y r

/-- The weight of input `r` for output `y`. -/
noncomputable def share (y r : ℕ) : ℝ := hat y r / total y

theorem place_ge (y : ℕ) : -1 / 2 ≤ place y := by
  have h : (0 : ℝ) ≤ y := Nat.cast_nonneg y
  have : 0 ≤ ((y : ℝ) + 1 / 2) * stride := by unfold stride; positivity
  unfold place; linarith

theorem place_le (y : ℕ) (hy : y < 224) : place y ≤ 51 / 2 := by
  have h : (y : ℝ) ≤ 223 := by exact_mod_cast Nat.le_of_lt_succ hy
  unfold place stride; linarith

/-- A position is within a half of one of the inputs. -/
theorem near (y : ℕ) (hy : y < 224) : ∃ r : Fin 26, 1 / 2 ≤ hat y r := by
  have h0 : 0 ≤ place y + 1 / 2 := by have := place_ge y; linarith
  have h1 : place y + 1 / 2 < 26 := by
    have h : (y : ℝ) ≤ 223 := by exact_mod_cast Nat.le_of_lt_succ hy
    unfold place stride; linarith
  have h2 := Nat.floor_le h0
  have h3 := Nat.lt_floor_add_one (place y + 1 / 2)
  refine ⟨⟨⌊place y + 1 / 2⌋₊, (Nat.floor_lt h0).mpr (by exact_mod_cast h1)⟩, le_max_of_le_right ?_⟩
  have : |place y - (⌊place y + 1 / 2⌋₊ : ℝ)| ≤ 1 / 2 := abs_le.mpr ⟨by linarith, by linarith⟩
  show 1 / 2 ≤ 1 - |place y - (⌊place y + 1 / 2⌋₊ : ℝ)|
  linarith

theorem total_ge (y : ℕ) (hy : y < 224) : 1 / 2 ≤ total y := by
  obtain ⟨r, hr⟩ := near y hy
  exact hr.trans (Finset.single_le_sum (f := fun r : Fin 26 => hat y r) (fun _ _ => le_max_left _ _) (Finset.mem_univ r))

/-! ## The literals -/

theorem bits_half : Ideal.ofBits .f32 0x3F000000#32 = ((1 / 2 : ℝ) : EReal) := by
  simp [Ideal.ofBits, Ideal.ieee, -EReal.coe_mul]; norm_num
theorem bits_stride : Ideal.ofBits .f32 0x3DEDB6DB#32 = ((stride : ℝ) : EReal) := by
  unfold stride; simp [Ideal.ofBits, Ideal.ieee, -EReal.coe_mul]; norm_num
theorem bits_zero : Ideal.ofBits .f32 0x00000000#32 = ((0 : ℝ) : EReal) := by
  simp [Ideal.ofBits, Ideal.ieee]
theorem bits_one : Ideal.ofBits .f32 0x3F800000#32 = ((1 : ℝ) : EReal) := by
  simp [Ideal.ofBits, Ideal.ieee, -EReal.coe_mul]; norm_num
theorem bits_small : Ideal.ofBits .f32 0x38FA0000#32 = ((125 / 1048576 : ℝ) : EReal) := by
  simp [Ideal.ofBits, Ideal.ieee, -EReal.coe_mul]; norm_num
theorem bits_low : Ideal.ofBits .f32 0xBF000000#32 = ((-1 / 2 : ℝ) : EReal) := by
  simp [Ideal.ofBits, Ideal.ieee, -EReal.coe_mul]; norm_num
theorem bits_high : Ideal.ofBits .f32 0x41CC0000#32 = ((51 / 2 : ℝ) : EReal) := by
  simp [Ideal.ofBits, Ideal.ieee, -EReal.coe_mul]; norm_num

/-- The larger of a number and its negation is its absolute value. -/
theorem max_neg (x : ℝ) : max (x : EReal) (-(x : EReal)) = ((|x| : ℝ) : EReal) := by
  rw [← EReal.coe_neg]; exact (EReal.coe_strictMono.monotone.map_max).symm

theorem max_coe (x y : ℝ) : max (x : EReal) (y : EReal) = ((max x y : ℝ) : EReal) := (EReal.coe_strictMono.monotone.map_max).symm

/-- A small number written as an integer of 32 bits is that number. -/
theorem toInt_small (n : ℕ) (h : n < 1024) : ((BitVec.ofNat 32 n).toInt : ℝ) = (n : ℝ) := by
  have : (BitVec.ofNat 32 n).toInt = (n : ℤ) := by
    rw [BitVec.toInt_eq_toNat_of_lt (by rw [BitVec.toNat_ofNat]; omega), BitVec.toNat_ofNat]; omega
  rw [this]; exact Int.cast_natCast n

/-- Division of a number by a number off zero. -/
theorem div_real (x y : ℝ) (h : y ≠ 0) : Ideal.div (x : EReal) (y : EReal) = ((x / y : ℝ) : EReal) := by
  rw [Ideal.div_coe h, ← EReal.coe_mul, mul_one_div]

/-! ## The kernel's weights -/

theorem kernel_tent (y : Fin 224) (r : Fin 26) : KernelIdeal.tent (F := Ideal) (ix2 y r) = ((hat y r : ℝ) : EReal) := by
  unfold KernelIdeal.tent KernelIdeal.position
  simp only [pointwise, bits_half, bits_stride, bits_zero, bits_one]
  show max ((0 : ℝ) : EReal) (((1 : ℝ) : EReal) - max (((((((BitVec.ofNat 32 y.val).toInt : ℝ) : EReal) + ((1 / 2 : ℝ) : EReal)) * ((stride : ℝ) : EReal) - ((1 / 2 : ℝ) : EReal))
      - (((BitVec.ofNat 32 r.val).toInt : ℝ) : EReal))) (-((((((BitVec.ofNat 32 y.val).toInt : ℝ) : EReal) + ((1 / 2 : ℝ) : EReal)) * ((stride : ℝ) : EReal) - ((1 / 2 : ℝ) : EReal))
      - (((BitVec.ofNat 32 r.val).toInt : ℝ) : EReal)))) = _
  rw [toInt_small y.val (by omega), toInt_small r.val (by omega)]
  simp only [← EReal.coe_add, ← EReal.coe_sub, ← EReal.coe_mul, max_neg, max_coe]
  rfl

theorem kernel_weight (y : Fin 224) (r : Fin 26) : KernelIdeal.weight (F := Ideal) (ix2 y r) = ((share y r : ℝ) : EReal) := by
  have h := kernel_tent y
  unfold KernelIdeal.weight
  generalize KernelIdeal.tent (F := Ideal) = z at h ⊢
  simp only [pointwise]
  show Ideal.div (z (ix2 y r)) (0 + ∑ k : Fin 26, z (ix2 y k)) = _
  simp only [h, coe_sum, zero_add]
  exact div_real _ _ (by have := total_ge y y.isLt; unfold total at this; linarith)

/-! ## The reference's weights -/

theorem reference_place (y : Fin 224) : ReferenceIdeal.Read.val_main_call1_v9 (F := Ideal) (ix1 y) = ((place y : ℝ) : EReal) := by
  simp only [ReferenceIdeal.Read.val_main_call1_v9_apply, ReferenceIdeal.Read.val_main_call1_v8_apply, ReferenceIdeal.Read.val_main_call1_cst_4_apply,
    ReferenceIdeal.Read.val_main_call1_v7_apply, ReferenceIdeal.Read.val_main_call1_v6_apply, ReferenceIdeal.Read.val_main_call1_cst_3_apply,
    ReferenceIdeal.Read.val_main_call1_v5_apply, ReferenceIdeal.Read.val_main_call1_v4_apply, ReferenceIdeal.Read.val_main_call1_cst_2_apply,
    ReferenceIdeal.Read.val_main_call1_v3_apply, ReferenceIdeal.Read.val_main_call1_v2_apply, ReferenceIdeal.Read.val_main_call1_cst_1_apply]
  unfold ReferenceIdeal.Read.val_main_call1_v1
  simp only [pointwise, bits_half, bits_stride, bits_zero]
  show ((((BitVec.ofNat 32 y.val).toInt : ℝ) : EReal) + ((1 / 2 : ℝ) : EReal)) * ((stride : ℝ) : EReal) - ((0 : ℝ) : EReal) - ((1 / 2 : ℝ) : EReal) = _
  rw [toInt_small y.val (by omega)]
  simp only [← EReal.coe_add, ← EReal.coe_sub, ← EReal.coe_mul, sub_zero]
  rfl

theorem reference_hat (r : Fin 26) (y : Fin 224) : ReferenceIdeal.Read.val_main_call1_v24 (F := Ideal) (ix2 r y) = ((hat y r : ℝ) : EReal) := by
  have h := reference_place y
  simp only [ReferenceIdeal.Read.val_main_call1_v24_apply, ReferenceIdeal.Read.val_main_call1_v23_apply, ReferenceIdeal.Read.val_main_call1_cst_6_apply,
    ReferenceIdeal.Read.val_main_call1_v22_apply, ReferenceIdeal.Read.val_main_call1_v21_apply, ReferenceIdeal.Read.val_main_call1_cst_5_apply,
    ReferenceIdeal.Read.val_main_call1_v20_apply, ReferenceIdeal.Read.val_main_call1_v19_apply, ReferenceIdeal.Read.val_main_call1_v18_apply, ReferenceIdeal.Read.val_main_call1_v17_apply,
    ReferenceIdeal.Read.val_main_call1_v0_apply, ReferenceIdeal.Read.val_main_call1_cst_apply, ReferenceIdeal.Read.val_main_call1_cst_0_apply,
    ReferenceIdeal.Read.val_main_call1_v16_apply, ReferenceIdeal.Read.val_main_call1_v15_apply, ReferenceIdeal.Read.val_main_call1_v14_apply, ReferenceIdeal.Read.val_main_call1_v12_apply,
    ReferenceIdeal.Read.val_main_call1_v13_apply, ReferenceIdeal.Read.val_main_call1_v11_apply]
  unfold ReferenceIdeal.Read.val_main_call1_v10
  generalize ReferenceIdeal.Read.val_main_call1_v9 (F := Ideal) = z at h ⊢
  simp only [pointwise, bits_stride, bits_zero, bits_one]
  rw [show z (ReferenceIdeal.Read.idx_main_call1_v11 (ReferenceIdeal.Read.idx_main_call1_v13 (ix2 r y))) = ((place y : ℝ) : EReal) from
      (congrArg z (show ReferenceIdeal.Read.idx_main_call1_v11 (ReferenceIdeal.Read.idx_main_call1_v13 (ix2 r y)) = ix1 y from funext fun a => match a with | ⟨0, _⟩ => rfl)).trans h,
    show (FloatOps.sitofp .f32 (BitVec.ofNat 32 r.val) : Ideal .f32) = ((r.val : ℝ) : EReal) from
      congrArg (fun t : ℝ => (t : EReal)) (toInt_small r.val (by omega))]
  show max ((0 : ℝ) : EReal) (((1 : ℝ) : EReal) - max (Ideal.div (max (((place y : ℝ) : EReal) - ((r.val : ℝ) : EReal)) (-(((place y : ℝ) : EReal) - ((r.val : ℝ) : EReal)))) (max ((stride : ℝ) : EReal) ((1 : ℝ) : EReal)))
    (-(Ideal.div (max (((place y : ℝ) : EReal) - ((r.val : ℝ) : EReal)) (-(((place y : ℝ) : EReal) - ((r.val : ℝ) : EReal)))) (max ((stride : ℝ) : EReal) ((1 : ℝ) : EReal))))) = _
  have hs : max stride 1 = 1 := max_eq_right (by unfold stride; norm_num)
  rw [max_coe stride 1, hs, ← EReal.coe_sub, max_neg, div_real _ _ one_ne_zero, div_one, max_neg, abs_abs, ← EReal.coe_sub, max_coe]
  rfl

theorem reference_total (y : Fin 224) : ReferenceIdeal.Read.val_main_call1_v25 (F := Ideal) (ix1 y) = ((total y : ℝ) : EReal) := by
  rw [ReferenceIdeal.Read.val_main_call1_v25_apply, ReferenceIdeal.Read.val_main_call1_cst_7_apply]
  have e : ∀ k : Fin 26, ReferenceIdeal.Read.idx_main_call1_v25 (ix1 y) k = ix2 k y := fun k => funext fun a => match a with | ⟨0, _⟩ => rfl | ⟨1, _⟩ => rfl
  simp only [e, reference_hat, coe_sum, Ideal.ofBits_def, bits_zero]
  rw [← EReal.coe_add, zero_add]
  rfl

/-- The reference norms every position's weights: the sum is off zero, above the bound under which they would be dropped, and the position is
    among the inputs. -/
theorem reference_weight (r : Fin 26) (y : Fin 224) : ReferenceIdeal.Read.val_main_call1_v42 (F := Ideal) (ix2 r y) = ((share y r : ℝ) : EReal) := by
  have hp := reference_place y
  have hh := reference_hat r y
  have ht := reference_total y
  have hpos := total_ge y y.isLt
  have i1 : ∀ i : ReferenceIdeal.S224.Idx, (i 0).val = y.val → i = ix1 y := fun i hi => funext fun a => match a with | ⟨0, _⟩ => Fin.ext hi
  have e26 : ReferenceIdeal.Read.val_main_call1_v26 (F := Ideal) (ix2 0 y) = ((total y : ℝ) : EReal) := by
    rw [ReferenceIdeal.Read.val_main_call1_v26_apply, i1 (ReferenceIdeal.Read.idx_main_call1_v26 (ix2 0 y)) rfl, ht]
  have e29 : ReferenceIdeal.Read.val_main_call1_v29 (F := Ideal) (ix2 0 y) = 1#1 := by
    rw [ReferenceIdeal.Read.val_main_call1_v29_apply, ReferenceIdeal.Read.val_main_call1_v27_apply, ReferenceIdeal.Read.val_main_call1_v28_apply, ReferenceIdeal.Read.val_main_call1_cst_8_apply, e26]
    show BitVec.ofBool (decide (Ideal.ofBits .f32 0x38FA0000#32 < max ((total y : ℝ) : EReal) (-((total y : ℝ) : EReal)))) = 1#1
    rw [bits_small, max_neg, decide_eq_true (EReal.coe_lt_coe_iff.mpr (by rw [abs_of_nonneg (by linarith)]; linarith))]
    rfl
  have e32 : ReferenceIdeal.Read.val_main_call1_v32 (F := Ideal) (ix2 0 y) = ((total y : ℝ) : EReal) := by
    rw [ReferenceIdeal.Read.val_main_call1_v32_apply, ReferenceIdeal.Read.val_main_call1_v31_apply, ReferenceIdeal.Read.val_main_call1_v30_apply, ReferenceIdeal.Read.val_main_call1_cst_9_apply, e26]
    have : (FloatOps.cmpf .une ((total y : ℝ) : EReal) (FloatOps.ofBits .f32 0x00000000#32 : Ideal .f32) : BitVec 1) = 1#1 := by
      show BitVec.ofBool (decide (((total y : ℝ) : EReal) ≠ Ideal.ofBits .f32 0x00000000#32)) = 1#1
      have hne : ((total y : ℝ) : EReal) ≠ Ideal.ofBits .f32 0x00000000#32 := by
        rw [bits_zero]
        exact fun h => by have := EReal.coe_eq_coe_iff.mp h; linarith
      rw [decide_eq_true hne]
      rfl
    erw [this]
    rfl
  have e40 : ReferenceIdeal.Read.val_main_call1_v40 (F := Ideal) (ix1 y) = 1#1 := by
    rw [ReferenceIdeal.Read.val_main_call1_v40_apply, ReferenceIdeal.Read.val_main_call1_v37_apply, ReferenceIdeal.Read.val_main_call1_v39_apply,
      ReferenceIdeal.Read.val_main_call1_v36_apply, ReferenceIdeal.Read.val_main_call1_v38_apply, ReferenceIdeal.Read.val_main_call1_cst_11_apply, ReferenceIdeal.Read.val_main_call1_cst_12_apply, hp]
    show BitVec.ofBool (decide (Ideal.ofBits .f32 0xBF000000#32 ≤ ((place y : ℝ) : EReal))) &&& BitVec.ofBool (decide (((place y : ℝ) : EReal) ≤ Ideal.ofBits .f32 0x41CC0000#32)) = 1#1
    rw [bits_low, bits_high, decide_eq_true (EReal.coe_le_coe_iff.mpr (place_ge y)), decide_eq_true (EReal.coe_le_coe_iff.mpr (place_le y y.isLt))]
    rfl
  have j0 : ∀ i : ReferenceIdeal.S1x224.Idx, (i 1).val = y.val → i = ix2 0 y := fun i hi => funext fun a => match a with
    | ⟨0, _⟩ => Fin.ext (by have := (i 0).isLt; have : (i 0).val < 1 := this; show (i 0).val = 0; omega)
    | ⟨1, _⟩ => Fin.ext hi
  rw [ReferenceIdeal.Read.val_main_call1_v42_apply, ReferenceIdeal.Read.val_main_call1_call2_v1_apply, ReferenceIdeal.Read.val_main_call1_v41_apply,
    i1 (ReferenceIdeal.Read.idx_main_call1_v41 (ReferenceIdeal.Read.idx_main_call1_call2_v1 (ix2 r y))) rfl, e40,
    ReferenceIdeal.Read.val_main_call1_v35_apply, ReferenceIdeal.Read.val_main_call1_call1_v1_apply, j0 (ReferenceIdeal.Read.idx_main_call1_call1_v1 (ix2 r y)) rfl, e29,
    ReferenceIdeal.Read.val_main_call1_v34_apply, ReferenceIdeal.Read.val_main_call1_v33_apply, j0 (ReferenceIdeal.Read.idx_main_call1_v33 (ix2 r y)) rfl, e32, hh]
  exact div_real _ _ (by linarith)

/-- Both resizings have the same weights. -/
theorem reference_weight' (r : Fin 26) (y : Fin 224) : ReferenceIdeal.Read.val_main_call2_v42 (F := Ideal) (ix2 r y) = ((share y r : ℝ) : EReal) :=
  (show ReferenceIdeal.Read.val_main_call2_v42 (F := Ideal) (ix2 r y) = ReferenceIdeal.Read.val_main_call1_v42 (F := Ideal) (ix2 r y) from rfl).trans (reference_weight r y)

end Cert.Proof
-- ==== Proof.Blur.lean ====
module

public import proofs.«01_k».proof.Proof.Gen.ReferenceIdeal.Read
public import proofs.«01_k».proof.Proof.Tent

@[expose] public section

/-!
# The reference's blur, element by element

Along each axis the array is reflected at both ends and 33 shifted copies are added, each times its factor.
-/

namespace Cert.Proof

open Idealize.ShloMosaic Idealize.ShloMosaic.TcCoe Cert.ReferenceIdeal Cert.ReferenceIdeal.Gen Cert.ReferenceIdeal.Read Cert.Math

/-- The position of the image that position `j` of the reflected array shows. -/
def mirrorAt (j : Fin 256) : Fin 224 := ⟨if j.val < 16 then 16 - j.val else if j.val < 240 then j.val - 16 else 462 - j.val, by split_ifs <;> omega⟩

/-- The position that step `d` reads for output `y`. -/
def seen (y : Fin 224) (d : Fin 33) : Fin 224 := mirrorAt ⟨y.val + d.val, by omega⟩

/-! ## The reflected arrays -/

theorem reflected_rows (x0 : FVec Ideal S676x384 .f32) (x1 : FVec Ideal S65536x384 .f32) (j : Fin 256) (x : Fin 224) :
    val_main_v35 (F := Ideal) x0 x1 (ix4 0 0 j x) = val_main_v22 (F := Ideal) x0 x1 (ix4 0 0 (mirrorAt j) x) := by
  unfold val_main_v35 val_main_call3_v6 val_main_call3_v5 val_main_call3_v3 val_main_call3_v2 val_main_call3_v1
  generalize val_main_v22 (F := Ideal) x0 x1 = z
  simp only [pointwise]
  have hj : j.val < 256 := j.isLt
  by_cases h : j.val < 240
  · rw [dif_pos h]
    by_cases h' : j.val < 16
    · rw [dif_pos h']
      refine congrArg z ?_
      congr 1 <;> refine Fin.ext ?_ <;> simp [Fin.val_rev, mirrorAt, h'] <;> omega
    · rw [dif_neg h']
      refine congrArg z ?_
      congr 1 <;> refine Fin.ext ?_ <;> simp [mirrorAt, h, h']
  · have h' : ¬ j.val < 16 := by omega
    rw [dif_neg h, dif_neg (by simp [Fin.val_rev]; omega)]
    refine congrArg z ?_
    congr 1 <;> refine Fin.ext ?_ <;> simp [Fin.val_rev, mirrorAt, h, h'] <;> omega

theorem reflected_columns (x0 : FVec Ideal S676x384 .f32) (x1 : FVec Ideal S65536x384 .f32) (y : Fin 224) (j : Fin 256) :
    val_main_v235 (F := Ideal) x0 x1 (ix4 0 0 y j) = val_main_v234 (F := Ideal) x0 x1 (ix4 0 0 y (mirrorAt j)) := by
  unfold val_main_v235 val_main_call4_v6 val_main_call4_v5 val_main_call4_v3 val_main_call4_v2 val_main_call4_v1
  generalize val_main_v234 (F := Ideal) x0 x1 = z
  simp only [pointwise]
  have hj : j.val < 256 := j.isLt
  by_cases h : j.val < 240
  · rw [dif_pos h]
    by_cases h' : j.val < 16
    · rw [dif_pos h']
      refine congrArg z ?_
      congr 1 <;> refine Fin.ext ?_ <;> simp [Fin.val_rev, mirrorAt, h'] <;> omega
    · rw [dif_neg h']
      refine congrArg z ?_
      congr 1 <;> refine Fin.ext ?_ <;> simp [mirrorAt, h, h']
  · have h' : ¬ j.val < 16 := by omega
    rw [dif_neg h, dif_neg (by simp [Fin.val_rev]; omega)]
    refine congrArg z ?_
    congr 1 <;> refine Fin.ext ?_ <;> simp [Fin.val_rev, mirrorAt, h, h'] <;> omega

/-! ## The sums of shifted copies -/

/-- The first `n` shifted copies along the rows' axis, each times its factor. -/
noncomputable def addedRows (k : FVec Ideal S33 .f32) (x : FVec Ideal S1x1x256x224 .f32) (n : ℕ) (hn : n ≤ 33) : FVec Ideal S1x1x224x224 .f32 := fun i =>
  ∑ d : Fin n, k (ix1 ⟨d.val, by omega⟩) * x (ix4 0 0 ⟨(i 2).val + d.val, by have : (i 2).val < 224 := (i 2).isLt; omega⟩ (i 3))

/-- Along the columns' axis, likewise. -/
noncomputable def addedColumns (k : FVec Ideal S33 .f32) (x : FVec Ideal S1x1x224x256 .f32) (n : ℕ) (hn : n ≤ 33) : FVec Ideal S1x1x224x224 .f32 := fun i =>
  ∑ d : Fin n, k (ix1 ⟨d.val, by omega⟩) * x (ix4 0 0 (i 2) ⟨(i 3).val + d.val, by have : (i 3).val < 224 := (i 3).isLt; omega⟩)

/-- The factor of a step, spread over the image. -/
theorem factor_apply (k : FVec Ideal S33 .f32) (n : ℕ) (hn : n < 33) (hs : S33.Slices ![n] S1) (i : S1x1x224x224.Idx) :
    broadcastInDim S1x1x224x224 ![] bcast_S_S1x1x224x224 (shapeCast S_ (extractStridedSlice S1 ![n] k hs) shapeCasts_S1_S_) i = k (ix1 ⟨n, hn⟩) := by
  refine (broadcastInDim_apply _ bcast_S_S1x1x224x224 _ i (fun a => a.elim0) (fun a => a.elim0)).trans ?_
  refine (shapeCast_apply _ shapeCasts_S1_S_ _ (ix1 0) rfl).trans ?_
  exact extractStridedSlice_apply ![n] k hs _ _ fun a => match a with | ⟨0, _⟩ => rfl

theorem one_more_row (k : FVec Ideal S33 .f32) (x : FVec Ideal S1x1x256x224 .f32) (n : ℕ) (hn : n + 1 ≤ 33) (hs : S33.Slices ![n] S1) (hx : S1x1x256x224.Slices ![0, 0, n, 0] S1x1x224x224)
    (acc : FVec Ideal S1x1x224x224 .f32) (h : acc = addedRows k x n (by omega)) :
    addf acc (mulf (broadcastInDim S1x1x224x224 ![] bcast_S_S1x1x224x224 (shapeCast S_ (extractStridedSlice S1 ![n] k hs) shapeCasts_S1_S_)) (extractStridedSlice S1x1x224x224 ![0, 0, n, 0] x hx))
      = addedRows k x (n + 1) hn := by
  funext i
  show acc i + broadcastInDim S1x1x224x224 ![] bcast_S_S1x1x224x224 (shapeCast S_ (extractStridedSlice S1 ![n] k hs) shapeCasts_S1_S_) i * extractStridedSlice S1x1x224x224 ![0, 0, n, 0] x hx i = _
  rw [factor_apply k n (by omega), h]
  unfold addedRows
  rw [Fin.sum_univ_castSucc]
  refine congrArg₂ (· + ·) rfl (congrArg₂ (· * ·) rfl ?_)
  refine extractStridedSlice_apply ![0, 0, n, 0] x hx i _ fun a => ?_
  match a with
  | ⟨0, _⟩ => have h0 : (i 0).val < 1 := (i 0).isLt; show 0 = 0 + (i 0).val; omega
  | ⟨1, _⟩ => have h0 : (i 1).val < 1 := (i 1).isLt; show 0 = 0 + (i 1).val; omega
  | ⟨2, _⟩ => show (i 2).val + n = n + (i 2).val; omega
  | ⟨3, _⟩ => show (i 3).val = 0 + (i 3).val; omega

theorem one_more_column (k : FVec Ideal S33 .f32) (x : FVec Ideal S1x1x224x256 .f32) (n : ℕ) (hn : n + 1 ≤ 33) (hs : S33.Slices ![n] S1) (hx : S1x1x224x256.Slices ![0, 0, 0, n] S1x1x224x224)
    (acc : FVec Ideal S1x1x224x224 .f32) (h : acc = addedColumns k x n (by omega)) :
    addf acc (mulf (broadcastInDim S1x1x224x224 ![] bcast_S_S1x1x224x224 (shapeCast S_ (extractStridedSlice S1 ![n] k hs) shapeCasts_S1_S_)) (extractStridedSlice S1x1x224x224 ![0, 0, 0, n] x hx))
      = addedColumns k x (n + 1) hn := by
  funext i
  show acc i + broadcastInDim S1x1x224x224 ![] bcast_S_S1x1x224x224 (shapeCast S_ (extractStridedSlice S1 ![n] k hs) shapeCasts_S1_S_) i * extractStridedSlice S1x1x224x224 ![0, 0, 0, n] x hx i = _
  rw [factor_apply k n (by omega), h]
  unfold addedColumns
  rw [Fin.sum_univ_castSucc]
  refine congrArg₂ (· + ·) rfl (congrArg₂ (· * ·) rfl ?_)
  refine extractStridedSlice_apply ![0, 0, 0, n] x hx i _ fun a => ?_
  match a with
  | ⟨0, _⟩ => have h0 : (i 0).val < 1 := (i 0).isLt; show 0 = 0 + (i 0).val; omega
  | ⟨1, _⟩ => have h0 : (i 1).val < 1 := (i 1).isLt; show 0 = 0 + (i 1).val; omega
  | ⟨2, _⟩ => show (i 2).val = 0 + (i 2).val; omega
  | ⟨3, _⟩ => show (i 3).val + n = n + (i 3).val; omega

/-- The sum along the rows' axis. -/
theorem blurred_rows (x0 : FVec Ideal S676x384 .f32) (x1 : FVec Ideal S65536x384 .f32) :
    val_main_v234 (F := Ideal) x0 x1 = addedRows (val_main_v34 (F := Ideal)) (val_main_v35 (F := Ideal) x0 x1) 33 le_rfl := by
  iterate 33 refine one_more_row (val_main_v34 (F := Ideal)) (val_main_v35 (F := Ideal) x0 x1) _ _ _ _ _ ?_
  funext i
  show Ideal.ofBits .f32 0x00000000#32 = ∑ d : Fin 0, _
  rw [bits_zero]; rfl

/-- The sum along the columns' axis: the reference's result. -/
theorem blurred_columns (x0 : FVec Ideal S676x384 .f32) (x1 : FVec Ideal S65536x384 .f32) :
    val_main_v434 (F := Ideal) x0 x1 = addedColumns (val_main_v34 (F := Ideal)) (val_main_v235 (F := Ideal) x0 x1) 33 le_rfl := by
  iterate 33 refine one_more_column (val_main_v34 (F := Ideal)) (val_main_v235 (F := Ideal) x0 x1) _ _ _ _ _ ?_
  funext i
  show Ideal.ofBits .f32 0x00000000#32 = ∑ d : Fin 0, _
  rw [bits_zero]; rfl

/-- The blur's factors are numbers. -/
theorem finite_factors : ∃ g : Fin 33 → ℝ, ∀ d, val_main_v34 (F := Ideal) (ix1 d) = ((g d : ℝ) : EReal) := by
  have e : ∀ d : Fin 33, ∃ z : ℝ, val_main_v31 (F := Ideal) (ix1 d) = ((Real.exp z : ℝ) : EReal) := fun d => by
    simp only [val_main_v31_apply, val_main_v30_apply, val_main_v29_apply, val_main_cst_6_apply, val_main_v28_apply, val_main_v27_apply, val_main_v26_apply, val_main_cst_5_apply,
      val_main_v25_apply, val_main_v24_apply, val_main_cst_4_apply]
    unfold val_main_v23
    simp only [pointwise]
    show ∃ z : ℝ, Ideal.exp (Ideal.ofBits .f32 0xBF000000#32
      * (Ideal.div ((((BitVec.ofNat 32 d.val).toInt : ℝ) : EReal) - Ideal.ofBits .f32 0x41800000#32) (Ideal.ofBits .f32 0x40800000#32)
        * Ideal.div ((((BitVec.ofNat 32 d.val).toInt : ℝ) : EReal) - Ideal.ofBits .f32 0x41800000#32) (Ideal.ofBits .f32 0x40800000#32))) = _
    rw [show Ideal.ofBits .f32 0xBF000000#32 = ((-(1/2) : ℝ) : EReal) by simp [Ideal.ofBits, Ideal.ieee, -EReal.coe_mul]; norm_num,
      show Ideal.ofBits .f32 0x41800000#32 = ((16 : ℝ) : EReal) by simp [Ideal.ofBits, Ideal.ieee, -EReal.coe_mul]; norm_num,
      show Ideal.ofBits .f32 0x40800000#32 = ((4 : ℝ) : EReal) by simp [Ideal.ofBits, Ideal.ieee, -EReal.coe_mul]; norm_num,
      ← EReal.coe_sub, div_real _ _ (by norm_num), ← EReal.coe_mul, ← EReal.coe_mul]
    exact ⟨_, Ideal.exp_coe _⟩
  choose z hz using e
  refine ⟨fun d => Real.exp (z d) / ∑ k, Real.exp (z k), fun d => ?_⟩
  have hs : val_main_v32 (F := Ideal) (fun a => a.elim0) = ((∑ k, Real.exp (z k) : ℝ) : EReal) := by
    unfold val_main_v32
    generalize val_main_v31 (F := Ideal) = w at hz ⊢
    simp only [pointwise]
    rw [show val_main_cst_7 (F := Ideal) (Shape.Idx.first h_S_) = ((0 : ℝ) : EReal) from bits_zero, EReal.coe_zero, zero_add, ← coe_sum]
    exact Finset.sum_congr rfl fun k _ => hz k
  have hp : (∑ k, Real.exp (z k) : ℝ) ≠ 0 := (Finset.sum_pos (fun k _ => Real.exp_pos _) ⟨0, Finset.mem_univ _⟩).ne'
  rw [val_main_v34_apply, hz]
  show Ideal.div _ (val_main_v33 (F := Ideal) (ix1 d)) = _
  rw [show val_main_v33 (F := Ideal) (ix1 d) = val_main_v32 (F := Ideal) (fun a => a.elim0) from by
    rw [val_main_v33_apply], hs]
  exact div_real _ _ hp

end Cert.Proof
-- ==== Proof.Smooth.lean ====
module

public import proofs.«01_k».proof.Proof.Matrix
public import proofs.«01_k».proof.Proof.Blur

@[expose] public section

/-!
# The kernel's smoothing matrix, element by element
-/

namespace Cert.Proof

open Idealize.ShloMosaic Idealize.ShloMosaic.TcCoe Cert.KernelIdeal Cert.KernelIdeal.Gen Cert.Math

theorem mirror_all : ∀ n : Fin 256,
    Scalar.select (IntOp.cmpi .sgt (IntOp.absi (IntOp.subi (BitVec.ofNat 32 n.val) 16#32)) 223#32)
      (IntOp.subi 446#32 (IntOp.absi (IntOp.subi (BitVec.ofNat 32 n.val) 16#32))) (IntOp.absi (IntOp.subi (BitVec.ofNat 32 n.val) 16#32))
      = BitVec.ofNat 32 (mirrorAt n).val := by
  decide +kernel

theorem mirror_apply (y : Fin 224) (d : Fin 33) : mirror (ix2 y d) = BitVec.ofNat 32 (seen y d).val := by
  unfold mirror offset
  simp only [pointwise]
  have h := mirror_all ⟨y.val + d.val, by omega⟩
  rw [BitVec.ofNat_add] at h
  exact h

theorem spread_apply (y : Fin 224) (d : Fin 33) (u : Fin 224) :
    spread (F := Ideal) (ix3 y d u) = if u = seen y d then gauss (F := Ideal) (ix1 d) else 0 := by
  unfold spread
  have h := mirror_apply y d
  generalize mirror = z at h ⊢
  generalize gauss (F := Ideal) = g
  simp only [pointwise]
  show Scalar.select (IntOp.cmpi .eq (z (ix2 y d)) (BitVec.ofNat 32 u.val)) (g (ix1 d)) (0 : EReal) = _
  rw [h]
  by_cases e : u = seen y d
  · rw [if_pos e, ← e]
    simp [Scalar.select, IntOp.cmpi]
  · have ne : (BitVec.ofNat 32 (seen y d).val == BitVec.ofNat 32 u.val) = false := by
      rw [beq_eq_false_iff_ne]
      intro h'
      have := congrArg BitVec.toNat h'
      rw [BitVec.toNat_ofNat, BitVec.toNat_ofNat] at this
      exact e (Fin.ext (by omega))
    rw [if_neg e]
    simp [Scalar.select, IntOp.cmpi, ne]

theorem blur_apply (y : Fin 224) (u : Fin 224) :
    blur (F := Ideal) (ix2 y u) = ∑ d : Fin 33, spread (F := Ideal) (ix3 y d u) := by
  unfold blur
  generalize spread (F := Ideal) = z
  simp only [pointwise]
  exact zero_add _

theorem smooth_sum (y : Fin 224) (r : Fin 26) :
    smooth (F := Ideal) (ix2 y r) = ∑ u : Fin 224, blur (F := Ideal) (ix2 y u) * weight (F := Ideal) (ix2 u r) := by
  unfold smooth
  generalize blur (F := Ideal) = z
  generalize weight (F := Ideal) = w
  simp only [pointwise]
  exact zero_add _

theorem alongRows_apply (y : Fin 224) (p : Fin 704) :
    alongRows (F := Ideal) (ix2 y p) = if h : p.val < 676 then smooth (F := Ideal) (ix2 y ⟨p.val / 26, by omega⟩) else 0 := by
  unfold alongRows
  generalize smooth (F := Ideal) = z
  simp only [pointwise]
  by_cases h : p.val < 676
  · rw [dif_pos h, dif_pos (fun a => by
      match a with
      | ⟨0, _⟩ => show 0 ≤ y.val ∧ (y.val - 0) % (0 + 1) = 0 ∧ (y.val - 0) / (0 + 1) < 224; omega
      | ⟨1, _⟩ => show 0 ≤ p.val ∧ (p.val - 0) % (0 + 1) = 0 ∧ (p.val - 0) / (0 + 1) < 676; omega)]
    refine congrArg z ?_
    congr 1 <;> refine Fin.ext ?_
    · show (y.val - 0) / (0 + 1) = y.val; omega
    · show (p.val - 0) / (0 + 1) / 26 = p.val / 26; omega
  · rw [dif_neg h, dif_neg (fun hin => h (by
      have h1 : (p.val - 0) / (0 + 1) < 676 := (hin 1).2.2
      omega))]
    show ((((0#32 : BitVec 32).toInt : ℝ)) : EReal) = 0
    simp

theorem alongColumns_apply (y : Fin 224) (p : Fin 704) :
    alongColumns (F := Ideal) (ix2 y p) = if h : p.val < 676 then smooth (F := Ideal) (ix2 y ⟨p.val % 26, by omega⟩) else 0 := by
  unfold alongColumns
  generalize smooth (F := Ideal) = z
  simp only [pointwise]
  by_cases h : p.val < 676
  · rw [dif_pos h, dif_pos (fun a => by
      match a with
      | ⟨0, _⟩ => show 0 ≤ y.val ∧ (y.val - 0) % (0 + 1) = 0 ∧ (y.val - 0) / (0 + 1) < 224; omega
      | ⟨1, _⟩ => show 0 ≤ p.val ∧ (p.val - 0) % (0 + 1) = 0 ∧ (p.val - 0) / (0 + 1) < 676; omega)]
    refine congrArg z ?_
    congr 1 <;> refine Fin.ext ?_
    · show (y.val - 0) / (0 + 1) = y.val; omega
    · show (p.val - 0) / (0 + 1) % 26 = p.val % 26; omega
  · rw [dif_neg h, dif_neg (fun hin => h (by
      have h1 : (p.val - 0) / (0 + 1) < 676 := (hin 1).2.2
      omega))]
    show ((((0#32 : BitVec 32).toInt : ℝ)) : EReal) = 0
    simp

/-- The weight of patch row or column `r` in output `y`, after resizing and blurring. -/
noncomputable def mixed (g : Fin 33 → ℝ) (y : Fin 224) (r : Fin 26) : ℝ := ∑ d : Fin 33, g d * share (seen y d) r

theorem smooth_apply (g : Fin 33 → ℝ) (hg : ∀ d, ReferenceIdeal.Read.val_main_v34 (F := Ideal) (ix1 d) = ((g d : ℝ) : EReal)) (y : Fin 224) (r : Fin 26) :
    smooth (F := Ideal) (ix2 y r) = ((mixed g y r : ℝ) : EReal) := by
  have hb (u : Fin 224) : blur (F := Ideal) (ix2 y u) = ((∑ d : Fin 33, if u = seen y d then g d else 0 : ℝ) : EReal) := by
    rw [blur_apply, ← coe_sum]
    refine Finset.sum_congr rfl fun d _ => ?_
    rw [spread_apply]
    split_ifs
    · exact hg d
    · rfl
  rw [smooth_sum]
  simp only [hb, kernel_weight, ← EReal.coe_mul, coe_sum]
  refine congrArg _ ?_
  unfold mixed
  simp only [Finset.sum_mul]
  rw [Finset.sum_comm]
  refine Finset.sum_congr rfl fun d _ => ?_
  simp only [ite_mul, zero_mul, Finset.sum_ite_eq', Finset.mem_univ, if_true]

end Cert.Proof
-- ==== Proof.Equation.lean ====
module

public import proofs.«01_k».proof.Proof.Map
public import proofs.«01_k».proof.Proof.Distance
public import proofs.«01_k».proof.Proof.Smooth

@[expose] public section

/-!
# The kernel's map is the reference's

The reference resizes along each axis, then blurs along each. The kernel multiplies once by the matrix of resizing and blurring along the
rows and once by that along the columns. With the least distances and every factor a number, both are the same finite sums.
-/

namespace Cert.Proof

open Idealize.ShloMosaic Idealize.ShloMosaic.TcCoe Cert.Math

/-! ## The exchange of the sums -/

/-- Blurring along the rows after blurring along the columns of the resized numbers, against the two mixed weights. -/
theorem exchange (g : Fin 33 → ℝ) (m : Fin 26 → Fin 26 → ℝ) (y x : Fin 224) :
    ∑ e, g e * ∑ d, g d * ∑ k, (∑ l, m k l * share (seen x e) l) * share (seen y d) k
      = ∑ k, ∑ l, mixed g y k * m k l * mixed g x l := by
  have h1 : ∀ z : Fin 26 → ℝ, ∑ d, g d * ∑ k, z k * share (seen y d) k = ∑ k, mixed g y k * z k := fun z => by
    unfold mixed
    simp only [Finset.mul_sum, Finset.sum_mul]
    rw [Finset.sum_comm]
    exact Finset.sum_congr rfl fun k _ => Finset.sum_congr rfl fun d _ => by ring
  simp only [h1]
  unfold mixed
  simp only [Finset.mul_sum, Finset.sum_mul]
  rw [Finset.sum_comm]
  refine Finset.sum_congr rfl fun k _ => ?_
  rw [Finset.sum_comm]
  refine (Finset.sum_congr rfl fun l _ => ?_)
  exact Finset.sum_congr rfl fun e _ => Finset.sum_congr rfl fun d _ => by ring

/-- A sum over the padded patches that is zero beyond the 676 runs over the rows and columns of patches. -/
theorem by_rows (f : Fin 676 → ℝ) :
    (∑ p : Fin 704, if h : p.val < 676 then f ⟨p.val, h⟩ else 0) = ∑ k : Fin 26, ∑ l : Fin 26, f ⟨k.val * 26 + l.val, by omega⟩ := by
  have h1 : (∑ p : Fin (676 + 28), if h : p.val < 676 then f ⟨p.val, h⟩ else 0) = ∑ p : Fin 676, f p := by
    rw [Fin.sum_univ_add]
    have z : (∑ i : Fin 28, if h : (Fin.natAdd 676 i).val < 676 then f ⟨(Fin.natAdd 676 i).val, h⟩ else 0) = 0 :=
      Finset.sum_eq_zero fun i _ => dif_neg (by simp)
    rw [z, add_zero]
    exact Finset.sum_congr rfl fun i _ => dif_pos i.isLt
  refine h1.trans ?_
  rw [← Finset.sum_product', Finset.univ_product_univ]
  refine (Fintype.sum_equiv (finProdFinEquiv (m := 26) (n := 26)) _ (fun p : Fin 676 => f p) fun q => congrArg f (Fin.ext ?_)).symm
  show q.1.val * 26 + q.2.val = q.2.val + 26 * q.1.val
  omega

/-! ## The reference -/

section Reference

open Cert.ReferenceIdeal Cert.ReferenceIdeal.Read

variable (x0 : FVec Ideal S676x384 .f32) (x1 : FVec Ideal S65536x384 .f32)

/-- The resized map at an element. -/
theorem resized_apply (m : Fin 676 → ℝ) (hm : ∀ p, val_main_v17 (F := Ideal) x0 x1 (ix1 p) = ((m p : ℝ) : EReal)) (y u : Fin 224) :
    val_main_v22 (F := Ideal) x0 x1 (ix4 0 0 y u)
      = ((∑ k : Fin 26, (∑ l : Fin 26, m ⟨k.val * 26 + l.val, by omega⟩ * share u l) * share y k : ℝ) : EReal) := by
  have h18 : ∀ k l : Fin 26, val_main_v18 (F := Ideal) x0 x1 (ix4 0 0 k l) = ((m ⟨k.val * 26 + l.val, by omega⟩ : ℝ) : EReal) := fun k l => by
    rw [val_main_v18_apply, ← hm]
    refine congrArg _ (funext fun a => match a with | ⟨0, _⟩ => Fin.ext ?_)
    show ((0 * 1 + 0) * 26 + k.val) * 26 + l.val = k.val * 26 + l.val
    omega
  have i1 : ∀ k : Fin 26, lidx_main_v21 (idx_main_v22 (ix4 0 0 y u)) k = ix4 0 0 u k := fun k =>
    funext fun a => match a with | ⟨0, _⟩ => rfl | ⟨1, _⟩ => rfl | ⟨2, _⟩ => rfl | ⟨3, _⟩ => rfl
  have i2 : ∀ k : Fin 26, ridx_main_v21 (idx_main_v22 (ix4 0 0 y u)) k = ix2 k y := fun k =>
    funext fun a => match a with | ⟨0, _⟩ => rfl | ⟨1, _⟩ => rfl
  have i3 : ∀ k l : Fin 26, lidx_main_v19 (idx_main_v20 (ix4 0 0 u k)) l = ix4 0 0 k l := fun k l =>
    funext fun a => match a with | ⟨0, _⟩ => rfl | ⟨1, _⟩ => rfl | ⟨2, _⟩ => rfl | ⟨3, _⟩ => rfl
  have i4 : ∀ k l : Fin 26, ridx_main_v19 (idx_main_v20 (ix4 0 0 u k)) l = ix2 l u := fun k l =>
    funext fun a => match a with | ⟨0, _⟩ => rfl | ⟨1, _⟩ => rfl
  simp only [val_main_v22_apply, val_main_v21_apply, i1, i2, val_main_v20_apply, val_main_v19_apply, i3, i4, h18, reference_weight, reference_weight',
    ← EReal.coe_mul, coe_sum]

/-- THE REFERENCE'S RESULT at an element. -/
theorem reference_map (g : Fin 33 → ℝ) (hg : ∀ d, val_main_v34 (F := Ideal) (ix1 d) = ((g d : ℝ) : EReal))
    (m : Fin 676 → ℝ) (hm : ∀ p, val_main_v17 (F := Ideal) x0 x1 (ix1 p) = ((m p : ℝ) : EReal)) (y x : Fin 224) :
    val_main_v434 (F := Ideal) x0 x1 (ix4 0 0 y x)
      = ((∑ k : Fin 26, ∑ l : Fin 26, mixed g y k * m ⟨k.val * 26 + l.val, by omega⟩ * mixed g x l : ℝ) : EReal) := by
  have rows : ∀ u : Fin 224, val_main_v234 (F := Ideal) x0 x1 (ix4 0 0 y u)
      = ((∑ d, g d * ∑ k : Fin 26, (∑ l : Fin 26, m ⟨k.val * 26 + l.val, by omega⟩ * share u l) * share (seen y d) k : ℝ) : EReal) := fun u => by
    rw [blurred_rows]
    show (∑ d : Fin 33, val_main_v34 (F := Ideal) (ix1 d) * val_main_v35 (F := Ideal) x0 x1 (ix4 0 0 ⟨y.val + d.val, _⟩ u)) = _
    rw [← coe_sum]
    refine Finset.sum_congr rfl fun d _ => ?_
    rw [reflected_rows, resized_apply x0 x1 m hm, hg, ← EReal.coe_mul]
    rfl
  rw [← exchange, blurred_columns]
  show (∑ e : Fin 33, val_main_v34 (F := Ideal) (ix1 e) * val_main_v235 (F := Ideal) x0 x1 (ix4 0 0 y ⟨x.val + e.val, _⟩)) = _
  rw [← coe_sum]
  refine Finset.sum_congr rfl fun e _ => ?_
  rw [reflected_columns, rows, hg, ← EReal.coe_mul]
  rfl

end Reference

/-! ## The kernel -/

section Kernel

open Cert.KernelIdeal Cert.KernelIdeal.Gen

/-- The kernel's map at an element, for least distances that are numbers. -/
theorem kernel_map (g : Fin 33 → ℝ) (hg : ∀ d, ReferenceIdeal.Read.val_main_v34 (F := Ideal) (ix1 d) = ((g d : ℝ) : EReal))
    (v : FVec Ideal S1x704 .f32) (n : Fin 704 → ℝ) (hv : ∀ p, v (ix2 0 p) = ((n p : ℝ) : EReal)) (y x : Fin 224) :
    smoothed (F := Ideal) v (alongRows (F := Ideal)) (truncf .bf16 (alongColumns (F := Ideal)) bitsLt_bf16_f32 : FVec Ideal S224x704 .bf16)
        (truncf .bf16 (subf (alongColumns (F := Ideal)) (extf .f32 (truncf .bf16 (alongColumns (F := Ideal)) bitsLt_bf16_f32 : FVec Ideal S224x704 .bf16) bitsLt_bf16_f32)) bitsLt_bf16_f32 : FVec Ideal S224x704 .bf16) (ix2 y x)
      = ((∑ k : Fin 26, ∑ l : Fin 26, mixed g y k * n ⟨k.val * 26 + l.val, by omega⟩ * mixed g x l : ℝ) : EReal) := by
  have hA : ∀ (y : Fin 224) (p : Fin 704), alongRows (F := Ideal) (ix2 y p) = ((if h : p.val < 676 then mixed g y ⟨p.val / 26, by omega⟩ else 0 : ℝ) : EReal) := fun y p => by
    rw [alongRows_apply]
    split_ifs
    · exact smooth_apply g hg y _
    · rfl
  have hC : ∀ (y : Fin 224) (p : Fin 704), alongColumns (F := Ideal) (ix2 y p) = ((if h : p.val < 676 then mixed g y ⟨p.val % 26, by omega⟩ else 0 : ℝ) : EReal) := fun y p => by
    rw [alongColumns_apply]
    split_ifs
    · exact smooth_apply g hg y _
    · rfl
  have two : ∀ {n0 n1 : ℕ} (i : (⟨2, ![n0, n1]⟩ : Shape).Idx), i = ix2 (i 0) (i 1) := fun i => funext fun a => match a with | ⟨0, _⟩ => rfl | ⟨1, _⟩ => rfl
  have real : ∀ z : ℝ, Fin' (z : EReal) := fun z => ⟨EReal.coe_ne_bot z, EReal.coe_ne_top z⟩
  rw [smoothed_eq v _ _ (fun i => by
      have h0 : (i 0).val < 1 := (i 0).isLt
      obtain ⟨p, rfl⟩ : ∃ p : Fin 704, i = ix2 0 p := ⟨i 1, funext fun a => match a with | ⟨0, _⟩ => Fin.ext (by show (i 0).val = 0; omega) | ⟨1, _⟩ => rfl⟩
      exact (hv p).symm ▸ real _)
    (fun i => by rw [two i]; exact (hA (i 0) (i 1)).symm ▸ real _) (fun i => by rw [two i]; exact (hC (i 0) (i 1)).symm ▸ real _)]
  simp only [hA, hC, hv, ← EReal.coe_mul, coe_sum]
  refine congrArg _ ?_
  refine Eq.trans ?_ ((by_rows fun p => mixed g y ⟨p.val / 26, by omega⟩ * n ⟨p.val, by omega⟩ * mixed g x ⟨p.val % 26, by omega⟩).trans ?_)
  · refine Finset.sum_congr rfl fun p _ => ?_
    split_ifs
    · rfl
    · rw [zero_mul, zero_mul]
  · refine Finset.sum_congr rfl fun k _ => Finset.sum_congr rfl fun l _ => ?_
    have e1 : (⟨(k.val * 26 + l.val) / 26, by omega⟩ : Fin 26) = k := Fin.ext (by show (k.val * 26 + l.val) / 26 = k.val; omega)
    have e2 : (⟨(k.val * 26 + l.val) % 26, by omega⟩ : Fin 26) = l := Fin.ext (by show (k.val * 26 + l.val) % 26 = l.val; omega)
    exact congrArg₂ (fun a b => mixed g y a * n _ * mixed g x b) e1 e2

variable (m : (ℓ : Loc nD τ sig) → Buf (Elt Ideal) ℓ) (c : Dev nD)

/-- The library reaches the first call as it is. -/
theorem lib_given : V3 m c main_arg1 = m ((c.tc : Thread nD τ).loc main_arg1) := by
  rw [V3_of m c main_arg1 (by decide), V2_of m c main_arg1 (by decide), V1_of m c main_arg1 (by decide)]

/-- The patches with rows of zeros. -/
noncomputable def padded (x : FVec Ideal S676x384 .f32) (z : IVec S_ 32) : FVec Ideal S704x384 .f32 :=
  pad S704x384 ![0, 0] ![28, 0] ![0, 0] x (sitofp .f32 z) pads_S676x384_S704x384_0280_000 h_S_

theorem read_padded (V : Valuation τ sig (Elt Ideal)) : StableHlo.after (hostOps0_1 (F := Ideal)) V (Proc.devRef .tc main_v0)
    = padded (V (Proc.devRef .tc main_arg0)) (V (Proc.devRef .tc main_c)) := by
  after_reads_simp
  rfl

theorem read_const (V : Valuation τ sig (Elt Ideal)) : StableHlo.after (hostOps0 (F := Ideal)) V (Proc.devRef .tc main_c) = constantI S_ 32 0#32 := by
  after_reads_simp

theorem read_scaled (V : Valuation τ sig (Elt Ideal)) : StableHlo.after (hostOps0_2 (F := Ideal)) V (Proc.devRef .tc main_v3)
    = (truncf .bf16 (mulf (broadcastInDim S704x384 ![] bcast_S_S704x384 (constant S_ .f32 0xC0000000#32)) (V (Proc.devRef .tc main_v0) : FVec Ideal S704x384 .f32)) bitsLt_bf16_f32 : FVec Ideal S704x384 .bf16) := by
  after_reads_simp

/-- The patches reach it padded with zeros, -/
theorem patches_given (x : FVec Ideal S676x384 .f32) (ex : m ((c.tc : Thread nD τ).loc main_arg0) = x) (p : Fin 704) (k : Fin 384) :
    (V3 m c main_v0 : FVec Ideal S704x384 .f32) (ix2 p k) = if h : p.val < 676 then x (ix2 ⟨p.val, h⟩ k) else 0 := by
  rw [V3_of m c main_v0 (by decide), show V2 m c main_v0 = _ from read_padded (V1 m c), show V1 m c (Proc.devRef .tc main_c) = _ from read_const (V0 m c),
    show V1 m c (Proc.devRef .tc main_arg0) = m ((c.tc : Thread nD τ).loc main_arg0) from V1_of m c main_arg0 (by decide), ex]
  show padded x (constantI S_ 32 0#32) (ix2 p k) = _
  unfold padded
  simp only [pointwise]
  by_cases h : p.val < 676
  · rw [dif_pos h, dif_pos (fun a => by
      match a with
      | ⟨0, _⟩ => show 0 ≤ p.val ∧ (p.val - 0) % (0 + 1) = 0 ∧ (p.val - 0) / (0 + 1) < 676; omega
      | ⟨1, _⟩ => show 0 ≤ k.val ∧ (k.val - 0) % (0 + 1) = 0 ∧ (k.val - 0) / (0 + 1) < 384; omega)]
    refine congrArg x ?_
    congr 1 <;> refine Fin.ext ?_
    · show (p.val - 0) / (0 + 1) = p.val; omega
    · show (k.val - 0) / (0 + 1) = k.val; omega
  · rw [dif_neg h, dif_neg (fun hin => h (by
      have h1 : (p.val - 0) / (0 + 1) < 676 := (hin 0).2.2
      omega))]
    show ((((0#32 : BitVec 32).toInt : ℝ)) : EReal) = 0
    simp

/-- and, for the products, times `-2`. -/
theorem scaled_given (i : S704x384.Idx) : (V3 m c main_v3 : FVec Ideal S704x384 .bf16) i = ((-2 : ℝ) : EReal) * (V3 m c main_v0 : FVec Ideal S704x384 .f32) i := by
  rw [show V3 m c main_v3 = _ from read_scaled (V2 m c), V3_of m c main_v0 (by decide)]
  show Ideal.ofBits .f32 0xC0000000#32 * (V2 m c main_v0 : FVec Ideal S704x384 .f32) i = _
  refine congrArg (· * _) ?_
  simp [Ideal.ofBits, Ideal.ieee, -EReal.coe_mul]
  norm_num

end Kernel

/-- BOTH RESULTS ARE EQUAL on finite arguments. -/
theorem result_map (m : (ℓ : Loc KernelIdeal.nD KernelIdeal.τ KernelIdeal.sig) → Buf (Elt Ideal) ℓ) (c : Dev KernelIdeal.nD)
    (x : FVec Ideal KernelIdeal.S676x384 .f32) (y : FVec Ideal KernelIdeal.S65536x384 .f32)
    (ex : m ((c.tc : Thread KernelIdeal.nD KernelIdeal.τ).loc KernelIdeal.main_arg0) = x) (ey : m ((c.tc : Thread KernelIdeal.nD KernelIdeal.τ).loc KernelIdeal.main_arg1) = y)
    (hx : ∀ i, Fin' (x i)) (hy : ∀ i, Fin' (y i)) :
    ReferenceIdeal.Read.val_main_v434 (F := Ideal) x y = KernelIdeal.Gen.V18 m (KernelIdeal.outs m) c KernelIdeal.main_v89 := by
  obtain ⟨g, hg⟩ := finite_factors
  -- the padded patches are finite, so their least distances are numbers
  have ha : ∀ i : KernelIdeal.S704x384.Idx, Fin' ((KernelIdeal.Gen.V3 m c KernelIdeal.main_v0 : FVec Ideal KernelIdeal.S704x384 .f32) i) := fun i => by
    obtain ⟨p, k, rfl⟩ : ∃ (p : Fin 704) (k : Fin 384), i = ix2 p k := ⟨i 0, i 1, funext fun a => match a with | ⟨0, _⟩ => rfl | ⟨1, _⟩ => rfl⟩
    refine (patches_given m c x ex p k).symm ▸ ?_
    split_ifs
    · exact hx _
    · exact ⟨EReal.coe_ne_bot 0, EReal.coe_ne_top 0⟩
  have hv : ∀ p : Fin 704, (KernelIdeal.minOut (fun c b => KernelIdeal.Gen.V3 m c b) c : FVec Ideal KernelIdeal.S1x704 .f32) (ix2 0 p)
      = least (fun k => (KernelIdeal.Gen.V3 m c KernelIdeal.main_v0 : FVec Ideal KernelIdeal.S704x384 .f32) (ix2 p k)) y := fun p => by
    rw [KernelIdeal.least_apply, lib_given, ey]
    exact root_min _ y ha hy _ (scaled_given m c) p
  have hf : ∀ p : Fin 704, Fin' (least (fun k => (KernelIdeal.Gen.V3 m c KernelIdeal.main_v0 : FVec Ideal KernelIdeal.S704x384 .f32) (ix2 p k)) y) := fun p =>
    finite_least _ y (fun k => ha _) hy
  have hm : ∀ p : Fin 676, ReferenceIdeal.Read.val_main_v17 (F := Ideal) x y (ix1 p)
      = (((least (fun k => (KernelIdeal.Gen.V3 m c KernelIdeal.main_v0 : FVec Ideal KernelIdeal.S704x384 .f32) (ix2 ⟨p.val, by omega⟩ k)) y).toReal : ℝ) : EReal) := fun p => by
    rw [(hf _).coe_toReal, reference_least]
    refine congrArg (fun a => least a y) (funext fun k => ?_)
    exact ((patches_given m c x ex ⟨p.val, by omega⟩ k).trans (dif_pos p.isLt)).symm
  rw [KernelIdeal.result_eq]
  funext i
  have h0 : (i 0).val < 1 := (i 0).isLt
  have h1 : (i 1).val < 1 := (i 1).isLt
  obtain ⟨r, s, hi⟩ : ∃ r s : Fin 224, i = ix4 0 0 r s := ⟨i 2, i 3, funext fun a => match a with
    | ⟨0, _⟩ => Fin.ext (by show (i 0).val = 0; omega) | ⟨1, _⟩ => Fin.ext (by show (i 1).val = 0; omega) | ⟨2, _⟩ => rfl | ⟨3, _⟩ => rfl⟩
  rw [hi, reference_map x y g hg _ hm r s]
  refine ((shapeCast_apply _ KernelIdeal.Gen.shapeCasts_S224x224_S1x1x224x224 (ix4 0 0 r s) (ix2 r s) ?_).trans ?_).symm
  · rewrite [Shape.rowMajor_val_two, Shape.rowMajor_val_four]
    show r.val * 224 + s.val = ((0 * 1 + 0) * 224 + r.val) * 224 + s.val
    omega
  · exact kernel_map g hg _ (fun p => (least (fun k => (KernelIdeal.Gen.V3 m c KernelIdeal.main_v0 : FVec Ideal KernelIdeal.S704x384 .f32) (ix2 p k)) y).toReal)
      (fun p => (hv p).trans (hf p).coe_toReal.symm) r s

end Cert.Proof
-- ==== Proof.Round.lean ====
module

public import proofs.«01_k».proof.Proof.Call1
public import Idealize.ShloMosaic.Lib.Pointwise

@[expose] public section

/-!
# The sixteen rounds that choose the candidates

At its last point the first call takes sixteen times the largest of the least distances, notes its number and its row, and puts `-1`
in its place. Here one round is written once, and the call's outputs are its iterates.
-/

set_option maxRecDepth 65536

namespace Cert.KernelIdeal

open Idealize.ShloMosaic Idealize.ShloMosaic.TcCoe Cert.KernelIdeal.Gen

variable {F : FTy → Type} [FloatOps F]

/-- The number of the first place of the largest value. -/
noncomputable def pick (x : FVec F S1x704 .f32) : BitVec 32 :=
  extractAt ![0, 0, 0] (shapeCast S1x1x1 (multiReductionI .minsi [1, 2] S1
    (shapeCast S1x1x704 (select (cmpf .oeq x (broadcast S1x704 (extractAt ![0, 0, 0] (shapeCast S1x1x1
        (multiReduction .maximumf [1, 2] S1 (shapeCast S1x1x704 x shapeCasts_S1x704_S1x1x704) 0xFF800000#32 reduces_S1x1x704_S1 (.inl rfl) rfl)
        shapeCasts_S1_S1x1x1) inpos_S1x1x1_p0_0_0)))
      (iota .tc S1x704 32 [1] iota_S1x704_d1_w32) (broadcast S1x704 704#32)) shapeCasts_S1x704_S1x1x704) 2147483647#32 reduces_S1x1x704_S1 rfl)
    shapeCasts_S1_S1x1x1) inpos_S1x1x1_p0_0_0

/-- `-1` in the place of number `b`. -/
noncomputable def strike (b : BitVec 32) (x : FVec F S1x704 .f32) : FVec F S1x704 .f32 :=
  select (cmpi .eq (iota .tc S1x704 32 [1] iota_S1x704_d1_w32) (broadcast S1x704 b)) (broadcast S1x704 (Scalar.ofBits .f32 0xBF800000#32)) x

/-- The number `b` noted at place `k`. -/
noncomputable def note (k b : BitVec 32) (x : IVec S1x16 32) : IVec S1x16 32 :=
  select (cmpi .eq (iota .tc S1x16 32 [1] iota_S1x16_d1_w32) (broadcast S1x16 k)) (broadcast S1x16 b) x

/-- The row of number `b`. -/
noncomputable def rowOf (b : BitVec 32) (a : Vec F S704x384 .f32) : FVec F S1x384 .f32 :=
  shapeCast S1x384 (multiReduction .add [0] S384
    (select (cmpi .eq (iota .tc S704x384 32 [0] iota_S704x384_d0_w32) (broadcast S704x384 b)) (shapeCast S704x384 a shapeCasts_S704x384_S704x384)
      (broadcast S704x384 (Scalar.ofBits .f32 0x00000000#32))) 0x00000000#32 reduces_S704x384_S384 (.inl rfl) rfl) shapeCasts_S384_S1x384

/-- The values before round `n`. -/
noncomputable def left (x : FVec F S1x704 .f32) : ℕ → FVec F S1x704 .f32
  | 0 => x
  | n + 1 => strike (pick (left x n)) (left x n)

/-- The numbers noted before round `n`. -/
noncomputable def noted (x : FVec F S1x704 .f32) : ℕ → IVec S1x16 32
  | 0 => broadcast S1x16 704#32
  | n + 1 => note (BitVec.ofNat 32 n) (pick (left x n)) (noted x n)

section
variable (c : Dev nD) (i : grid0.Coords) (arg1 : Memref sig .tc .vmem S704x384 .f32) (harg1 : arg1.IsWhole)
  (arg2 : Memref sig .tc .vmem S704x384 .bf16) (harg2 : arg2.IsWhole) (arg3 : Memref sig .tc .vmem S2048x384 .f32) (harg3 : arg3.IsWhole)
  (arg4 : Memref sig .tc .vmem S1x704 .f32) (harg4 : arg4.IsWhole) (arg5 : Memref sig .tc .vmem S1x16 .i32) (harg5 : arg5.IsWhole)
  (arg6 : Memref sig .tc .vmem S16x384 .f32) (harg6 : arg6.IsWhole) (arg7 : Memref sig .tc .vmem S1x704 .f32) (harg7 : arg7.IsWhole)
  (x0 : Vec F S704x384 .f32) (x1 : Vec F S704x384 .bf16) (x2 : Vec F S2048x384 .f32) (xs : Vec F S1x704 .f32)
  (h0 : ¬first0 i) (h1 : last0 i)

theorem rows_inb (n : Fin 16) (a : Fin 2) : (![n.val, 0] : Fin 2 → ℕ) a + S1x384.size a ≤ S16x384.size a := by
  match a with
  | ⟨0, _⟩ => show n.val + 1 ≤ 16; omega
  | ⟨1, _⟩ => show 0 + 384 ≤ 384; omega

/-- The sixteen stores, the last one first. -/
noncomputable def stores (x : FVec F S1x704 .f32) (a : Vec F S704x384 .f32) : List (View.Piece (Elt F) S16x384 .f32) :=
  List.ofFn fun n : Fin 16 => ⟨Rect.unit ![n.rev.val, 0] S1x384.size (rows_inb n.rev), rowOf (pick (left x n.rev.val)) a⟩

theorem read_patch : arg1.view.readAt (Elt F) (Rect.unit ![0, 0] S704x384.size inb_S704x384_S704x384_0_0).toLoadRect (harg1.unread x0) = x0 :=
  readAt_whole harg1 _ _

theorem read_carried : run0_last.sl.v34 c arg2 harg2 arg3 harg3 arg7 harg7 x1 x2 xs = k0_pay2 x2 x1 xs := by
  refine (View.readCov_full _ _ _ _ _).trans ?_
  congr 1
  · exact readAt_whole harg3 _ _
  · exact readAt_whole harg2 _ _
  · exact readAt_whole harg7 _ _

/-- The numbers the run notes. -/
theorem run0_noted : (run0_last c i arg1 harg1 arg2 harg2 arg3 harg3 arg4 harg4 arg5 harg5 arg6 harg6 arg7 harg7 x0 x1 x2 xs h0 h1).1
    = noted (k0_pay6 (arg1.view.readAt (Elt F) (Rect.unit ![0, 0] S704x384.size inb_S704x384_S704x384_0_0).toLoadRect (harg1.unread x0))
        (run0_last.sl.v34 c arg2 harg2 arg3 harg3 arg7 harg7 x1 x2 xs)) 16 := by
  sl_kernel_rfl

/-- The rows it stores. -/
theorem run0_stores : (run0_last c i arg1 harg1 arg2 harg2 arg3 harg3 arg4 harg4 arg5 harg5 arg6 harg6 arg7 harg7 x0 x1 x2 xs h0 h1).2.1
    = stores (k0_pay6 (arg1.view.readAt (Elt F) (Rect.unit ![0, 0] S704x384.size inb_S704x384_S704x384_0_0).toLoadRect (harg1.unread x0))
        (run0_last.sl.v34 c arg2 harg2 arg3 harg3 arg7 harg7 x1 x2 xs))
      (arg1.view.readAt (Elt F) (Rect.unit ![0, 0] S704x384.size inb_S704x384_S704x384_0_0).toLoadRect (harg1.unread x0)) := by
  sl_kernel_rfl
end

section
variable (V : (c : Dev nD) → (b : Ref sig .tc) → Buf (Elt F) ((c : Thread nD τ).loc b)) (c : Dev nD)

/-- The values before the first round. -/
noncomputable def start : FVec F S1x704 .f32 := k0_pay6 (blk0 V c 0 (pt0 31)) (carried0 V c 31)

theorem candOut_eq : candOut V c = noted (start V c) 16 := by
  unfold candOut lastRun0
  rw [run0_noted, read_patch, read_carried]
  rfl

theorem stores_eq : (lastRun0 V c).2.1 = stores (start V c) (blk0 V c 0 (pt0 31)) := by
  unfold lastRun0
  rw [run0_stores, read_patch, read_carried]
  rfl

theorem rowsOut_apply (k : Fin 16) (x : Fin 384) :
    rowsOut V c (ix2 k x) = rowOf (pick (left (start V c) k.val)) (blk0 V c 0 (pt0 31)) (ix2 0 x) := by
  unfold rowsOut
  rw [stores_eq]
  refine View.read_writes_apply_of_pieces (Val := Elt F) (e := .f32) _ _ (fun y : S16x384.Idx => rowOf (pick (left (start V c) (y 0).val)) (blk0 V c 0 (pt0 31)) (ix2 0 (y 1))) _ ?_ (ix2 k x) ?_
  · intro p hp z
    obtain ⟨n, rfl⟩ := (List.mem_ofFn' _ _).mp hp
    have hz : (z (0 : Fin 2)).val = 0 := Nat.lt_one_iff.mp (z (0 : Fin 2)).isLt
    have e0 : ((Rect.unit (s := S16x384) ![n.rev.val, 0] S1x384.size (rows_inb n.rev)).emb z (0 : Fin 2)).val = n.rev.val := by
      show n.rev.val + 1 * (z (0 : Fin 2)).val = _
      omega
    have e1 : z = (ix2 0 ((Rect.unit (s := S16x384) ![n.rev.val, 0] S1x384.size (rows_inb n.rev)).emb z (1 : Fin 2)) : S1x384.Idx) := by
      funext a
      apply Fin.ext
      match a with
      | ⟨0, _⟩ => exact hz
      | ⟨1, _⟩ => show (z (1 : Fin 2)).val = 0 + 1 * (z (1 : Fin 2)).val; omega
    dsimp only
    rw [e0, ← e1]
  · refine ⟨_, (List.mem_ofFn' _ _).mpr ⟨k.rev, rfl⟩, ?_⟩
    show ix2 k x ∈ (Rect.unit (s := S16x384) ![k.rev.rev.val, 0] S1x384.size (rows_inb k.rev.rev)).set
    rw [Fin.rev_rev]
    refine Rect.mem_set_unit.mpr fun a => ?_
    match a with
    | ⟨0, _⟩ => exact ⟨le_rfl, Nat.lt_succ_self k.val⟩
    | ⟨1, _⟩ => exact ⟨Nat.zero_le _, (Nat.zero_add 384).symm ▸ x.isLt⟩
end

end Cert.KernelIdeal
-- ==== Proof.First.lean ====
module

public import proofs.«01_k».proof.Proof.Math
public import Idealize.ShloMosaic.Lib.Pointwise
public import Idealize.ShloMosaic.Lib.DynamicIndex

@[expose] public section

/-!
# The first place at which something holds

Kernel and reference both choose a place as the least number among those where a test holds. Here is what such a choice gives, and
the choice of an extreme value.
-/

namespace Cert.Math

open Idealize.ShloMosaic

/-- `i` is the first place at which `P` holds. -/
def IsFirst {n : ℕ} (P : Fin n → Prop) (i : Fin n) : Prop := P i ∧ ∀ j, P j → i ≤ j

theorem exists_isFirst {n : ℕ} {P : Fin n → Prop} (h : ∃ i, P i) : ∃ i, IsFirst P i := by
  classical
  obtain ⟨i, hi⟩ := h
  have hne : (Finset.univ.filter P).Nonempty := ⟨i, by simpa using hi⟩
  refine ⟨(Finset.univ.filter P).min' hne, ?_, fun j hj => Finset.min'_le _ _ (by simpa using hj)⟩
  have := Finset.min'_mem _ hne
  simpa using this

theorem IsFirst.unique {n : ℕ} {P : Fin n → Prop} {i j : Fin n} (hi : IsFirst P i) (hj : IsFirst P j) : i = j :=
  le_antisymm (hi.2 j hj.1) (hj.2 i hi.1)

theorem toInt_minsi (x y : BitVec 32) : (IntOp.minsi x y).toInt = min x.toInt y.toInt := by
  simp only [IntOp.minsi, BitVec.slt, decide_eq_true_eq]
  split <;> omega

/-- The least word of a family, read signed, is the one below all others. -/
theorem fold_minsi {ι : Type*} [Fintype ι] (f : ι → BitVec 32) (i : ι) (h : ∀ j, (f i).toInt ≤ (f j).toInt) :
    Finset.univ.fold IntOp.minsi 2147483647#32 f = f i := by
  refine BitVec.eq_of_toInt_eq ?_
  have e := Finset.fold_hom (op := IntOp.minsi) (op' := min) (s := Finset.univ) (f := f) (b := 2147483647#32) (m := BitVec.toInt) toInt_minsi
  rw [← e]
  refine le_antisymm (Finset.fold_min_le _ |>.mpr (.inr ⟨i, Finset.mem_univ _, le_rfl⟩)) ((Finset.le_fold_min _).mpr ⟨?_, fun j _ => h j⟩)
  have := BitVec.toInt_lt (x := f i)
  have e : (2147483647#32).toInt = 2147483647 := by decide
  rw [e]
  omega

/-- THE CHOICE: the least of the numbers at which a test holds, `d` standing for the others. -/
theorem fold_first {n : ℕ} (P : Fin n → Prop) (t : Fin n → BitVec 1) (ht : ∀ j, t j = 1#1 ↔ P j) (i : Fin n) (hi : IsFirst P i) (d : ℕ) (hn : n ≤ d)
    (hd : d < 2 ^ 31) (f : Fin n → BitVec 32) (hf : ∀ j, f j = Scalar.select (t j) (BitVec.ofNat 32 j.val) (BitVec.ofNat 32 d)) :
    Finset.univ.fold IntOp.minsi 2147483647#32 f = BitVec.ofNat 32 i.val := by
  have hs : ∀ j, f j = if t j = 1#1 then BitVec.ofNat 32 j.val else BitVec.ofNat 32 d := hf
  have ei : f i = BitVec.ofNat 32 i.val := by rw [hs, if_pos ((ht i).mpr hi.1)]
  rw [← ei]
  refine fold_minsi f i fun j => ?_
  rw [ei, hs, toInt_ofNat_of_lt (by omega)]
  split
  · rename_i h
    have := hi.2 j ((ht j).mp h)
    rw [toInt_ofNat_of_lt (by omega)]
    exact_mod_cast this
  · rw [toInt_ofNat_of_lt hd]
    omega

/-- The test "equal to the largest value". -/
def IsMax {n : ℕ} (f : Fin n → EReal) (i : Fin n) : Prop := ∀ j, f j ≤ f i

/-- The test "equal to the least value". -/
def IsMin {n : ℕ} (f : Fin n → EReal) (i : Fin n) : Prop := ∀ j, f i ≤ f j

theorem fold_max_eq_iff {n : ℕ} (f : Fin n → EReal) (i : Fin n) : f i = Finset.univ.fold max ⊥ f ↔ IsMax f i := by
  constructor
  · intro h j
    rw [h]
    exact (Finset.le_fold_max _).mpr (.inr ⟨j, Finset.mem_univ _, le_rfl⟩)
  · intro h
    exact le_antisymm ((Finset.le_fold_max _).mpr (.inr ⟨i, Finset.mem_univ _, le_rfl⟩)) ((Finset.fold_max_le _).mpr ⟨bot_le, fun j _ => h j⟩)

theorem fold_min_eq_iff {n : ℕ} (f : Fin n → EReal) (i : Fin n) : f i = Finset.univ.fold min ⊤ f ↔ IsMin f i := by
  constructor
  · intro h j
    rw [h]
    exact (Finset.fold_min_le _).mpr (.inr ⟨j, Finset.mem_univ _, le_rfl⟩)
  · intro h
    exact le_antisymm ((Finset.le_fold_min _).mpr ⟨le_top, fun j _ => h j⟩) ((Finset.fold_min_le _).mpr (.inr ⟨i, Finset.mem_univ _, le_rfl⟩))

theorem exists_isMax {n : ℕ} (f : Fin (n + 1) → EReal) : ∃ i, IsMax f i := by
  obtain ⟨i, -, h⟩ := Finset.exists_max_image Finset.univ f ⟨0, Finset.mem_univ _⟩
  exact ⟨i, fun j => h j (Finset.mem_univ _)⟩

theorem exists_isMin {n : ℕ} (f : Fin (n + 1) → EReal) : ∃ i, IsMin f i := by
  obtain ⟨i, -, h⟩ := Finset.exists_min_image Finset.univ f ⟨0, Finset.mem_univ _⟩
  exact ⟨i, fun j => h j (Finset.mem_univ _)⟩

/-- The element of number `i` picked out of a sum by comparing numbers. -/
theorem sum_pick {n : ℕ} (i : Fin n) (hn : n ≤ 2 ^ 32) (f : Fin n → EReal) :
    ∑ j : Fin n, Scalar.select (IntOp.cmpi .eq (BitVec.ofNat 32 j.val) (BitVec.ofNat 32 i.val)) (f j) 0 = f i := by
  have h : ∀ j : Fin n, Scalar.select (IntOp.cmpi .eq (BitVec.ofNat 32 j.val) (BitVec.ofNat 32 i.val)) (f j) 0 = if j = i then f j else 0 := by
    intro j
    have e : BitVec.ofNat 32 j.val = BitVec.ofNat 32 i.val ↔ j = i := by
      constructor
      · intro h
        have := congrArg BitVec.toNat h
        simp only [BitVec.toNat_ofNat] at this
        rw [Nat.mod_eq_of_lt (by omega), Nat.mod_eq_of_lt (by omega)] at this
        exact Fin.ext this
      · rintro rfl; rfl
    show (if BitVec.ofBool (BitVec.ofNat 32 j.val == BitVec.ofNat 32 i.val) = 1#1 then f j else 0) = _
    by_cases h : j = i
    · rw [if_pos h, if_pos (by rw [e.mpr h]; simp)]
    · rw [if_neg h, if_neg (by rw [beq_eq_false_iff_ne.mpr (fun h' => h (e.mp h'))]; decide)]
  rw [Finset.sum_congr rfl fun j _ => h j, Finset.sum_ite_eq' Finset.univ i f, if_pos (Finset.mem_univ _)]

end Cert.Math
-- ==== Proof.Chosen.lean ====
module

public import proofs.«01_k».proof.Proof.Round
public import proofs.«01_k».proof.Proof.Least
public import proofs.«01_k».proof.Proof.First

@[expose] public section

/-!
# The candidates, over the extended reals

The first candidate is the first patch of the largest least distance; all sixteen are patches.
-/

namespace Cert.KernelIdeal

open Idealize.ShloMosaic Idealize.ShloMosaic.TcCoe Cert.KernelIdeal.Gen Cert.Math

/-- A fold over pairs whose first member says nothing. -/
theorem fold_snd {α : Type*} {n : ℕ} (op : α → α → α) [Std.Commutative op] [Std.Associative op] (b : α) (g : Fin n → α) :
    Finset.univ.fold op b (fun y : Fin 1 × Fin n => g y.2) = Finset.univ.fold op b g := by
  rw [← Finset.map_univ_equiv (Equiv.uniqueProd (Fin n) (Fin 1)), Finset.fold_map]
  rfl

theorem ofBits_minus_inf : Ideal.ofBits .f32 0xFF800000#32 = ⊥ := by
  simp [Ideal.ofBits, Ideal.ieee]

theorem ofBits_minus_one : Ideal.ofBits .f32 0xBF800000#32 < 0 := by
  have : Ideal.ofBits .f32 0xBF800000#32 = ((-1 : ℝ) : EReal) := by
    simp [Ideal.ofBits, Ideal.ieee, -EReal.coe_mul]
    norm_num
  rw [this]
  exact_mod_cast (by norm_num : (-1 : ℝ) < 0)

/-- A test written out as a choice between two words. -/
theorem select_test {α : Type} (P : Prop) [Decidable P] (x y : α) : (if P then x else y) = Scalar.select (BitVec.ofBool (decide P)) x y := by
  show _ = if BitVec.ofBool (decide P) = 1#1 then x else y
  by_cases h : P <;> simp [h]

theorem ofBool_iff (P : Prop) [Decidable P] : BitVec.ofBool (decide P) = 1#1 ↔ P := by
  by_cases h : P <;> simp [h]

/-- Two numbers below `2 ^ 32` as words. -/
theorem cmpi_eq {m n : ℕ} (hm : m < 2 ^ 32) (hn : n < 2 ^ 32) {α : Type} (x y : α) :
    Scalar.select (IntOp.cmpi .eq (BitVec.ofNat 32 m) (BitVec.ofNat 32 n)) x y = if m = n then x else y := by
  have e : BitVec.ofNat 32 m = BitVec.ofNat 32 n ↔ m = n := by
    refine ⟨fun h => ?_, fun h => h ▸ rfl⟩
    have := congrArg BitVec.toNat h
    simp only [BitVec.toNat_ofNat] at this
    rwa [Nat.mod_eq_of_lt hm, Nat.mod_eq_of_lt hn] at this
  show (if BitVec.ofBool (BitVec.ofNat 32 m == BitVec.ofNat 32 n) = 1#1 then x else y) = _
  by_cases h : m = n
  · rw [if_pos h, if_pos (by rw [e.mpr h]; simp)]
  · rw [if_neg h, if_neg (by rw [beq_eq_false_iff_ne.mpr (fun h' => h (e.mp h'))]; decide)]

theorem pick_eq (x : FVec Ideal S1x704 .f32) (i : Fin 704) (hi : IsFirst (IsMax fun p : Fin 704 => x (ix2 0 p)) i) : pick x = BitVec.ofNat 32 i.val := by
  unfold pick
  simp only [pointwise]
  rw [ofBits_minus_inf, fold_snd max ⊥ fun p : Fin 704 => x (ix2 0 p)]
  refine (fold_snd IntOp.minsi _ fun p : Fin 704 => if x (ix2 0 p) = Finset.univ.fold max ⊥ (fun p : Fin 704 => x (ix2 0 p)) then
    BitVec.ofNat 32 (0 * 704 + p.val) else 704#32).trans ?_
  refine fold_first _ (fun p => BitVec.ofBool (decide (x (ix2 0 p) = Finset.univ.fold max ⊥ (fun p : Fin 704 => x (ix2 0 p))))) (fun p => ?_) i hi 704 le_rfl (by norm_num) _ fun p => ?_
  · rw [ofBool_iff]
    exact fold_max_eq_iff (fun p : Fin 704 => x (ix2 0 p)) p
  · rw [← select_test, Nat.zero_mul, Nat.zero_add]

theorem strike_apply (q : Fin 704) (x : FVec Ideal S1x704 .f32) (p : Fin 704) :
    strike (BitVec.ofNat 32 q.val) x (ix2 0 p) = if p = q then Ideal.ofBits .f32 0xBF800000#32 else x (ix2 0 p) := by
  unfold strike
  simp only [pointwise]
  refine (cmpi_eq (m := 0 * 704 + p.val) (by omega) (by omega) _ _).trans ?_
  simp only [Nat.zero_mul, Nat.zero_add, Fin.ext_iff]

theorem note_apply (n : ℕ) (hn : n < 16) (b : BitVec 32) (x : IVec S1x16 32) (k : Fin 16) :
    note (BitVec.ofNat 32 n) b x (ix2 0 k) = if k.val = n then b else x (ix2 0 k) := by
  unfold note
  simp only [pointwise]
  refine (cmpi_eq (m := 0 * 16 + k.val) (by omega) (by omega) _ _).trans ?_
  simp only [Nat.zero_mul, Nat.zero_add]

theorem rowOf_apply (i : Fin 704) (a : Vec Ideal S704x384 .f32) (k : Fin 384) : rowOf (BitVec.ofNat 32 i.val) a (ix2 0 k) = a (ix2 i k) := by
  unfold rowOf
  simp only [pointwise]
  refine Eq.trans ?_ (sum_pick i (by norm_num) fun p : Fin 704 => a (ix2 p k))
  refine Finset.sum_congr rfl fun p _ => ?_
  show Scalar.select (IntOp.cmpi .eq (BitVec.ofNat 32 (0 * 704 + p.val)) _) _ _ = _
  rw [Nat.zero_mul, Nat.zero_add]

theorem mask_apply (a : Vec Ideal S704x384 .f32) (z : Vec Ideal S1x704 .f32) (p : Fin 704) :
    k0_pay6 a z (ix2 0 p) = if p.val < 676 then k0_pay5 a z (ix2 0 p) else Ideal.ofBits .f32 0xBF800000#32 := by
  unfold k0_pay6
  generalize k0_pay5 a z = y
  simp only [pointwise]
  show Scalar.select (IntOp.cmpi .slt (BitVec.ofNat 32 (0 * 704 + p.val)) 676#32) _ _ = _
  rw [Nat.zero_mul, Nat.zero_add]
  show (if BitVec.ofBool ((BitVec.ofNat 32 p.val).slt 676#32) = 1#1 then _ else _) = _
  have e : (BitVec.ofNat 32 p.val).slt 676#32 = decide (p.val < 676) := by
    rw [BitVec.slt, toInt_ofNat_of_lt (by omega), show (676#32).toInt = 676 by decide]
    exact decide_eq_decide.mpr (by omega)
  rw [e]
  by_cases h : p.val < 676 <;> simp [h]

/-- THE ROUNDS: if the first 676 values are at least `0` and the others `-1`, every round picks the first of the largest values left, and
    that is one of the 676. -/
theorem rounds (x : FVec Ideal S1x704 .f32) (h0 : ∀ p : Fin 704, p.val < 676 → 0 ≤ x (ix2 0 p))
    (h1 : ∀ p : Fin 704, ¬p.val < 676 → x (ix2 0 p) = Ideal.ofBits .f32 0xBF800000#32) (n : ℕ) (hn : n < 676) :
    (∃ s : Finset (Fin 704), s.card ≤ n ∧ ∀ p, left x n (ix2 0 p) = if p ∈ s then Ideal.ofBits .f32 0xBF800000#32 else x (ix2 0 p))
      ∧ ∃ i : Fin 704, i.val < 676 ∧ IsFirst (IsMax fun p : Fin 704 => left x n (ix2 0 p)) i := by
  have second : ∀ n < 676, (∃ s : Finset (Fin 704), s.card ≤ n ∧ ∀ p, left x n (ix2 0 p) = if p ∈ s then Ideal.ofBits .f32 0xBF800000#32 else x (ix2 0 p))
      → ∃ i : Fin 704, i.val < 676 ∧ IsFirst (IsMax fun p : Fin 704 => left x n (ix2 0 p)) i := by
    rintro n hn ⟨s, hs, hl⟩
    obtain ⟨i, hi⟩ := exists_isFirst (exists_isMax fun p : Fin 704 => left x n (ix2 0 p))
    refine ⟨i, ?_, hi⟩
    obtain ⟨q, hq, hqs⟩ : ∃ q : Fin 704, q.val < 676 ∧ q ∉ s := by
      by_contra hne
      push Not at hne
      have : Finset.univ.map (Fin.castLEEmb (by norm_num : 676 ≤ 704)) ⊆ s := by
        intro q hq
        obtain ⟨r, -, rfl⟩ := Finset.mem_map.mp hq
        exact hne _ r.isLt
      have := Finset.card_le_card this
      rw [Finset.card_map, Finset.card_univ, Fintype.card_fin] at this
      omega
    have hqi := hi.1 q
    simp only [hl, if_neg hqs] at hqi
    by_contra hlt
    have : (if i ∈ s then Ideal.ofBits .f32 0xBF800000#32 else x (ix2 0 i)) = Ideal.ofBits .f32 0xBF800000#32 := by
      split
      · rfl
      · exact h1 i hlt
    rw [this] at hqi
    exact absurd ((h0 q hq).trans hqi) (not_le.mpr ofBits_minus_one)
  have first : ∀ n < 676, ∃ s : Finset (Fin 704), s.card ≤ n ∧ ∀ p, left x n (ix2 0 p) = if p ∈ s then Ideal.ofBits .f32 0xBF800000#32 else x (ix2 0 p) := by
    intro n
    induction n with
    | zero => exact fun _ => ⟨∅, le_rfl, fun p => by simp [left]⟩
    | succ n ih =>
      intro hn
      obtain ⟨s, hs, hl⟩ := ih (by omega)
      obtain ⟨i, -, hi⟩ := second n (by omega) ⟨s, hs, hl⟩
      refine ⟨insert i s, (Finset.card_insert_le _ _).trans (by omega), fun p => ?_⟩
      show strike (pick (left x n)) (left x n) (ix2 0 p) = _
      rw [pick_eq _ i hi, strike_apply, hl]
      by_cases hp : p = i
      · simp [hp]
      · simp [hp]
  exact ⟨first n hn, second n hn (first n hn)⟩

/-- What is noted. -/
theorem noted_apply (x : FVec Ideal S1x704 .f32) (n : ℕ) (hn : n ≤ 16) (k : Fin 16) (hk : k.val < n) : noted x n (ix2 0 k) = pick (left x k.val) := by
  induction n with
  | zero => omega
  | succ n ih =>
    show note (BitVec.ofNat 32 n) (pick (left x n)) (noted x n) (ix2 0 k) = _
    rw [note_apply n (by omega)]
    by_cases h : k.val = n
    · rw [if_pos h, h]
    · rw [if_neg h, ih (by omega) (by omega)]

end Cert.KernelIdeal
-- ==== Proof.Second.lean ====
module

public import proofs.«01_k».proof.Proof.Call2
public import proofs.«01_k».proof.Proof.Chosen

@[expose] public section

/-!
# The second call's candidates and their nearest library rows

The running least distance of every candidate row with the first place it is met, over the grid; and what the last point makes of them.
-/

namespace Cert.KernelIdeal

open Idealize.ShloMosaic Idealize.ShloMosaic.TcCoe Cert.KernelIdeal.Gen Cert.Math

/-- What a library row adds to the least distance of a candidate: `|b|² - 2 b·a`, the product in three parts. -/
noncomputable def offer (a b : Fin 384 → EReal) : EReal :=
  ∑ k, b k * b k - Ideal.ofBits .f32 0x40000000#32 * (0 + ∑ k, b k * a k + (0 + ∑ k, b k * (a k - a k) + (0 + ∑ k, (b k - b k) * a k)))

/-- The candidate's squared length, in two parts. -/
noncomputable def length2 (a : Fin 384 → EReal) : EReal := 0 + ∑ k, 1 * (a k * a k) + (0 + ∑ k, 1 * (a k * a k - a k * a k))

theorem offer_apply (a : Vec Ideal S16x384 .f32) (b : Vec Ideal S2048x384 .f32) (r : Fin 2048) (k : Fin 16) :
    k1_pay12 a b (ix2 r k) = offer (fun x => a (ix2 k x)) fun x => b (ix2 r x) := by
  unfold k1_pay12 k1_pay11
  simp only [pointwise]
  rfl

theorem blockLeast_apply (a : Vec Ideal S16x384 .f32) (b : Vec Ideal S2048x384 .f32) (k : Fin 16) (h : Fin 2048 → EReal)
    (hh : ∀ r, k1_pay12 a b (ix2 r k) = h r) : k1_pay13 a b (ix2 0 k) = Finset.univ.fold min ⊤ h := by
  obtain rfl : (fun r => k1_pay12 a b (ix2 r k)) = h := funext hh
  unfold k1_pay13
  generalize k1_pay12 a b = y
  simp only [pointwise]
  rw [ofBits_inf]

theorem blockPlace_apply (a : Vec Ideal S16x384 .f32) (b : Vec Ideal S2048x384 .f32) (k : Fin 16) (h : Fin 2048 → EReal)
    (hh : ∀ r, k1_pay12 a b (ix2 r k) = h r) (i : Fin 2048) (hi : IsFirst (IsMin h) i) : k1_pay14 a b (ix2 0 k) = BitVec.ofNat 32 i.val := by
  have e := blockLeast_apply a b k h hh
  unfold k1_pay14
  generalize k1_pay13 a b = z at e
  generalize k1_pay12 a b = y at hh
  simp only [pointwise]
  refine fold_first _ (fun r => BitVec.ofBool (decide (h r = Finset.univ.fold min ⊤ h))) (fun r => ?_) i hi 2048 le_rfl (by norm_num) _ fun r => ?_
  · rw [ofBool_iff]
    exact fold_min_eq_iff h r
  · rw [← select_test]
    show (if y (ix2 r k) = z (ix2 0 k) then BitVec.ofNat 32 (0 * 2048 + r.val) else 2048#32) = _
    rw [hh, e, Nat.zero_mul, Nat.zero_add]

/-- The first place below `n` of the least of the values below `n`. -/
def Lowest (g : Fin 65536 → EReal) (n : ℕ) (i : Fin 65536) : Prop := IsFirst (fun i : Fin 65536 => i.val < n ∧ ∀ j : Fin 65536, j.val < n → g i ≤ g j) i

/-- One block of a running least value. -/
theorem lowest_step (g : Fin 65536 → EReal) (t : ℕ) (ht : t < 32) (h : Fin 2048 → EReal) (hh : ∀ r : Fin 2048, h r = g ⟨2048 * t + r.val, by omega⟩)
    (r : Fin 2048) (hr : IsFirst (IsMin h) r) (v : EReal) (p : BitVec 32) (hold : (t = 0 ∧ ∀ r, h r < v) ∨ ∃ i, Lowest g (2048 * t) i ∧ v = g i ∧ p = BitVec.ofNat 32 i.val) :
    ∃ i, Lowest g (2048 * (t + 1)) i ∧ (if h r < v then h r else v) = g i
      ∧ Scalar.select (BitVec.ofBool (decide (h r < v))) (BitVec.ofNat 32 (2048 * t + r.val)) p = BitVec.ofNat 32 i.val := by
  have split : ∀ j : Fin 65536, j.val < 2048 * (t + 1) → ¬j.val < 2048 * t → ∃ r' : Fin 2048, j = ⟨2048 * t + r'.val, by omega⟩ := fun j h1 h2 =>
    ⟨⟨j.val - 2048 * t, by omega⟩, Fin.ext (by simp only; omega)⟩
  by_cases hlt : h r < v
  · refine ⟨⟨2048 * t + r.val, by omega⟩, ⟨⟨by simp only; omega, fun j hj => ?_⟩, fun j hj => ?_⟩, by rw [if_pos hlt, hh], by rw [← select_test, if_pos hlt]⟩
    · by_cases hjt : j.val < 2048 * t
      · rcases hold with ⟨rfl, -⟩ | ⟨i, hi, hv, -⟩
        · omega
        · rw [← hh]
          exact le_of_lt (lt_of_lt_of_le hlt (hv ▸ hi.1.2 j hjt))
      · obtain ⟨r', rfl⟩ := split j hj hjt
        rw [← hh, ← hh]
        exact hr.1 r'
    · by_cases hjt : j.val < 2048 * t
      · rcases hold with ⟨rfl, -⟩ | ⟨i, hi, hv, -⟩
        · omega
        · have h1 := hj.2 ⟨2048 * t + r.val, by omega⟩ (by simp only; omega)
          rw [← hh] at h1
          exact absurd (lt_of_lt_of_le hlt (hv ▸ hi.1.2 j hjt)) (not_lt.mpr h1)
      · obtain ⟨r', rfl⟩ := split j hj.1 hjt
        have h1 : r ≤ r' := hr.2 r' fun r'' => by
          rw [hh, hh]
          exact hj.2 _ (by simp only; omega)
        have : r.val ≤ r'.val := h1
        show 2048 * t + r.val ≤ 2048 * t + r'.val
        omega
  · rcases hold with ⟨-, h0⟩ | ⟨i, hi, hv, hp⟩
    · exact absurd (h0 r) hlt
    · have hle : g i ≤ h r := hv ▸ not_lt.mp hlt
      refine ⟨i, ⟨⟨by have := hi.1.1; omega, fun j hj => ?_⟩, fun j hj => ?_⟩, by rw [if_neg hlt, hv], by rw [← select_test, if_neg hlt, hp]⟩
      · by_cases hjt : j.val < 2048 * t
        · exact hi.1.2 j hjt
        · obtain ⟨r', rfl⟩ := split j hj hjt
          rw [← hh]
          exact hle.trans (hr.1 r')
      · by_cases hjt : j.val < 2048 * t
        · exact hi.2 j ⟨hjt, fun j' hj' => hj.2 j' (by omega)⟩
        · have := hi.1.1
          show i.val ≤ j.val
          omega

theorem least_at (a : Vec Ideal S16x384 .f32) (b : Vec Ideal S2048x384 .f32) (s : Vec Ideal S1x16 .f32) (k : Fin 16) :
    least a b s (ix2 0 k) = if k1_pay13 a b (ix2 0 k) < s (ix2 0 k) then k1_pay13 a b (ix2 0 k) else s (ix2 0 k) := by
  unfold least k1_pay1 k1_pay18 k1_pay17
  generalize k1_pay13 a b = y
  simp only [pointwise]

theorem place_at (i : grid1.Coords) (a : Vec Ideal S16x384 .f32) (b : Vec Ideal S2048x384 .f32) (s : Vec Ideal S1x16 .f32) (p : Vec Ideal S1x16 .i32) (k : Fin 16) :
    place i a b s p (ix2 0 k) = Scalar.select (BitVec.ofBool (decide (k1_pay13 a b (ix2 0 k) < s (ix2 0 k))))
      (BitVec.ofNat 32 (i 0).val * 2048#32 + k1_pay14 a b (ix2 0 k)) (p (ix2 0 k)) := by
  unfold place k1_pay2 k1_pay17
  generalize k1_pay13 a b = y
  generalize k1_pay14 a b = z
  simp only [pointwise]
  rfl

section
variable (V : (c : Dev nD) → (b : Ref sig .tc) → Buf (Elt Ideal) ((c : Thread nD τ).loc b)) (c : Dev nD)

theorem index_lib1 (t : Fin cfg1.N) : win1_2.index t 0 = t.val ∧ win1_2.index t 1 = 0 := by
  have h : ∀ t : Fin 32, win1_2.index (t.cast N_1.symm) 0 = t.val ∧ win1_2.index (t.cast N_1.symm) 1 = 0 := by decide
  exact h (t.cast N_1)

/-- The block of the library read at point `t`, -/
theorem block_lib1 (t : Fin cfg1.N) (r : Fin 2048) (k : Fin 384) (h : 2048 * t.val + r.val < 65536) :
    (blk1 V c 2 t : Vec Ideal S2048x384 .f32) (ix2 r k) = V c main_arg1 (ix2 ⟨2048 * t.val + r.val, h⟩ k) := by
  unfold blk1
  rw [View.read_apply]
  show V c main_arg1 _ = V c main_arg1 _
  congr 1
  funext a
  apply Fin.ext
  match a with
  | ⟨0, _⟩ => show win1_2.index t 0 * 2048 + 1 * r.val = 2048 * t.val + r.val; rw [(index_lib1 t).1]; omega
  | ⟨1, _⟩ => show win1_2.index t 1 * 384 + 1 * k.val = k.val; rw [(index_lib1 t).2]; omega

/-- the candidates' rows -/
theorem block_rows1 (t : Fin cfg1.N) : (blk1 V c 0 t : Vec Ideal S16x384 .f32) = V c main_v4_2 := by
  funext i
  unfold blk1
  rw [View.read_apply]
  show V c main_v4_2 _ = V c main_v4_2 _
  congr 1
  funext a
  apply Fin.ext
  match a with
  | ⟨0, _⟩ => show 0 * 16 + 1 * (i 0).val = (i 0).val; omega
  | ⟨1, _⟩ => show 0 * 384 + 1 * (i 1).val = (i 1).val; omega

/-- and their numbers. -/
theorem block_numbers1 (t : Fin cfg1.N) : (blk1 V c 1 t : Vec Ideal S1x16 .i32) = V c main_v4_1 := by
  funext i
  unfold blk1
  rw [View.read_apply]
  show V c main_v4_1 _ = V c main_v4_1 _
  congr 1
  funext a
  apply Fin.ext
  match a with
  | ⟨0, _⟩ => show 0 * 1 + 1 * (i 0).val = (i 0).val; omega
  | ⟨1, _⟩ => show 0 * 16 + 1 * (i 1).val = (i 1).val; omega

theorem pt1_of_lt {n : ℕ} (h : n < 32) : (pt1 n).val = n := Nat.mod_eq_of_lt h

theorem word_place (n r : ℕ) : BitVec.ofNat 32 n * 2048#32 + BitVec.ofNat 32 r = BitVec.ofNat 32 (2048 * n + r) := by
  rw [Nat.mul_comm, BitVec.ofNat_add, BitVec.ofNat_mul]

/-- One point's step. -/
theorem point_step (g : Fin 65536 → EReal) (k : Fin 16) (hg : ∀ r, g r = offer (fun x => V c main_v4_2 (ix2 k x)) fun x => V c main_arg1 (ix2 r x))
    (n : ℕ) (hn : n < 32) (s : Vec Ideal S1x16 .f32) (p : Vec Ideal S1x16 .i32)
    (hold : (n = 0 ∧ ∀ r, g r < s (ix2 0 k)) ∨ ∃ i, Lowest g (2048 * n) i ∧ s (ix2 0 k) = g i ∧ p (ix2 0 k) = BitVec.ofNat 32 i.val) :
    ∃ i, Lowest g (2048 * (n + 1)) i ∧ least (blk1 V c 0 (pt1 n)) (blk1 V c 2 (pt1 n)) s (ix2 0 k) = g i
      ∧ place (grid1.coords (pt1 n)) (blk1 V c 0 (pt1 n)) (blk1 V c 2 (pt1 n)) s p (ix2 0 k) = BitVec.ofNat 32 i.val := by
  have hh : ∀ r : Fin 2048, k1_pay12 (blk1 V c 0 (pt1 n)) (blk1 V c 2 (pt1 n)) (ix2 r k) = g ⟨2048 * n + r.val, by omega⟩ := fun r => by
    rw [hg, block_rows1]
    refine (offer_apply _ _ r k).trans (congrArg (offer _) (funext fun x => ?_))
    have e := pt1_of_lt hn
    refine (block_lib1 V c (pt1 n) r x (by omega)).trans (congrArg (V c main_arg1) ?_)
    simp only [e]
  obtain ⟨r, hr⟩ := exists_isFirst (exists_isMin fun r : Fin (2047 + 1) => g ⟨2048 * n + r.val, by omega⟩)
  have eleast : k1_pay13 (blk1 V c 0 (pt1 n)) (blk1 V c 2 (pt1 n)) (ix2 0 k) = g ⟨2048 * n + r.val, by omega⟩ :=
    (blockLeast_apply _ _ k _ hh).trans ((fold_min_eq_iff _ r).mpr hr.1).symm
  have eplace := blockPlace_apply _ _ k _ hh r hr
  obtain ⟨i, hi, h1, h2⟩ := lowest_step g n hn (fun r => g ⟨2048 * n + r.val, by omega⟩) (fun _ => rfl) r hr (s (ix2 0 k)) (p (ix2 0 k))
    (hold.imp_left fun h => ⟨h.1, fun r => h.2 _⟩)
  refine ⟨i, hi, ?_, ?_⟩
  · rw [least_at, eleast]
    exact h1
  · rw [place_at, eleast, eplace, ← h2]
    have e0 : (grid1.coords (pt1 n) 0).val = (pt1 n).val / 1 % 32 := Pipeline.Grid.coords_val (pt1 n) 0 (by decide) rfl
    rw [pt1_of_lt hn, Nat.div_one, Nat.mod_eq_of_lt hn] at e0
    rw [e0, word_place]

/-- AFTER EVERY POINT the least value over the rows read so far, and its first place. -/
theorem met (g : Fin 65536 → EReal) (k : Fin 16) (hg : ∀ r, g r = offer (fun x => V c main_v4_2 (ix2 k x)) fun x => V c main_arg1 (ix2 r x))
    (htop : ∀ r, g r < ⊤) : ∀ n < 32, ∃ i, Lowest g (2048 * (n + 1)) i ∧ least1 V c n (ix2 0 k) = g i ∧ place1 V c n (ix2 0 k) = BitVec.ofNat 32 i.val := by
  intro n
  induction n with
  | zero =>
    intro hn
    unfold least1 place1
    refine point_step V c g k hg 0 hn (k1_pay15 (F := Ideal)) k1_pay16 (.inl ⟨rfl, fun r => ?_⟩)
    have e : k1_pay15 (F := Ideal) (ix2 0 k) = ⊤ := by
      unfold k1_pay15
      simp only [pointwise]
      exact ofBits_inf
    rw [e]
    exact htop r
  | succ n ih =>
    intro hn
    exact point_step V c g k hg (n + 1) hn (least1 V c n) (place1 V c n) (.inr (ih (by omega)))

theorem lowest_all (g : Fin 65536 → EReal) (i : Fin 65536) (h : Lowest g (2048 * (31 + 1)) i) : IsFirst (IsMin g) i :=
  ⟨fun j => h.1.2 j (by omega), fun j hj => h.2 j ⟨by omega, fun j' _ => hj j'⟩⟩

variable (a : FVec Ideal S16x384 .f32) (s : Vec Ideal S1x16 .f32) (p w : Vec Ideal S1x16 .i32)

theorem root1_apply (k : Fin 16) : k1_pay5 a s (ix2 0 k)
    = Ideal.sqrt (max (s (ix2 0 k) + length2 fun x => a (ix2 k x)) (Ideal.ofBits .f32 0x2B8CBCCC#32)) := by
  unfold k1_pay5 length2
  simp only [pointwise]

section
variable (M : Fin 676 → EReal) (q : Fin 16 → Fin 676) (hw : ∀ k, w (ix2 0 k) = BitVec.ofNat 32 (q k).val) (h0 : IsFirst (IsMax M) (q 0))
  (hM : ∀ k, k1_pay5 a s (ix2 0 k) = M (q k))

include hM h0 in
/-- The largest least distance, -/
theorem largest : k1_pay7 a s = M (q 0) := by
  unfold k1_pay7
  generalize k1_pay5 a s = y at hM
  simp only [pointwise]
  rw [ofBits_minus_inf, fold_snd max ⊥ fun k : Fin 16 => y (ix2 0 k), ← hM 0]
  refine ((fold_max_eq_iff (fun k : Fin 16 => y (ix2 0 k)) 0).mpr fun k => ?_).symm
  show y (ix2 0 k) ≤ y (ix2 0 0)
  rw [hM, hM]
  exact h0.1 _

include hM h0 hw in
/-- the number of its patch, -/
theorem number : extractAt ![0, 0, 0] (k1_pay8 a s w) inpos_S1x1x1_p0_0_0 = BitVec.ofNat 32 (q 0).val := by
  have e := largest a s M q h0 hM
  unfold k1_pay8 k1_pay6
  generalize k1_pay7 a s = v at e
  generalize k1_pay5 a s = y at hM
  simp only [pointwise]
  have hv : ∀ k : Fin 16, (if y (ix2 0 k) = v then w (ix2 0 k) else 1073741824#32).toInt = if M (q k) = M (q 0) then ((q k).val : ℤ) else 1073741824 := fun k => by
    rw [hM, e, hw]
    split
    · exact toInt_ofNat_of_lt (by have := (q k).isLt; omega)
    · decide
  refine (fold_snd IntOp.minsi _ fun k : Fin 16 => if y (ix2 0 k) = v then w (ix2 0 k) else 1073741824#32).trans ?_
  refine (fold_minsi _ (0 : Fin 16) fun k => ?_).trans ?_
  · rw [hv, hv, if_pos rfl]
    split
    · rename_i h
      have : (q 0).val ≤ (q k).val := h0.2 (q k) fun j => (h0.1 j).trans h.ge
      exact_mod_cast this
    · have := (q 0).isLt
      omega
  · rw [hM, e, if_pos rfl, hw]

include hM h0 hw in
/-- and its place among the candidates: the first. -/
theorem amongFirst : extractAt ![0, 0, 0] (k1_pay9 a s w) inpos_S1x1x1_p0_0_0 = 0#32 := by
  have e := number a s w M q hw h0 hM
  unfold k1_pay9 k1_pay6
  generalize k1_pay8 a s w = v at e
  simp only [pointwise] at e ⊢
  rw [e]
  refine (fold_snd IntOp.minsi _ fun k : Fin 16 => Scalar.select (IntOp.cmpi .eq (w (ix2 0 k)) (BitVec.ofNat 32 (q 0).val)) (BitVec.ofNat 32 (0 * 16 + k.val)) 16#32).trans ?_
  refine fold_first (fun k : Fin 16 => IntOp.cmpi .eq (w (ix2 0 k)) (BitVec.ofNat 32 (q 0).val) = 1#1) (fun k => IntOp.cmpi .eq (w (ix2 0 k)) (BitVec.ofNat 32 (q 0).val)) (fun _ => Iff.rfl) (0 : Fin 16) ⟨?_, fun _ _ => Fin.zero_le _⟩ 16 le_rfl (by norm_num) _ fun k => ?_
  · show IntOp.cmpi .eq (w (ix2 0 0)) (BitVec.ofNat 32 (q 0).val) = 1#1
    rw [hw]
    simp [IntOp.cmpi]
  · rw [Nat.zero_mul, Nat.zero_add]

/-- A sum of words all but one of which are zero. -/
theorem fold_addi (f : Fin 16 → BitVec 32) (h : ∀ k, k ≠ 0 → f k = 0#32) : Finset.univ.fold IntOp.addi 0#32 f = f 0 := by
  have z : ∀ s : Finset (Fin 16), 0 ∉ s → s.fold IntOp.addi 0#32 f = 0#32 := by
    intro s
    induction s using Finset.induction_on with
    | empty => exact fun _ => rfl
    | insert k s hk ih =>
      intro h0
      rw [Finset.fold_insert hk, ih fun h' => h0 (Finset.mem_insert_of_mem h'), h k fun h' => h0 (h' ▸ Finset.mem_insert_self k s)]
      rfl
  rw [← Finset.insert_erase (Finset.mem_univ (0 : Fin 16)), Finset.fold_insert (Finset.notMem_erase _ _), z _ (Finset.notMem_erase _ _)]
  exact BitVec.add_zero _

include hM h0 hw in
/-- Where in the library it was met. -/
theorem metAt : extractAt ![0, 0, 0] (k1_pay3 (F := Ideal) (k1_pay10 a s w) p) inpos_S1x1x1_p0_0_0 = p (ix2 0 0) := by
  have e := amongFirst a s w M q hw h0 hM
  have h10 : ∀ (k : Fin 16) (x y : BitVec 32), Scalar.select (k1_pay10 a s w (ix2 0 k)) x y = if k.val = 0 then x else y := fun k x y => by
    unfold k1_pay10
    generalize k1_pay9 a s w = v at e
    simp only [pointwise] at e ⊢
    rw [e]
    refine (cmpi_eq (m := 0 * 16 + k.val) (n := 0) (by omega) (by omega) _ _).trans ?_
    rw [Nat.zero_mul, Nat.zero_add]
  unfold k1_pay3
  generalize k1_pay10 a s w = z at h10
  simp only [pointwise, h10]
  refine (fold_snd IntOp.addi _ fun k : Fin 16 => if k.val = 0 then p (ix2 0 k) else 0#32).trans ((fold_addi _ fun k hk => if_neg fun h => hk (Fin.ext h)).trans (if_pos rfl))

include hM h0 hw in
/-- The patch. -/
theorem patchAt (x : Fin 384) : k1_pay4 a (extractAt ![0, 0, 0] (k1_pay9 a s w) inpos_S1x1x1_p0_0_0) (ix2 0 x) = a (ix2 0 x) := by
  rw [amongFirst a s w M q hw h0 hM]
  unfold k1_pay4
  simp only [pointwise]
  refine Eq.trans ?_ (sum_pick (0 : Fin 16) (by norm_num) fun k : Fin 16 => a (ix2 k x))
  refine Finset.sum_congr rfl fun k _ => ?_
  show Scalar.select (IntOp.cmpi .eq (BitVec.ofNat 32 (0 * 16 + k.val)) _) _ _ = _
  rw [Nat.zero_mul, Nat.zero_add]
  rfl
end

end

end Cert.KernelIdeal
-- ==== Proof.Host.lean ====
module

public import proofs.«01_k».proof.Proof.Map
public import proofs.«01_k».proof.Proof.Second
public import Idealize.ShloMosaic.Lib.WordCmp
public import Idealize.ShloMosaic.Lib.DynamicIndex

@[expose] public section

/-!
# What the three calls hand on for the score

The candidates pass from the first call to the second; its largest least distance, the row it belongs to and the number of the nearest row
of the library pass to the third, two of them by way of the host's table of two rows.
-/

namespace Cert.KernelIdeal

open Idealize.ShloMosaic Idealize.ShloMosaic.TcCoe Cert.KernelIdeal.Gen Cert.Math

variable (m : (ℓ : Loc nD τ sig) → Buf (Elt Ideal) ℓ) (c : Dev nD)

attribute [local irreducible] rowsOut

theorem left_numbers : V4 m (outs m) c main_v4_1 = candOut (fun c b => V3 m c b) c := by
  refine (new0 m c main_v4_1 (by decide)).trans ?_
  refine (Pipeline.afterRegion_arr (dat0 (fun c b => V3 m c b) c) (V3 m c) launch0.win.arr_inj 4).trans ?_
  exact (dat0 (fun c b => V3 m c b) c).arrAt_eq_of_after_last 4 (pt0 31) (by decide +kernel) _ fun j => rfl

theorem left_rows : V4 m (outs m) c main_v4_2 = rowsOut (fun c b => V3 m c b) c := by
  refine (new0 m c main_v4_2 (by decide)).trans ?_
  refine (Pipeline.afterRegion_arr (dat0 (fun c b => V3 m c b) c) (V3 m c) launch0.win.arr_inj 5).trans ?_
  exact (dat0 (fun c b => V3 m c b) c).arrAt_eq_of_after_last 5 (pt0 31) (by decide +kernel) _ fun j => rfl

theorem left_far : V5 m (outs m) c main_v5_0 = farOut (fun c b => V4 m (outsA m) c b) c := by
  refine (new1 m c main_v5_0 (by decide)).trans ?_
  refine (Pipeline.afterRegion_arr (dat1 (fun c b => V4 m (outsA m) c b) c) (V4 m (outsA m) c) launch1.win.arr_inj 3).trans ?_
  exact (dat1 (fun c b => V4 m (outsA m) c b) c).arrAt_eq_of_after_last 3 (pt1 31) (by decide +kernel) _ fun j => rfl

theorem left_place : V5 m (outs m) c main_v5_2 = farPlaceOut (fun c b => V4 m (outsA m) c b) c := by
  refine (new1 m c main_v5_2 (by decide)).trans ?_
  refine (Pipeline.afterRegion_arr (dat1 (fun c b => V4 m (outsA m) c b) c) (V4 m (outsA m) c) launch1.win.arr_inj 5).trans ?_
  exact (dat1 (fun c b => V4 m (outsA m) c b) c).arrAt_eq_of_after_last 5 (pt1 31) (by decide +kernel) _ fun j => rfl

theorem left_patch : V5 m (outs m) c main_v5_3 = farPatchOut (fun c b => V4 m (outsA m) c b) c := by
  refine (new1 m c main_v5_3 (by decide)).trans ?_
  refine (Pipeline.afterRegion_arr (dat1 (fun c b => V4 m (outsA m) c b) c) (V4 m (outsA m) c) launch1.win.arr_inj 6).trans ?_
  exact (dat1 (fun c b => V4 m (outsA m) c b) c).arrAt_eq_of_after_last 6 (pt1 31) (by decide +kernel) _ fun j => rfl

/-- The third call's first output, after the call. -/
theorem left_score : V17 m (outs m) c main_v87_0 = scoreOut (fun c b => V16 m (outsB m) c b) c := by
  refine (new2 m c main_v87_0 (by decide)).trans ?_
  refine (Pipeline.afterRegion_arr (dat2 (fun c b => V16 m (outsB m) c b) c) (V16 m (outsB m) c) launch2.win.arr_inj 7).trans ?_
  exact (dat2 (fun c b => V16 m (outsB m) c b) c).arrAt_eq_of_after_last 7 (pt2 31) (by decide +kernel) _ fun j => rfl

/-- The host only reshapes the score. -/
theorem read_score (V : Valuation τ sig (Elt Ideal)) : StableHlo.after (hostOps3 (F := Ideal)) V (Proc.devRef .tc main_v88)
    = shapeCast S_ (V (Proc.devRef .tc main_v87_0)) shapeCasts_S1x1_S_ := by
  after_reads_simp
  rfl

theorem read_number (V : Valuation τ sig (Elt Ideal)) : StableHlo.after (hostOps2 (F := Ideal)) V (Proc.devRef .tc main_v6)
    = shapeCast S_ (V (Proc.devRef .tc main_v5_2)) shapeCasts_S1x1_S_ := by
  after_reads_simp
  rfl

/-- Equal places cut out equal rows, -/
theorem slice_congr {s u : Shape} {α : Type} (x : s.Idx → α) (f f' : Fin s.rank → Int) (h : s.Slices (fun _ => 0) u) (e : ∀ k, f k = f' k) :
    Host.dynamicSlice u x f h = Host.dynamicSlice u x f' h := by rw [funext e]

/-- and change equal rows. -/
theorem update_congr {s u : Shape} {α : Type} (x x' : s.Idx → α) (y : u.Idx → α) (f f' : Fin s.rank → Int) (h : s.Slices (fun _ => 0) u) (ex : x = x')
    (e : ∀ k, f k = f' k) : Host.dynamicUpdateSlice x y f h = Host.dynamicUpdateSlice x' y f' h := by rw [ex, funext e]

/-- The number of a row, a negative one counted from the end. -/
noncomputable def counted (y : IVec S_ 32) : IVec S_ 32 := select (cmpi .slt y (constantI S_ 32 0#32)) (addi y (constantI S_ 32 65536#32)) y

/-- The library's row of a number, cut out. -/
noncomputable def cutRow (x : FVec Ideal S65536x384 .f32) (y : IVec S_ 32) : FVec Ideal S1x384 .f32 :=
  Host.dynamicSlice S1x384 x ![(counted y (Shape.Idx.first h_S_)).toInt, 0] sliceFits_S65536x384_S1x384

theorem read_counted (V : Valuation τ sig (Elt Ideal)) : StableHlo.upto (hostOps2_1 (F := Ideal)) V 6 (Proc.devRef .tc main_call1_v2)
    = counted (V (Proc.devRef .tc main_v6)) := by
  after_reads_simp
  rfl

theorem read_across (V : Valuation τ sig (Elt Ideal)) : StableHlo.upto (hostOps2_1 (F := Ideal)) V 6 (Proc.devRef .tc main_call1_c_1)
    = constantI S_ 32 0#32 := by
  after_reads_simp
  rfl

theorem read_row (V : Valuation τ sig (Elt Ideal)) : StableHlo.after (hostOps2_1 (F := Ideal)) V (Proc.devRef .tc main_v7)
    = cutRow (V (Proc.devRef .tc main_arg1)) (V (Proc.devRef .tc main_v6)) := by
  after_reads_simp
  refine slice_congr _ _ _ _ fun k => ?_
  match k with
  | ⟨0, _⟩ => exact congrArg (fun y : IVec S_ 32 => (y (Shape.Idx.first h_S_)).toInt) (read_counted V)
  | ⟨1, _⟩ => exact congrArg (fun y : IVec S_ 32 => (y (Shape.Idx.first h_S_)).toInt) (read_across V)

end Cert.KernelIdeal
-- ==== Proof.Third.lean ====
module

public import proofs.«01_k».proof.Proof.Call3
public import proofs.«01_k».proof.Proof.Chosen

@[expose] public section

/-!
# The score of the third call

From the two rows of distances the call finds the three nearest rows of the library and weighs the largest least distance by the last two.
-/

namespace Cert.KernelIdeal

open Idealize.ShloMosaic Idealize.ShloMosaic.TcCoe Cert.KernelIdeal.Gen Cert.Math

/-- The number of the first place where a test holds. -/
noncomputable def firstOf (t : IVec S1x65536 1) : BitVec 32 :=
  extractAt ![0, 0, 0] (shapeCast S1x1x1 (multiReductionI .minsi [1, 2] S1
    (shapeCast S1x1x65536 (select t (iota .tc S1x65536 32 [1] iota_S1x65536_d1_w32) (broadcast S1x65536 65536#32)) shapeCasts_S1x65536_S1x1x65536)
    2147483647#32 reduces_S1x1x65536_S1 rfl) shapeCasts_S1_S1x1x1) inpos_S1x1x1_p0_0_0

/-- The test "equal to the least value". -/
noncomputable def lowest (y : FVec Ideal S1x65536 .f32) : IVec S1x65536 1 :=
  cmpf .oeq y (broadcast S1x65536 (extractAt ![0, 0, 0] (shapeCast S1x1x1
    (multiReduction .minimumf [1, 2] S1 (shapeCast S1x1x65536 y shapeCasts_S1x65536_S1x1x65536) 0x7F800000#32 reduces_S1x1x65536_S1 (.inl rfl) rfl)
    shapeCasts_S1_S1x1x1) inpos_S1x1x1_p0_0_0))

/-- `+∞` in the place of number `b`. -/
noncomputable def away (b : BitVec 32) (y : FVec Ideal S1x65536 .f32) : FVec Ideal S1x65536 .f32 :=
  select (cmpi .eq (iota .tc S1x65536 32 [1] iota_S1x65536_d1_w32) (broadcast S1x65536 b)) (broadcast S1x65536 (Scalar.ofBits .f32 0x7F800000#32)) y

/-- The value in the place of number `b`. -/
noncomputable def valueAt (b : BitVec 32) (y : FVec Ideal S1x65536 .f32) : Ideal .f32 :=
  extractAt ![0, 0, 0] (shapeCast S1x1x1 (multiReduction .add [1, 2] S1
    (shapeCast S1x1x65536 (select (cmpi .eq (iota .tc S1x65536 32 [1] iota_S1x65536_d1_w32) (broadcast S1x65536 b)) y
      (broadcast S1x65536 (Scalar.ofBits .f32 0x00000000#32))) shapeCasts_S1x65536_S1x1x65536)
    0x00000000#32 reduces_S1x1x65536_S1 (.inl rfl) rfl) shapeCasts_S1_S1x1x1) inpos_S1x1x1_p0_0_0

/-- A distance of a squared distance. -/
noncomputable def rootOf (x : Ideal .f32) : Ideal .f32 := Scalar.sqrt (Scalar.maximumf x (Scalar.ofBits .f32 0x00000000#32))

/-- The score, of the largest least distance and of the two distances that weigh it. -/
noncomputable def weigh (d1 d2 d : Ideal .f32) : Ideal .f32 :=
  Scalar.mulf (Scalar.subf (Scalar.ofBits .f32 0x3F800000#32) (Scalar.divf (Scalar.exp (Scalar.divf d (Scalar.sqrt (Scalar.ofBits .f32 0x43C00000#32))))
    (Scalar.addf (Scalar.exp (Scalar.divf d1 (Scalar.sqrt (Scalar.ofBits .f32 0x43C00000#32))))
      (Scalar.exp (Scalar.divf d2 (Scalar.sqrt (Scalar.ofBits .f32 0x43C00000#32))))))) d

theorem rootOf_eq (x : EReal) : rootOf x = Ideal.sqrt (max x (Ideal.ofBits .f32 0x00000000#32)) := rfl

theorem weigh_eq (d1 d2 d : EReal) : weigh d1 d2 d
    = (Ideal.ofBits .f32 0x3F800000#32 - Ideal.div (Ideal.exp (Ideal.div d (Ideal.sqrt (Ideal.ofBits .f32 0x43C00000#32))))
      (Ideal.exp (Ideal.div d1 (Ideal.sqrt (Ideal.ofBits .f32 0x43C00000#32))) + Ideal.exp (Ideal.div d2 (Ideal.sqrt (Ideal.ofBits .f32 0x43C00000#32))))) * d := rfl

theorem pay6_eq (a : FVec Ideal S8x384 .f32) (s : Vec Ideal S8x65536 .f32) (y : FVec Ideal S1x65536 .f32)
    (hy : y = extractStridedSlice S1x65536 ![0, 0] (k2_pay4 a s) slices_S8x65536_o0_0_S1x65536) : k2_pay6 a s = away (firstOf (lowest y)) y := by
  subst hy; rfl

theorem pay7_eq (a : FVec Ideal S8x384 .f32) (s : Vec Ideal S8x65536 .f32) (y : FVec Ideal S1x65536 .f32) (hy : k2_pay6 a s = y) :
    extractAt ![0, 0, 0] (k2_pay7 a s) inpos_S1x1x1_p0_0_0 = firstOf (lowest y) := by
  subst hy; rfl

theorem pay8_eq (a : FVec Ideal S8x384 .f32) (s : Vec Ideal S8x65536 .f32) (y : FVec Ideal S1x65536 .f32) (hy : k2_pay6 a s = y) (b : BitVec 32)
    (hb : extractAt ![0, 0, 0] (k2_pay7 a s) inpos_S1x1x1_p0_0_0 = b) : k2_pay8 a s = lowest (away b y) := by
  subst hy; subst hb; rfl

theorem pay9_eq (y : FVec Ideal S1x65536 .f32) (b : BitVec 32) (t : IVec S1x65536 1) (d : Ideal .f32) :
    k2_pay9 y (iota .tc S1x65536 32 [1] iota_S1x65536_d1_w32) b t 65536#32 d = weigh (rootOf (valueAt b y)) (rootOf (valueAt (firstOf t) y)) d := by
  unfold k2_pay9 weigh rootOf valueAt firstOf
  dsimp only

theorem firstOf_lowest (y : FVec Ideal S1x65536 .f32) (i : Fin 65536) (hi : IsFirst (IsMin fun r : Fin 65536 => y (ix2 0 r)) i) :
    firstOf (lowest y) = BitVec.ofNat 32 i.val := by
  unfold firstOf lowest
  simp only [pointwise]
  rw [ofBits_inf, fold_snd min ⊤ fun p : Fin 65536 => y (ix2 0 p)]
  refine (fold_snd IntOp.minsi _ fun p : Fin 65536 => if y (ix2 0 p) = Finset.univ.fold min ⊤ (fun p : Fin 65536 => y (ix2 0 p)) then
    BitVec.ofNat 32 (0 * 65536 + p.val) else 65536#32).trans ?_
  refine fold_first _ (fun p => BitVec.ofBool (decide (y (ix2 0 p) = Finset.univ.fold min ⊤ (fun p : Fin 65536 => y (ix2 0 p))))) (fun p => ?_) i hi 65536 le_rfl (by norm_num) _ fun p => ?_
  · rw [ofBool_iff]
    exact fold_min_eq_iff (fun p : Fin 65536 => y (ix2 0 p)) p
  · rw [← select_test, Nat.zero_mul, Nat.zero_add]

theorem away_apply (q : Fin 65536) (y : FVec Ideal S1x65536 .f32) (p : Fin 65536) : away (BitVec.ofNat 32 q.val) y (ix2 0 p) = if p = q then ⊤ else y (ix2 0 p) := by
  unfold away
  simp only [pointwise]
  refine (cmpi_eq (m := 0 * 65536 + p.val) (by omega) (by omega) _ _).trans ?_
  simp only [Nat.zero_mul, Nat.zero_add, Fin.ext_iff, ofBits_inf]

theorem valueAt_eq (i : Fin 65536) (y : FVec Ideal S1x65536 .f32) : valueAt (BitVec.ofNat 32 i.val) y = y (ix2 0 i) := by
  unfold valueAt
  simp only [pointwise]
  refine Eq.trans ?_ (sum_pick i (by norm_num) fun p : Fin 65536 => y (ix2 0 p))
  refine (Fin.sum_univ_one _).trans (Finset.sum_congr rfl fun p _ => ?_)
  show Scalar.select (IntOp.cmpi .eq (BitVec.ofNat 32 (0 * 65536 + p.val)) _) _ _ = _
  rw [Nat.zero_mul, Nat.zero_add]

/-- `+∞` in one place of a family. -/
noncomputable def without {n : ℕ} (f : Fin n → EReal) (i : Fin n) : Fin n → EReal := fun j => if j = i then ⊤ else f j

/-- THE SCORE of two rows of distances: the nearest three of the first row, the last two of them read in the second row. -/
theorem score_apply (x0 : Vec Ideal S8x384 .f32) (x1 : Vec Ideal S1x1 .f32) (s : Vec Ideal S8x65536 .f32) (f g : Fin 65536 → EReal)
    (hf : ∀ r, k2_pay4 (k2_pay1 x0) s (ix2 0 r) = f r) (hg : ∀ r, k2_pay4 (k2_pay1 x0) s (ix2 1 r) = g r) (i0 i1 i2 : Fin 65536)
    (h0 : IsFirst (IsMin f) i0) (h1 : IsFirst (IsMin (without f i0)) i1) (h2 : IsFirst (IsMin (without (without f i0) i1)) i2) (z : S1x1.Idx) :
    score x0 x1 s z = weigh (rootOf (g i1)) (rootOf (g i2)) (x1 (ix2 0 0)) := by
  obtain ⟨y, hy⟩ : ∃ y, y = extractStridedSlice S1x65536 ![0, 0] (k2_pay4 (k2_pay1 x0) s) slices_S8x65536_o0_0_S1x65536 := ⟨_, rfl⟩
  have ey : ∀ r : Fin 65536, y (ix2 0 r) = f r := fun r => by
    rw [hy, ← hf r]
    generalize k2_pay4 (k2_pay1 x0) s = w
    simp only [pointwise]
    congr 1
    exact congrArg (ix2 0) (Fin.ext (Nat.zero_add _))
  have eg : ∀ r : Fin 65536, k2_pay5 (k2_pay1 x0) s (ix2 0 r) = g r := fun r => by
    rw [← hg r]
    unfold k2_pay5
    generalize k2_pay4 (k2_pay1 x0) s = w
    simp only [pointwise]
    congr 1
    exact congrArg (ix2 1) (Fin.ext (Nat.zero_add _))
  have f0 : firstOf (lowest y) = BitVec.ofNat 32 i0.val := firstOf_lowest y i0 (by simpa only [ey] using h0)
  have e6 : k2_pay6 (k2_pay1 x0) s = away (BitVec.ofNat 32 i0.val) y := (pay6_eq _ _ y hy).trans (by rw [f0])
  have g6 : (fun r : Fin 65536 => away (BitVec.ofNat 32 i0.val) y (ix2 0 r)) = without f i0 := funext fun r => by rw [away_apply, ey]; rfl
  have e7 := (pay7_eq _ _ _ e6).trans (firstOf_lowest _ i1 (by rw [g6]; exact h1))
  have g8 : (fun r : Fin 65536 => away (BitVec.ofNat 32 i1.val) (away (BitVec.ofNat 32 i0.val) y) (ix2 0 r)) = without (without f i0) i1 := by
    rw [← g6]
    exact funext fun r => by rw [away_apply]; rfl
  have e8 := pay8_eq _ _ _ e6 _ e7
  have f8 := firstOf_lowest _ i2 (by rw [g8]; exact h2)
  unfold score
  rw [e7, e8, pay9_eq, f8, valueAt_eq, valueAt_eq, eg, eg]
  exact congrArg (fun q => weigh _ _ (x1 q)) (funext fun a => match a with | ⟨0, _⟩ => rfl | ⟨1, _⟩ => rfl)

end Cert.KernelIdeal
-- ==== Proof.Nearest.lean ====
module

public import proofs.«01_k».proof.Proof.Distance
public import proofs.«01_k».proof.Proof.Second
public import proofs.«01_k».proof.Proof.Third

@[expose] public section

/-!
# Squared distances of finite vectors

Each of the kernel's ways of writing a squared distance is the plain one, and a nearest row is the same row by all of them.
-/

namespace Cert.Proof

open Idealize.ShloMosaic Idealize.ShloMosaic.TcCoe Cert.Math

theorem two_eq : Ideal.ofBits .f32 0x40000000#32 = ((2 : ℝ) : EReal) := by
  simp [Ideal.ofBits, Ideal.ieee, -EReal.coe_mul]
  norm_num

/-- The squared distance `|a|² + |b|² - 2 a·b`. -/
noncomputable def sq (a b : Fin 384 → EReal) : EReal := ((0 + ∑ k, a k * a k) + (0 + ∑ k, b k * b k)) - ((2 : ℝ) : EReal) * ∑ k, a k * b k

/-- The squared length, as a real number. -/
noncomputable def len2 (a : Fin 384 → EReal) : ℝ := ∑ k, (a k).toReal * (a k).toReal

variable (a b : Fin 384 → EReal) (ha : ∀ k, Fin' (a k)) (hb : ∀ k, Fin' (b k))

theorem real_vector {n : ℕ} (a : Fin n → EReal) (ha : ∀ k, Fin' (a k)) : ∃ a' : Fin n → ℝ, a = fun k => (a' k : EReal) :=
  ⟨fun k => (a k).toReal, funext fun k => (ha k).coe_toReal.symm⟩

include ha in
theorem length2_eq : KernelIdeal.length2 a = (len2 a : EReal) := by
  obtain ⟨a', rfl⟩ := real_vector a ha
  unfold KernelIdeal.length2 len2
  simp only [one_mul, zero_add, ← EReal.coe_mul, ← EReal.coe_sub, coe_sum, ← EReal.coe_add, EReal.toReal_coe, sub_self, Finset.sum_const_zero, add_zero]

include ha hb in
/-- The second call leaves the candidate's length out, which moves no nearest row. -/
theorem offer_eq : ∃ C : ℝ, KernelIdeal.offer a b = (C : EReal) ∧ sq a b = ((C + len2 a : ℝ) : EReal) := by
  obtain ⟨a', rfl⟩ := real_vector a ha
  obtain ⟨b', rfl⟩ := real_vector b hb
  unfold KernelIdeal.offer sq len2
  simp only [two_eq, zero_add, ← EReal.coe_mul, ← EReal.coe_sub, coe_sum, ← EReal.coe_add, EReal.toReal_coe, sub_self, mul_zero, zero_mul,
    Finset.sum_const_zero, add_zero]
  refine ⟨_, rfl, ?_⟩
  have h : ∑ k, b' k * a' k = ∑ k, a' k * b' k := Finset.sum_congr rfl fun k _ => mul_comm _ _
  rw [h]
  congr 1
  ring

include ha hb in
theorem sq_real : ∃ D : ℝ, sq a b = (D : EReal) ∧ D = ∑ k, ((a k).toReal - (b k).toReal) * ((a k).toReal - (b k).toReal) := by
  obtain ⟨a', rfl⟩ := real_vector a ha
  obtain ⟨b', rfl⟩ := real_vector b hb
  unfold sq
  simp only [zero_add, ← EReal.coe_mul, ← EReal.coe_sub, coe_sum, ← EReal.coe_add, EReal.toReal_coe]
  refine ⟨_, rfl, ?_⟩
  rw [Finset.mul_sum, ← Finset.sum_add_distrib, ← Finset.sum_sub_distrib]
  exact Finset.sum_congr rfl fun k _ => by ring

include ha hb in
/-- The third call's table. -/
theorem table_eq : (∑ k, b k * b k - Ideal.ofBits .f32 0x40000000#32 * (0 + ∑ k, a k * b k + (0 + ∑ k, a k * (b k - b k) + (0 + ∑ k, (a k - a k) * b k))))
    + ∑ k, a k * a k = sq a b := by
  obtain ⟨a', rfl⟩ := real_vector a ha
  obtain ⟨b', rfl⟩ := real_vector b hb
  unfold sq
  simp only [two_eq, zero_add, ← EReal.coe_mul, ← EReal.coe_sub, coe_sum, ← EReal.coe_add, sub_self, mul_zero, zero_mul, Finset.sum_const_zero, add_zero]
  congr 1
  ring

include ha hb in
/-- The root of a squared distance is the length of the difference. -/
theorem rootOf_sq : KernelIdeal.rootOf (sq a b) = Ideal.sqrt (0 + ∑ k, (a k - b k) * (a k - b k)) := by
  obtain ⟨D, hD, e⟩ := sq_real a b ha hb
  have h : (0 + ∑ k, (a k - b k) * (a k - b k)) = (D : EReal) := by
    obtain ⟨a', rfl⟩ := real_vector a ha
    obtain ⟨b', rfl⟩ := real_vector b hb
    rw [e]
    simp only [zero_add, ← EReal.coe_mul, ← EReal.coe_sub, coe_sum, ← EReal.coe_add, EReal.toReal_coe]
  rw [KernelIdeal.rootOf_eq, h, hD]
  congr 1
  refine max_eq_left ?_
  have z : Ideal.ofBits .f32 0x00000000#32 = ((0 : ℝ) : EReal) := by simp [Ideal.ofBits, Ideal.ieee]
  rw [z, EReal.coe_le_coe_iff, e]
  exact Finset.sum_nonneg fun k _ => mul_self_nonneg _

theorem isMin_iff {n : ℕ} (f g : Fin n → EReal) (N : ℝ) (h : ∀ r, ∃ C : ℝ, f r = (C : EReal) ∧ g r = ((C + N : ℝ) : EReal)) (i : Fin n) : IsMin f i ↔ IsMin g i := by
  refine forall_congr' fun j => ?_
  obtain ⟨C, e1, e2⟩ := h i
  obtain ⟨D, e3, e4⟩ := h j
  rw [e1, e2, e3, e4, EReal.coe_le_coe_iff, EReal.coe_le_coe_iff, add_le_add_iff_right]

theorem isFirst_congr {n : ℕ} {P Q : Fin n → Prop} (h : ∀ i, P i ↔ Q i) {i : Fin n} (hi : IsFirst P i) : IsFirst Q i :=
  ⟨(h i).mp hi.1, fun j hj => hi.2 j ((h j).mpr hj)⟩

/-- The distance at a nearest row is the least distance. -/
theorem least_at_nearest (y : FVec Ideal ReferenceIdeal.S65536x384 .f32) (i : Fin 65536) (hi : IsMin (fun r : Fin 65536 => sq a fun k => y (ix2 r k)) i) :
    least a y = distance a fun k => y (ix2 i k) := by
  unfold least
  refine ((fold_min_eq_iff (fun r : Fin 65536 => distance a fun k => y (ix2 r k)) i).mpr fun j => ?_).symm
  exact sqrt_mono (max_le_max le_rfl (hi j))

include ha in
/-- The second call's offers: finite, with the plain nearest row, and giving the least distance. -/
theorem offers (y : FVec Ideal ReferenceIdeal.S65536x384 .f32) (hy : ∀ i, Fin' (y i)) :
    (∀ r : Fin 65536, KernelIdeal.offer a (fun k => y (ix2 r k)) < ⊤)
      ∧ ∀ i : Fin 65536, IsFirst (IsMin fun r : Fin 65536 => KernelIdeal.offer a fun k => y (ix2 r k)) i →
        IsFirst (IsMin fun r : Fin 65536 => sq a fun k => y (ix2 r k)) i
          ∧ Ideal.sqrt (max (KernelIdeal.offer a (fun k => y (ix2 i k)) + KernelIdeal.length2 a) (Ideal.ofBits .f32 0x2B8CBCCC#32)) = least a y := by
  have h := fun r : Fin 65536 => offer_eq a (fun k => y (ix2 r k)) ha fun k => hy _
  refine ⟨fun r => ?_, fun i hi => ?_⟩
  · obtain ⟨C, e, -⟩ := h r
    rw [e]
    exact EReal.coe_lt_top _
  · have hf := isFirst_congr (isMin_iff _ _ (len2 a) h) hi
    refine ⟨hf, ?_⟩
    rw [least_at_nearest a y i hf.1]
    obtain ⟨C, e1, e2⟩ := h i
    rw [e1, length2_eq a ha, ← EReal.coe_add, ← e2, max_comm]
    rfl

end Cert.Proof
-- ==== Proof.Handed.lean ====
module

public import proofs.«01_k».proof.Proof.Host
public import proofs.«01_k».proof.Proof.Equation
public import proofs.«01_k».proof.Proof.Nearest

@[expose] public section

/-!
# The patch farthest from the library, as the kernel finds it

The first call's candidates and what the second makes of them, on finite arguments.
-/

namespace Cert.Proof

open Idealize.ShloMosaic Idealize.ShloMosaic.TcCoe Cert.Math
open Cert.KernelIdeal Cert.KernelIdeal.Gen

variable (m : (ℓ : Loc nD τ sig) → Buf (Elt Ideal) ℓ) (c : Dev nD)
  (x : FVec Ideal KernelIdeal.S676x384 .f32) (y : FVec Ideal KernelIdeal.S65536x384 .f32)
  (ex : m ((c.tc : Thread nD τ).loc main_arg0) = x) (ey : m ((c.tc : Thread nD τ).loc main_arg1) = y)
  (hx : ∀ i, Fin' (x i)) (hy : ∀ i, Fin' (y i))

/-- The least distance of a patch. -/
noncomputable def leastOf (p : Fin 676) : EReal := Proof.least (fun k => x (ix2 p k)) y

include ex hx in
theorem finite_padded (i : KernelIdeal.S704x384.Idx) : Fin' ((V3 m c main_v0 : FVec Ideal KernelIdeal.S704x384 .f32) i) := by
  obtain ⟨p, k, rfl⟩ : ∃ (p : Fin 704) (k : Fin 384), i = ix2 p k := ⟨i 0, i 1, funext fun a => match a with | ⟨0, _⟩ => rfl | ⟨1, _⟩ => rfl⟩
  refine (patches_given m c x ex p k).symm ▸ ?_
  split_ifs
  · exact hx _
  · exact ⟨EReal.coe_ne_bot 0, EReal.coe_ne_top 0⟩

include ex ey hx hy in
/-- The least distances among which the first call picks. -/
theorem start_at (p : Fin 704) : (start (fun c b => V3 m c b) c : FVec Ideal KernelIdeal.S1x704 .f32) (ix2 0 p)
    = if h : p.val < 676 then leastOf x y ⟨p.val, h⟩ else Ideal.ofBits .f32 0xBF800000#32 := by
  unfold start
  rw [mask_apply]
  by_cases h : p.val < 676
  · rw [if_pos h, dif_pos h]
    refine (least_apply (fun c b => V3 m c b) c (ix2 0 p)).trans ?_
    rw [lib_given, ey]
    refine (root_min _ y (finite_padded m c x ex hx) hy _ (scaled_given m c) p).trans ?_
    refine congrArg (fun a => Proof.least a y) (funext fun k => ?_)
    exact (patches_given m c x ex p k).trans (dif_pos h)
  · rw [if_neg h, dif_neg h]

include hx hy in
theorem leastOf_nonneg (p : Fin 676) : 0 ≤ leastOf x y p := by
  unfold leastOf Proof.least
  rw [Finset.le_fold_min]
  exact ⟨le_top, fun r _ => (finite_distance _ _ (fun k => hx _) fun k => hy _).1⟩

include ex ey hx hy in
/-- The candidates: real patches, the first of them the farthest one of the least number. -/
theorem candidates : ∃ q : Fin 16 → Fin 676, IsFirst (IsMax (leastOf x y)) (q 0)
    ∧ ∀ k, pick (left (start (fun c b => V3 m c b) c) k.val) = BitVec.ofNat 32 (q k).val := by
  have hs := start_at m c x y ex ey hx hy
  generalize (start (fun c b => V3 m c b) c : FVec Ideal KernelIdeal.S1x704 .f32) = s at hs
  have h0 : ∀ p : Fin 704, p.val < 676 → 0 ≤ s (ix2 0 p) := fun p hp => by
    rw [hs, dif_pos hp]
    exact leastOf_nonneg x y hx hy _
  have h1 : ∀ p : Fin 704, ¬p.val < 676 → s (ix2 0 p) = Ideal.ofBits .f32 0xBF800000#32 := fun p hp => by rw [hs, dif_neg hp]
  have h : ∀ k : Fin 16, ∃ q : Fin 676, pick (left s k.val) = BitVec.ofNat 32 q.val ∧ (k.val = 0 → IsFirst (IsMax (leastOf x y)) q) := fun k => by
    obtain ⟨-, i, hi, hf⟩ := rounds s h0 h1 k.val (by omega)
    refine ⟨⟨i.val, hi⟩, pick_eq _ i hf, fun hk => ?_⟩
    rw [hk] at hf
    have e : ∀ p : Fin 676, s (ix2 0 (⟨p.val, by omega⟩ : Fin 704)) = leastOf x y p := fun p => by rw [hs, dif_pos p.isLt]
    have ei : s (ix2 0 i) = leastOf x y ⟨i.val, hi⟩ := by rw [hs, dif_pos hi]
    refine ⟨fun j => ?_, fun j hj => ?_⟩
    · rw [← ei, ← e]
      exact hf.1 _
    · have : i ≤ (⟨j.val, by omega⟩ : Fin 704) := hf.2 _ fun p => by
        show s (ix2 0 p) ≤ s (ix2 0 (⟨j.val, _⟩ : Fin 704))
        rw [e]
        by_cases hp : p.val < 676
        · rw [hs, dif_pos hp]
          exact hj _
        · rw [h1 p hp]
          exact ofBits_minus_one.le.trans (leastOf_nonneg x y hx hy j)
      exact this
  choose q hq using h
  exact ⟨q, (hq 0).2 rfl, fun k => (hq k).1⟩

section Met

variable (q : Fin 16 → Fin 676) (h0 : IsFirst (IsMax (leastOf x y)) (q 0)) (hq : ∀ k, pick (left (start (fun c b => V3 m c b) c) k.val) = BitVec.ofNat 32 (q k).val)

include hq in
theorem numbers_given (k : Fin 16) : (V4 m (outsA m) c main_v4_1 : IVec KernelIdeal.S1x16 32) (ix2 0 k) = BitVec.ofNat 32 (q k).val := by
  rw [← hq k]
  refine (congrFun ((congrFun (V4_outs m c) _).trans (left_numbers m c)) (ix2 0 k)).trans ?_
  rw [candOut_eq]
  exact noted_apply _ 16 le_rfl k k.isLt

include hq ex in
theorem rows_given (k : Fin 16) (z : Fin 384) : (V4 m (outsA m) c main_v4_2 : FVec Ideal KernelIdeal.S16x384 .f32) (ix2 k z) = x (ix2 (q k) z) := by
  refine (congrFun ((congrFun (V4_outs m c) _).trans (left_rows m c)) (ix2 k z)).trans ?_
  rw [rowsOut_apply, hq k, block_patch]
  refine (rowOf_apply (⟨(q k).val, by omega⟩ : Fin 704) _ z).trans ?_
  exact (patches_given m c x ex _ z).trans (dif_pos (q k).isLt)

include ey in
theorem lib_kept : V4 m (outsA m) c main_arg1 = y := by
  rw [V4_outs]
  refine (keep0 m c main_arg1 (by decide)).trans ?_
  rw [show V3 m c (Proc.devRef .tc main_arg1) = _ from lib_given m c, ey]

include hq ex ey hx hy in
/-- What the second call holds of each candidate in the end. -/
theorem met_given (k : Fin 16) : ∃ i : Fin 65536, IsFirst (IsMin fun r : Fin 65536 => sq (fun z => x (ix2 (q k) z)) fun z => y (ix2 r z)) i
    ∧ k1_pay5 (V4 m (outsA m) c main_v4_2 : FVec Ideal KernelIdeal.S16x384 .f32) (least1 (fun c b => V4 m (outsA m) c b) c 31) (ix2 0 k) = leastOf x y (q k)
    ∧ place1 (fun c b => V4 m (outsA m) c b) c 31 (ix2 0 k) = BitVec.ofNat 32 i.val := by
  have er : (fun z => (V4 m (outsA m) c main_v4_2 : FVec Ideal KernelIdeal.S16x384 .f32) (ix2 k z)) = fun z => x (ix2 (q k) z) := funext fun z => rows_given m c x ex q hq k z
  obtain ⟨htop, hof⟩ := offers (fun z => x (ix2 (q k) z)) (fun z => hx _) y hy
  obtain ⟨i, hi, e1, e2⟩ := met (fun c b => V4 m (outsA m) c b) c (fun r => offer (fun z => x (ix2 (q k) z)) fun z => y (ix2 r z)) k (fun r => by
    rw [lib_kept m c y ey, er]) htop 31 (by norm_num)
  obtain ⟨hf, hs⟩ := hof i (lowest_all _ i hi)
  refine ⟨i, hf, ?_, e2⟩
  rw [root1_apply, e1, er]
  exact hs

include h0 hq ex ey hx hy in
/-- THE SECOND CALL'S RESULTS: the largest least distance, its patch, and the patch's nearest row. -/
theorem second_given : ∃ i : Fin 65536, IsFirst (IsMin fun r : Fin 65536 => sq (fun z => x (ix2 (q 0) z)) fun z => y (ix2 r z)) i
    ∧ (∀ z, farOut (fun c b => V4 m (outsA m) c b) c z = leastOf x y (q 0))
    ∧ (∀ z, farPlaceOut (fun c b => V4 m (outsA m) c b) c z = BitVec.ofNat 32 i.val)
    ∧ ∀ k, farPatchOut (fun c b => V4 m (outsA m) c b) c (ix2 0 k) = x (ix2 (q 0) k) := by
  have hm := met_given m c x y ex ey hx hy q hq
  obtain ⟨i, hi, -, e2⟩ := hm 0
  have hM := fun k => (hm k).choose_spec.2.1
  have hw := numbers_given m c q hq
  have hr := rows_given m c x ex q hq 0
  have p11 : ∀ a : FVec Ideal KernelIdeal.S16x384 .f32, k1_pay11 (F := Ideal) a = a := fun a => by
    unfold k1_pay11
    funext j
    simp only [pointwise]
  refine ⟨i, hi, fun z => ?_, fun z => ?_, fun k => ?_⟩
  · unfold farOut farValue
    rw [block_rows1, p11]
    exact largest _ _ (leastOf x y) q h0 hM
  · unfold farPlaceOut farPlace
    rw [block_rows1, block_numbers1, p11]
    exact (metAt _ _ _ _ (leastOf x y) q hw h0 hM).trans e2
  · unfold farPatchOut farPatch
    rw [block_rows1, block_numbers1, p11]
    exact (patchAt _ _ _ (leastOf x y) q hw h0 hM k).trans (hr k)

end Met

end Cert.Proof
-- ==== Proof.Stack.lean ====
module

public import proofs.«01_k».proof.Proof.Host

@[expose] public section

/-!
# The two rows the host stacks for the third call
-/

namespace Cert.KernelIdeal

open Idealize.ShloMosaic Idealize.ShloMosaic.TcCoe Cert.KernelIdeal.Gen Cert.Math

/-- Two rows over zeros. -/
noncomputable def stacked (u v : FVec Ideal S1x384 .f32) : FVec Ideal S8x384 .f32 :=
  Host.dynamicUpdateSlice (Host.dynamicUpdateSlice (broadcastInDim S8x384 ![] bcast_S_S8x384 (constant S_ .f32 0x00000000#32)) u ![0, 0] updateFits_S8x384_S1x384)
    v ![1, 0] updateFits_S8x384_S1x384

theorem read_c1 (V : Valuation τ sig (Elt Ideal)) : StableHlo.upto (hostOps2_2 (F := Ideal)) V 4 (Proc.devRef .tc main_c_1) = constantI S_ 32 0#32 := by
  after_reads_simp

theorem read_c2 (V : Valuation τ sig (Elt Ideal)) : StableHlo.upto (hostOps2_2 (F := Ideal)) V 4 (Proc.devRef .tc main_c_2) = constantI S_ 32 0#32 := by
  after_reads_simp

theorem read_c3 (V : Valuation τ sig (Elt Ideal)) : StableHlo.upto (hostOps2_2 (F := Ideal)) V 7 (Proc.devRef .tc main_c_3) = constantI S_ 32 1#32 := by
  after_reads_simp

theorem read_c4 (V : Valuation τ sig (Elt Ideal)) : StableHlo.upto (hostOps2_2 (F := Ideal)) V 7 (Proc.devRef .tc main_c_4) = constantI S_ 32 0#32 := by
  after_reads_simp

theorem read_stacked (V : Valuation τ sig (Elt Ideal)) : StableHlo.after (hostOps2_2 (F := Ideal)) V (Proc.devRef .tc main_v10)
    = stacked (V (Proc.devRef .tc main_v7)) (V (Proc.devRef .tc main_v5_3)) := by
  after_reads_simp
  refine update_congr _ _ _ _ _ _ (update_congr _ _ _ _ _ _ rfl fun k => ?_) fun k => ?_
  · match k with
    | ⟨0, _⟩ => exact congrArg (fun y : IVec S_ 32 => (y (Shape.Idx.first h_S_)).toInt) (read_c1 V)
    | ⟨1, _⟩ => exact congrArg (fun y : IVec S_ 32 => (y (Shape.Idx.first h_S_)).toInt) (read_c2 V)
  · match k with
    | ⟨0, _⟩ => exact congrArg (fun y : IVec S_ 32 => (y (Shape.Idx.first h_S_)).toInt) (read_c3 V)
    | ⟨1, _⟩ => exact congrArg (fun y : IVec S_ 32 => (y (Shape.Idx.first h_S_)).toInt) (read_c4 V)

theorem fits1 : S8x384.Slices ![1, 0] S1x384 := by decide

theorem fits0 : S8x384.Slices ![0, 0] S1x384 := by decide

theorem stacked_second (u v : FVec Ideal S1x384 .f32) (k : Fin 384) : stacked u v (ix2 1 k) = v (ix2 0 k) := by
  unfold stacked
  rw [Idealize.ShloMosaic.WordCmp.dynamicUpdateSlice_eq_update _ v _ _ ![1, 0] fits1 (fun a => match a with | ⟨0, _⟩ => rfl | ⟨1, _⟩ => rfl), updateSlice_apply,
    dif_pos (fun a => match a with | ⟨0, _⟩ => ⟨le_refl 1, by show 1 < 1 + 1; omega⟩ | ⟨1, _⟩ => ⟨Nat.zero_le _, by show k.val < 0 + 384; omega⟩)]
  congr 1
  funext a
  apply Fin.ext
  match a with
  | ⟨0, _⟩ => rfl
  | ⟨1, _⟩ => exact Nat.sub_zero _

theorem stacked_first (u v : FVec Ideal S1x384 .f32) (k : Fin 384) : stacked u v (ix2 0 k) = u (ix2 0 k) := by
  unfold stacked
  rw [Idealize.ShloMosaic.WordCmp.dynamicUpdateSlice_eq_update _ v _ _ ![1, 0] fits1 (fun a => match a with | ⟨0, _⟩ => rfl | ⟨1, _⟩ => rfl), updateSlice_apply,
    dif_neg (fun h => by have h1 : 1 ≤ 0 := (h 0).1; omega),
    Idealize.ShloMosaic.WordCmp.dynamicUpdateSlice_eq_update _ u _ _ ![0, 0] fits0 (fun a => match a with | ⟨0, _⟩ => rfl | ⟨1, _⟩ => rfl), updateSlice_apply,
    dif_pos (fun a => match a with | ⟨0, _⟩ => ⟨le_refl 0, by show 0 < 0 + 1; omega⟩ | ⟨1, _⟩ => ⟨Nat.zero_le _, by show k.val < 0 + 384; omega⟩)]
  congr 1
  funext a
  apply Fin.ext
  match a with
  | ⟨0, _⟩ => rfl
  | ⟨1, _⟩ => exact Nat.sub_zero _

section Kept

variable (m : (ℓ : Loc nD τ sig) → Buf (Elt Ideal) ℓ) (outs : Outs (F := Ideal)) (c : Dev nD)

theorem at_pair : V16 m outs c main_v10 = V8 m outs c main_v10 := by
  rw [V16_of m outs c main_v10 (by decide), V15_of m outs c main_v10 (by decide), V14_of m outs c main_v10 (by decide), V13_of m outs c main_v10 (by decide),
    V12_of m outs c main_v10 (by decide), V11_of m outs c main_v10 (by decide), V10_of m outs c main_v10 (by decide), V9_of m outs c main_v10 (by decide)]

theorem at_far : V16 m outs c main_v5_0 = V5 m outs c main_v5_0 := by
  rw [V16_of m outs c main_v5_0 (by decide), V15_of m outs c main_v5_0 (by decide), V14_of m outs c main_v5_0 (by decide), V13_of m outs c main_v5_0 (by decide),
    V12_of m outs c main_v5_0 (by decide), V11_of m outs c main_v5_0 (by decide), V10_of m outs c main_v5_0 (by decide), V9_of m outs c main_v5_0 (by decide),
    V8_of m outs c main_v5_0 (by decide), V7_of m outs c main_v5_0 (by decide), V6_of m outs c main_v5_0 (by decide)]

theorem at_patch : V7 m outs c main_v5_3 = V5 m outs c main_v5_3 := by
  rw [V7_of m outs c main_v5_3 (by decide), V6_of m outs c main_v5_3 (by decide)]

theorem at_lib : V6 m outs c main_arg1 = V3 m c main_arg1 := by
  rw [V6_of m outs c main_arg1 (by decide), V5_of m outs c main_arg1 (by decide), V4_of m outs c main_arg1 (by decide)]

theorem at_lib_last : V16 m outs c main_arg1 = V6 m outs c main_arg1 := by
  rw [V16_of m outs c main_arg1 (by decide), V15_of m outs c main_arg1 (by decide), V14_of m outs c main_arg1 (by decide), V13_of m outs c main_arg1 (by decide),
    V12_of m outs c main_arg1 (by decide), V11_of m outs c main_arg1 (by decide), V10_of m outs c main_arg1 (by decide), V9_of m outs c main_arg1 (by decide),
    V8_of m outs c main_arg1 (by decide), V7_of m outs c main_arg1 (by decide)]

/-- What the third call is given as its two rows. -/
theorem pair_eq : V16 m outs c main_v10 = stacked (cutRow (V3 m c main_arg1) (shapeCast S_ (V5 m outs c main_v5_2 : IVec S1x1 32) shapeCasts_S1x1_S_)) (V5 m outs c main_v5_3) := by
  rw [at_pair, show V8 m outs c main_v10 = _ from read_stacked (V7 m outs c), show V7 m outs c (Proc.devRef .tc main_v7) = _ from read_row (V6 m outs c),
    show V6 m outs c (Proc.devRef .tc main_v6) = _ from read_number (V5 m outs c)]
  rw [show V6 m outs c (Proc.devRef .tc main_arg1) = _ from at_lib m outs c, show V7 m outs c (Proc.devRef .tc main_v5_3) = _ from at_patch m outs c]

end Kept

end Cert.KernelIdeal
-- ==== Proof.Table.lean ====
module

public import proofs.«01_k».proof.Proof.Third
public import proofs.«01_k».proof.Proof.Map
public import proofs.«01_k».proof.Proof.Nearest

@[expose] public section

/-!
# The third call's table of squared distances, element by element
-/

namespace Cert.KernelIdeal

open Idealize.ShloMosaic Idealize.ShloMosaic.TcCoe Cert.KernelIdeal.Gen Cert.Math

section Blocks

variable (V : (c : Dev nD) → (b : Ref sig .tc) → Buf (Elt Ideal) ((c : Thread nD τ).loc b)) (c : Dev nD)

theorem index_lib2 (t : Fin cfg2.N) : win2_6.index t 0 = t.val ∧ win2_6.index t 1 = 0 := by
  have h : ∀ t : Fin 32, win2_6.index (t.cast N_2.symm) 0 = t.val ∧ win2_6.index (t.cast N_2.symm) 1 = 0 := by decide
  exact h (t.cast N_2)

/-- The window of the two rows is the whole array, -/
theorem block_pair (t : Fin cfg2.N) : (blk2 V c 0 t : Vec Ideal S8x384 .f32) = V c main_v10 := by
  funext i
  unfold blk2
  rw [View.read_apply]
  show V c main_v10 _ = V c main_v10 _
  congr 1
  funext a
  apply Fin.ext
  match a with
  | ⟨0, _⟩ => show 0 * 8 + 1 * (i 0).val = (i 0).val; omega
  | ⟨1, _⟩ => show 0 * 384 + 1 * (i 1).val = (i 1).val; omega

/-- as is that of the largest least distance; -/
theorem block_far (t : Fin cfg2.N) : (blk2 V c 1 t : Vec Ideal S1x1 .f32) = V c main_v5_0 := by
  funext i
  unfold blk2
  rw [View.read_apply]
  show V c main_v5_0 _ = V c main_v5_0 _
  congr 1
  funext a
  apply Fin.ext
  match a with
  | ⟨0, _⟩ => show 0 * 1 + 1 * (i 0).val = (i 0).val; omega
  | ⟨1, _⟩ => show 0 * 1 + 1 * (i 1).val = (i 1).val; omega

/-- the library comes in blocks of its rows. -/
theorem block_lib2 (t : Fin cfg2.N) (r : Fin 2048) (k : Fin 384) (h : 2048 * t.val + r.val < 65536) :
    (blk2 V c 6 t : Vec Ideal S2048x384 .f32) (ix2 r k) = V c main_arg1 (ix2 ⟨2048 * t.val + r.val, h⟩ k) := by
  unfold blk2
  rw [View.read_apply]
  show V c main_arg1 _ = V c main_arg1 _
  congr 1
  funext a
  apply Fin.ext
  match a with
  | ⟨0, _⟩ => show win2_6.index t 0 * 2048 + 1 * r.val = 2048 * t.val + r.val; rw [(index_lib2 t).1]; omega
  | ⟨1, _⟩ => show win2_6.index t 1 * 384 + 1 * k.val = k.val; rw [(index_lib2 t).2]; omega

end Blocks

theorem products (a : FVec Ideal S8x384 .f32) (b : FVec Ideal S2048x384 .f32) (k : Fin 8) (r : Fin 2048) : k2_pay2 (F := Ideal) a b (ix2 k r)
    = (∑ z : Fin 384, b (ix2 r z) * b (ix2 r z)) - Ideal.ofBits .f32 0x40000000#32 * (0 + ∑ z : Fin 384, a (ix2 k z) * b (ix2 r z)
      + (0 + ∑ z : Fin 384, a (ix2 k z) * (b (ix2 r z) - b (ix2 r z)) + (0 + ∑ z : Fin 384, (a (ix2 k z) - a (ix2 k z)) * b (ix2 r z)))) := by
  unfold k2_pay2 k2_pay1
  simp only [pointwise]
  rfl

theorem lengths (a : FVec Ideal S8x384 .f32) (s : FVec Ideal S8x65536 .f32) (k : Fin 8) (r : Fin 65536) : k2_pay4 (F := Ideal) (k2_pay1 a) s (ix2 k r)
    = s (ix2 k r) + ∑ z : Fin 384, a (ix2 k z) * a (ix2 k z) := by
  unfold k2_pay4 k2_pay1
  simp only [pointwise]
  rfl

variable (V : (c : Dev nD) → (b : Ref sig .tc) → Buf (Elt Ideal) ((c : Thread nD τ).loc b)) (c : Dev nD)

theorem tableOut_apply (k : Fin 8) (r : Fin 65536) (a b : Fin 384 → EReal) (ea : ∀ z, (V c main_v10 : FVec Ideal S8x384 .f32) (ix2 k z) = a z)
    (eb : ∀ z, (V c main_arg1 : FVec Ideal S65536x384 .f32) (ix2 r z) = b z) : tableOut V c (ix2 k r)
    = (∑ z : Fin 384, b z * b z) - Ideal.ofBits .f32 0x40000000#32 * (0 + ∑ z : Fin 384, a z * b z
      + (0 + ∑ z : Fin 384, a z * (b z - b z) + (0 + ∑ z : Fin 384, (a z - a z) * b z))) := by
  have hr := r.isLt
  have h : ∀ z, (blk2 V c 6 (pt2 (r.val / 2048)) : Vec Ideal S2048x384 .f32) (ix2 (⟨r.val % 2048, Nat.mod_lt _ (by decide)⟩ : Fin 2048) z) = b z := fun z => by
    have hp : (pt2 (r.val / 2048)).val = r.val / 2048 := Nat.mod_eq_of_lt (by show r.val / 2048 < 32; omega)
    rw [block_lib2 V c _ _ z (by rw [hp]; dsimp only; omega), ← eb z]
    refine congrArg (fun i => V c main_arg1 (ix2 i z)) (Fin.ext ?_)
    show 2048 * (pt2 (r.val / 2048)).val + r.val % 2048 = r.val
    rw [hp]; omega
  have e : tableOut V c (ix2 k r) = k2_pay2 (blk2 V c 0 (pt2 (r.val / 2048))) (blk2 V c 6 (pt2 (r.val / 2048)))
      (ix2 k (⟨r.val % 2048, Nat.mod_lt _ (by decide)⟩ : Fin 2048)) := rfl
  refine e.trans ((products _ _ k _).trans ?_)
  simp only [block_pair, ea, h]

theorem squared (a b : Fin 384 → EReal) (k : Fin 8) (r : Fin 65536) (ea : ∀ z, (V c main_v10 : FVec Ideal S8x384 .f32) (ix2 k z) = a z)
    (eb : ∀ z, (V c main_arg1 : FVec Ideal S65536x384 .f32) (ix2 r z) = b z) (ha : ∀ z, Fin' (a z)) (hb : ∀ z, Fin' (b z)) :
    k2_pay4 (F := Ideal) (k2_pay1 (V c main_v10 : FVec Ideal S8x384 .f32)) (tableOut V c) (ix2 k r) = Proof.sq a b := by
  rw [lengths, tableOut_apply V c k r a b ea eb]
  simp only [ea]
  exact Proof.table_eq a b ha hb

end Cert.KernelIdeal
-- ==== Proof.Choice.lean ====
module

public import proofs.«01_k».proof.Proof.Nearest
public import Idealize.ShloMosaic.Lib.DynamicIndex

@[expose] public section

/-!
# The reference's choices

How the reference writes a choice by number, and how it cuts out the row of a number.
-/

namespace Cert.Proof

open Idealize.ShloMosaic Idealize.ShloMosaic.TcCoe Cert.Math
open Cert.ReferenceIdeal Cert.ReferenceIdeal.Read Cert.ReferenceIdeal.Gen

/-- A choice by number, read off the fold that makes it. -/
theorem fold_first_min {n : ℕ} (f : Fin n → EReal) (i : Fin n) (hi : IsFirst (IsMin f) i) (d : ℕ) (hn : n ≤ d) (hd : d < 2 ^ 31) :
    (Finset.univ.fold IntOp.minsi 2147483647#32 fun k : Fin n => Scalar.select (BitVec.ofBool (decide (f k = Finset.univ.fold min ⊤ f))) (BitVec.ofNat 32 k.val) (BitVec.ofNat 32 d))
      = BitVec.ofNat 32 i.val :=
  fold_first _ _ (fun k => (KernelIdeal.ofBool_iff _).trans (fold_min_eq_iff f k)) i hi d hn hd _ fun _ => rfl

theorem fold_first_max {n : ℕ} (f : Fin n → EReal) (i : Fin n) (hi : IsFirst (IsMax f) i) (d : ℕ) (hn : n ≤ d) (hd : d < 2 ^ 31) :
    (Finset.univ.fold IntOp.minsi 2147483647#32 fun k : Fin n => Scalar.select (BitVec.ofBool (decide (f k = Finset.univ.fold max ⊥ f))) (BitVec.ofNat 32 k.val) (BitVec.ofNat 32 d))
      = BitVec.ofNat 32 i.val :=
  fold_first _ _ (fun k => (KernelIdeal.ofBool_iff _).trans (fold_max_eq_iff f k)) i hi d hn hd _ fun _ => rfl

/-- The least value of a row of the library's length, -/
noncomputable def lowestOf (w : FVec Ideal S65536 .f32) : FVec Ideal S_ .f32 :=
  Host.reduce FloatOps.minimumf w (constant S_ .f32 0x7F800000#32) reducesTo_S65536_S_d0 h_S_

/-- the numbers where it is met, -/
noncomputable def metOf (w : FVec Ideal S65536 .f32) : IVec S65536 32 :=
  select (cmpf .oeq w (broadcastInDim S65536 ![0] bcast_S1_S65536_0 (broadcastInDim S1 ![] bcast_S_S1 (lowestOf w)))) (iotaInDim S65536 32 0)
    (broadcastInDim S65536 ![] bcast_S_S65536 (id (constantI S_ 32 65536#32)))

/-- and the first of them. -/
noncomputable def nearestOf (w : FVec Ideal S65536 .f32) : IVec S_ 32 :=
  Host.reduce IntOp.minsi (metOf w) (constantI S_ 32 2147483647#32) reducesTo_S65536_S_d0 h_S_

/-- A row with `+∞` at one number. -/
noncomputable def struck (w : FVec Ideal S65536 .f32) (y : IVec S_ 32) : FVec Ideal S65536 .f32 :=
  select (cmpi .eq (iotaInDim S65536 32 0) (broadcastInDim S65536 ![] bcast_S_S65536 y)) (broadcastInDim S65536 ![] bcast_S_S65536 (id (constant S_ .f32 0x7F800000#32))) w

theorem nearestOf_apply (w : FVec Ideal S65536 .f32) (f : Fin 65536 → EReal) (hw : ∀ r, w (ix1 r) = f r) (i : Fin 65536) (hi : IsFirst (IsMin f) i) (z : S_.Idx) :
    nearestOf w z = BitVec.ofNat 32 i.val := by
  obtain rfl : (fun r => w (ix1 r)) = f := funext hw
  have m : ∀ z, lowestOf w z = Finset.univ.fold min ⊤ fun k : Fin 65536 => w (ix1 k) := by
    intro z
    unfold lowestOf
    simp only [pointwise]
    rw [KernelIdeal.ofBits_inf]
  have e : nearestOf w z = Finset.univ.fold IntOp.minsi 2147483647#32 fun k : Fin 65536 => metOf w (ix1 k) := by
    unfold nearestOf
    generalize metOf w = u
    simp only [pointwise]
  rw [e, ← fold_first_min _ i hi 65536 le_rfl (by norm_num)]
  refine congrArg (fun f => Finset.univ.fold IntOp.minsi 2147483647#32 f) (funext fun k => ?_)
  unfold metOf
  generalize lowestOf w = l at m
  simp only [pointwise, m]
  rfl

theorem struck_apply (w : FVec Ideal S65536 .f32) (f : Fin 65536 → EReal) (hw : ∀ r, w (ix1 r) = f r) (y : IVec S_ 32) (i : Fin 65536) (hy : ∀ z, y z = BitVec.ofNat 32 i.val)
    (r : Fin 65536) : struck w y (ix1 r) = KernelIdeal.without f i r := by
  unfold struck
  simp only [pointwise, hy, hw]
  refine (KernelIdeal.cmpi_eq (by omega) (by omega) _ _).trans ?_
  unfold KernelIdeal.without
  simp only [Fin.ext_iff, KernelIdeal.ofBits_inf]
  rfl

/-- An index that is no negative number stays what it is. -/
theorem wrap (i y : IVec S_ 32) (n : ℕ) (hn : n < 2 ^ 31) (z : S_.Idx) (h : i z = BitVec.ofNat 32 n) :
    (select (cmpi .slt i (constantI S_ 32 0#32)) y i z).toInt = (n : Int) := by
  rw [select_slt_zero_of_nonneg _ _ _ z (by rw [h, toInt_ofNat_of_lt hn]; omega), h, toInt_ofNat_of_lt hn]

/-- A row of a matrix, cut out by its number. -/
theorem slice_row {n : ℕ} {α : Type} (x : (⟨2, ![n, 384]⟩ : Shape).Idx → α) (i : Fin n) (start : Fin 2 → Int) (h0 : start 0 = i.val) (h1 : start 1 = 0)
    (h : (⟨2, ![n, 384]⟩ : Shape).Slices (fun _ => 0) S1x384) (k : Fin 384) : Host.dynamicSlice S1x384 x start h (ix2 0 k) = x (ix2 i k) := by
  have hoff : (⟨2, ![n, 384]⟩ : Shape).Slices ![i.val, 0] S1x384 := ⟨rfl, fun a => match a with
    | ⟨0, _⟩ => by show i.val + 1 ≤ n; omega
    | ⟨1, _⟩ => by show 0 + 384 ≤ 384; omega⟩
  rw [Host.dynamicSlice_eq_extractStridedSlice S1x384 x start ![i.val, 0] h hoff (fun a => match a with | ⟨0, _⟩ => h0 | ⟨1, _⟩ => h1)]
  show x _ = x _
  congr 1
  funext a
  apply Fin.ext
  match a with
  | ⟨0, _⟩ => show i.val + 0 = i.val; omega
  | ⟨1, _⟩ => show 0 + k.val = k.val; omega

/-- An element of a vector, cut out by its number. -/
theorem slice_at {n : ℕ} {α : Type} (x : (⟨1, ![n]⟩ : Shape).Idx → α) (i : Fin n) (start : Fin 1 → Int) (h0 : start 0 = i.val)
    (h : (⟨1, ![n]⟩ : Shape).Slices (fun _ => 0) S1) : Host.dynamicSlice S1 x start h (ix1 0) = x (ix1 i) := by
  have hoff : (⟨1, ![n]⟩ : Shape).Slices ![i.val] S1 := ⟨rfl, fun a => match a with
    | ⟨0, _⟩ => by show i.val + 1 ≤ n; omega⟩
  rw [Host.dynamicSlice_eq_extractStridedSlice S1 x start ![i.val] h hoff (fun a => match a with | ⟨0, _⟩ => h0)]
  show x _ = x _
  congr 1
  funext a
  apply Fin.ext
  match a with
  | ⟨0, _⟩ => show i.val + 0 = i.val; omega

theorem row_cast {α : Type} (u : S1x384.Idx → α) (k : Fin 384) :
    broadcastInDim S1x384 ![1] bcast_S384_S1x384_1 (shapeCast S384 u shapeCasts_S1x384_S384) (ix2 0 k) = u (ix2 0 k) := by
  simp only [pointwise]
  rfl

theorem elem_cast {α : Type} (u : S1.Idx → α) (z : S_.Idx) : shapeCast S_ u shapeCasts_S1_S_ z = u (ix1 0) := by
  simp only [pointwise]

/-- The largest value of a row of the patches' length, -/
noncomputable def largestOf (w : FVec Ideal S676 .f32) : FVec Ideal S_ .f32 :=
  Host.reduce FloatOps.maximumf w (constant S_ .f32 0xFF800000#32) reducesTo_S676_S_d0 h_S_

/-- the numbers where it is met, -/
noncomputable def topOf (w : FVec Ideal S676 .f32) : IVec S676 32 :=
  select (cmpf .oeq w (broadcastInDim S676 ![0] bcast_S1_S676_0 (broadcastInDim S1 ![] bcast_S_S1 (largestOf w)))) (iotaInDim S676 32 0)
    (broadcastInDim S676 ![] bcast_S_S676 (id (constantI S_ 32 676#32)))

/-- and the first of them. -/
noncomputable def farthestOf (w : FVec Ideal S676 .f32) : IVec S_ 32 :=
  Host.reduce IntOp.minsi (topOf w) (constantI S_ 32 2147483647#32) reducesTo_S676_S_d0 h_S_

theorem farthestOf_apply (w : FVec Ideal S676 .f32) (f : Fin 676 → EReal) (hw : ∀ r, w (ix1 r) = f r) (i : Fin 676) (hi : IsFirst (IsMax f) i) (z : S_.Idx) :
    farthestOf w z = BitVec.ofNat 32 i.val := by
  obtain rfl : (fun r => w (ix1 r)) = f := funext hw
  have m : ∀ z, largestOf w z = Finset.univ.fold max ⊥ fun k : Fin 676 => w (ix1 k) := by
    intro z
    unfold largestOf
    simp only [pointwise]
    rw [KernelIdeal.ofBits_minus_inf]
  have e : farthestOf w z = Finset.univ.fold IntOp.minsi 2147483647#32 fun k : Fin 676 => topOf w (ix1 k) := by
    unfold farthestOf
    generalize topOf w = u
    simp only [pointwise]
  rw [e, ← fold_first_max _ i hi 676 le_rfl (by norm_num)]
  refine congrArg (fun f => Finset.univ.fold IntOp.minsi 2147483647#32 f) (funext fun k => ?_)
  unfold topOf
  generalize largestOf w = l at m
  simp only [pointwise, m]
  rfl

/-- The element of a vector at a number. -/
theorem element {α : Type} (w : S676.Idx → α) (i : Fin 676) (y y' : IVec S_ 32) (hy : ∀ z, y z = BitVec.ofNat 32 i.val) (z : S_.Idx) :
    shapeCast S_ (Host.dynamicSlice S1 w (fun k => (((![select (cmpi .slt y (constantI S_ 32 0#32)) y' y] : Fin 1 → IVec S_ 32)) k (Shape.Idx.first h_S_)).toInt) sliceFits_S676_S1)
      shapeCasts_S1_S_ z = w (ix1 i) :=
  (elem_cast _ z).trans (slice_at w i _ (wrap y y' i.val (by omega) (Shape.Idx.first h_S_) (hy _)) sliceFits_S676_S1)

theorem slice_row_at {n : ℕ} {α : Type} (x : (⟨2, ![n, 384]⟩ : Shape).Idx → α) (i : Fin n) (a b : IVec S_ 32) (z : S_.Idx) (h0 : (a z).toInt = i.val) (h1 : (b z).toInt = 0)
    (h : (⟨2, ![n, 384]⟩ : Shape).Slices (fun _ => 0) S1x384) (k : Fin 384) :
    Host.dynamicSlice S1x384 x (fun k => ((![a, b] : Fin 2 → IVec S_ 32) k z).toInt) h (ix2 0 k) = x (ix2 i k) :=
  slice_row x i _ h0 h1 h k

theorem wrap_zero (y : IVec S_ 32) (z : S_.Idx) : (select (cmpi .slt (constantI S_ 32 0#32) (constantI S_ 32 0#32)) y (constantI S_ 32 0#32) z).toInt = 0 := by
  rw [wrap (constantI S_ 32 0#32) y 0 (by norm_num) z rfl]
  rfl

/-- The row of the patches at a number, -/
theorem patch_row {α : Type} (w : S676x384.Idx → α) (i : Fin 676) (y y' y'' : IVec S_ 32) (hy : ∀ z, y z = BitVec.ofNat 32 i.val) (k : Fin 384) :
    Host.dynamicSlice S1x384 w (fun k => (((![select (cmpi .slt y (constantI S_ 32 0#32)) y' y,
      select (cmpi .slt (constantI S_ 32 0#32) (constantI S_ 32 0#32)) y'' (constantI S_ 32 0#32)] : Fin 2 → IVec S_ 32)) k (Shape.Idx.first h_S_)).toInt) sliceFits_S676x384_S1x384 (ix2 0 k)
      = w (ix2 i k) :=
  slice_row_at w i _ _ _ (wrap y y' i.val (by omega) (Shape.Idx.first h_S_) (hy _)) (wrap_zero y'' (Shape.Idx.first h_S_)) sliceFits_S676x384_S1x384 k

/-- and the row of the library. -/
theorem lib_row {α : Type} (w : S65536x384.Idx → α) (i : Fin 65536) (y y' y'' : IVec S_ 32) (hy : ∀ z, y z = BitVec.ofNat 32 i.val) (k : Fin 384) :
    Host.dynamicSlice S1x384 w (fun k => (((![select (cmpi .slt y (constantI S_ 32 0#32)) y' y,
      select (cmpi .slt (constantI S_ 32 0#32) (constantI S_ 32 0#32)) y'' (constantI S_ 32 0#32)] : Fin 2 → IVec S_ 32)) k (Shape.Idx.first h_S_)).toInt) sliceFits_S65536x384_S1x384 (ix2 0 k)
      = w (ix2 i k) :=
  slice_row_at w i _ _ _ (wrap y y' i.val (by omega) (Shape.Idx.first h_S_) (hy _)) (wrap_zero y'' (Shape.Idx.first h_S_)) sliceFits_S65536x384_S1x384 k

/-- The length of the difference of two rows. -/
theorem length_apply (a b : FVec Ideal S1x384 .f32) (d : FVec Ideal S384 .f32) (f g : Fin 384 → EReal) (ha : ∀ k, a (ix2 0 k) = f k) (hb : ∀ k, b (ix2 0 k) = g k)
    (hd : d = subf (shapeCast S384 a shapeCasts_S1x384_S384) (shapeCast S384 b shapeCasts_S1x384_S384)) (z : S_.Idx) :
    Host.sqrt (Host.reduceAdd (mulf d d) (constant S_ .f32 0x00000000#32) reducesTo_S384_S_d0 h_S_) z = Ideal.sqrt (0 + ∑ k, (f k - g k) * (f k - g k)) := by
  have e : ∀ k : Fin 384, d (ix1 k) = f k - g k := fun k => by
    rw [hd, ← ha, ← hb]
    simp only [pointwise]
  simp only [pointwise, e]

end Cert.Proof
-- ==== Proof.Wanted.lean ====
module

public import proofs.«01_k».proof.Proof.Choice

@[expose] public section

/-!
# The reference's score

The reference's first result read at the rows and numbers it picks: the patch farthest from the library, its nearest row of the library,
and the three rows nearest to that row.
-/

namespace Cert.Proof

open Idealize.ShloMosaic Idealize.ShloMosaic.TcCoe Cert.Math
open Cert.ReferenceIdeal Cert.ReferenceIdeal.Read Cert.ReferenceIdeal.Gen

variable (x0 : FVec Ideal S676x384 .f32) (x1 : FVec Ideal S65536x384 .f32)

theorem read_v449 (p : Fin 676) (r : Fin 65536) : val_main_v449 (F := Ideal) x0 x1 (ix2 p r) = sq (fun k => x0 (ix2 p k)) fun k => x1 (ix2 r k) := by
  have e1 : ∀ k : Fin 384, idx_main_v436 (idx_main_v437 (idx_main_v442 (ix2 p r))) k = ix2 p k :=
    fun k => funext fun a => match a with | ⟨0, _⟩ => rfl | ⟨1, _⟩ => rfl
  have e2 : ∀ k : Fin 384, idx_main_v439 (idx_main_v440 (idx_main_v441 (idx_main_v443 (ix2 p r)))) k = ix2 r k :=
    fun k => funext fun a => match a with | ⟨0, _⟩ => rfl | ⟨1, _⟩ => rfl
  have e3 : ∀ k : Fin 384, lidx_main_v446 (ix2 p r) k = ix2 p k :=
    fun k => funext fun a => match a with | ⟨0, _⟩ => rfl | ⟨1, _⟩ => rfl
  have e4 : ∀ k : Fin 384, idx_main_v445 (ridx_main_v446 (ix2 p r) k) = ix2 r k :=
    fun k => funext fun a => match a with | ⟨0, _⟩ => rfl | ⟨1, _⟩ => rfl
  unfold sq
  simp only [val_main_v449_apply, val_main_v448_apply, val_main_v447_apply, val_main_v446_apply, val_main_v445_apply, val_main_v444_apply, val_main_v443_apply, val_main_v442_apply, val_main_v441_apply, val_main_v440_apply, val_main_v439_apply, val_main_v438_apply, val_main_v437_apply, val_main_v436_apply, val_main_v435_apply, val_main_cst_13_apply, val_main_cst_12_apply, val_main_cst_11_apply, pointwise, e1, e2, e3, e4, two_eq]

/-- The nearest row of each patch. -/
theorem read_v456 (p : Fin 676) (i : Fin 65536) (hi : IsFirst (IsMin fun r : Fin 65536 => sq (fun k => x0 (ix2 p k)) fun k => x1 (ix2 r k)) i) :
    val_main_v456 (F := Ideal) x0 x1 (ix1 p) = BitVec.ofNat 32 i.val := by
  have h := fun r => read_v449 x0 x1 p r
  unfold val_main_v456 val_main_v455 val_main_v453 val_main_v452 val_main_v451 val_main_v450 val_main_call5_v1 val_main_call5_v2
  generalize val_main_v449 (F := Ideal) x0 x1 = w at h ⊢
  rw [← (show (fun r => w (ix2 p r)) = (fun r : Fin 65536 => sq (fun k => x0 (ix2 p k)) fun k => x1 (ix2 r k)) from funext h)] at hi
  refine Eq.trans ?_ (fold_first_min _ i hi 65536 le_rfl (by norm_num))
  simp only [pointwise, val_main_cst_14_apply, val_main_c_16_apply, val_main_v454_apply, val_main_call5_v0_apply, val_main_c_15_apply, KernelIdeal.ofBits_inf]
  rfl

theorem read_v463 (i : Fin 676) (hi : IsFirst (IsMax fun p : Fin 676 => least (fun k => x0 (ix2 p k)) x1) i) (z : S_.Idx) :
    val_main_v463 (F := Ideal) x0 x1 z = BitVec.ofNat 32 i.val := by
  have e : val_main_v463 (F := Ideal) x0 x1 = farthestOf (val_main_v17 (F := Ideal) x0 x1) := rfl
  rw [e]
  exact farthestOf_apply _ _ (fun k => reference_least x0 x1 (ix1 k)) i hi z

section Picked

variable (p : Fin 676) (hp : IsFirst (IsMax fun p : Fin 676 => least (fun k => x0 (ix2 p k)) x1) p)

include hp in
theorem read_v468 (z : S_.Idx) : val_main_v468 (F := Ideal) x0 x1 z = least (fun k => x0 (ix2 p k)) x1 :=
  (element (val_main_v17 (F := Ideal) x0 x1) p (val_main_v463 (F := Ideal) x0 x1) (val_main_v465 (F := Ideal) x0 x1) (fun z => read_v463 x0 x1 p hp z) z).trans
    (reference_least x0 x1 (ix1 p))

include hp in
theorem read_v475 (k : Fin 384) : val_main_v475 (F := Ideal) x0 x1 (ix2 0 k) = x0 (ix2 p k) :=
  patch_row x0 p (val_main_v463 (F := Ideal) x0 x1) (val_main_v470 (F := Ideal) x0 x1) (val_main_v473 (F := Ideal)) (fun z => read_v463 x0 x1 p hp z) k

include hp in
theorem read_v477 (k : Fin 384) : val_main_v477 (F := Ideal) x0 x1 (ix2 0 k) = x0 (ix2 p k) := by
  have h := read_v475 x0 x1 p hp k
  unfold val_main_v477 val_main_v476
  generalize val_main_v475 (F := Ideal) x0 x1 = u at h ⊢
  exact (row_cast u k).trans h

variable (q : Fin 65536) (hq : IsFirst (IsMin fun r : Fin 65536 => sq (fun k => x0 (ix2 p k)) fun k => x1 (ix2 r k)) q)

include hp hq in
theorem read_v482 (z : S_.Idx) : val_main_v482 (F := Ideal) x0 x1 z = BitVec.ofNat 32 q.val :=
  (element (val_main_v456 (F := Ideal) x0 x1) p (val_main_v463 (F := Ideal) x0 x1) (val_main_v479 (F := Ideal) x0 x1) (fun z => read_v463 x0 x1 p hp z) z).trans
    (read_v456 x0 x1 p q hq)

include hp hq in
theorem read_v491 (k : Fin 384) : val_main_v491 (F := Ideal) x0 x1 (ix2 0 k) = x1 (ix2 q k) := by
  have s : val_main_v489 (F := Ideal) x0 x1 (ix2 0 k) = x1 (ix2 q k) :=
    lib_row x1 q (val_main_v482 (F := Ideal) x0 x1) (val_main_v484 (F := Ideal) x0 x1) (val_main_v487 (F := Ideal)) (fun z => read_v482 x0 x1 p hp q hq z) k
  unfold val_main_v491 val_main_v490
  generalize val_main_v489 (F := Ideal) x0 x1 = u at s ⊢
  exact (row_cast u k).trans s

include hp hq in
/-- The squared distances of the picked row of the library from all its rows. -/
theorem read_v506 (r : Fin 65536) : val_main_v506 (F := Ideal) x0 x1 (ix1 r) = sq (fun k => x1 (ix2 q k)) fun k => x1 (ix2 r k) := by
  have h := read_v491 x0 x1 p hp q hq
  have e0 : idx_main_v506 (ix1 r) = ix2 0 r := funext fun a => match a with
    | ⟨0, _⟩ => rfl
    | ⟨1, _⟩ => Fin.ext (Nat.mod_eq_of_lt r.isLt)
  have e1 : ∀ k : Fin 384, idx_main_v493 (idx_main_v494 (idx_main_v499 (ix2 0 r))) k = ix2 0 k :=
    fun k => funext fun a => match a with | ⟨0, _⟩ => rfl | ⟨1, _⟩ => rfl
  have e2 : ∀ k : Fin 384, idx_main_v496 (idx_main_v497 (idx_main_v498 (ix2 0 r))) k = ix2 r k :=
    fun k => funext fun a => match a with | ⟨0, _⟩ => rfl | ⟨1, _⟩ => rfl
  have e3 : ∀ k : Fin 384, lidx_main_v502 (ix2 0 r) k = ix2 0 k :=
    fun k => funext fun a => match a with | ⟨0, _⟩ => rfl | ⟨1, _⟩ => rfl
  have e4 : ∀ k : Fin 384, idx_main_v501 (ridx_main_v502 (ix2 0 r) k) = ix2 r k :=
    fun k => funext fun a => match a with | ⟨0, _⟩ => rfl | ⟨1, _⟩ => rfl
  unfold sq
  simp only [val_main_v506_apply, val_main_v505_apply, val_main_v504_apply, val_main_v503_apply, val_main_v502_apply, val_main_v501_apply, val_main_v500_apply, val_main_v499_apply, val_main_v498_apply, val_main_v497_apply, val_main_v496_apply, val_main_v495_apply, val_main_v494_apply, val_main_v493_apply, val_main_v492_apply, val_main_cst_38_apply, val_main_cst_39_apply, val_main_cst_40_apply, pointwise, e0, e1, e2, e3, e4, two_eq, h]

variable (i0 i1 i2 : Fin 65536) (h0 : IsFirst (IsMin fun r : Fin 65536 => sq (fun k => x1 (ix2 q k)) fun k => x1 (ix2 r k)) i0)
  (h1 : IsFirst (IsMin (KernelIdeal.without (fun r : Fin 65536 => sq (fun k => x1 (ix2 q k)) fun k => x1 (ix2 r k)) i0)) i1)
  (h2 : IsFirst (IsMin (KernelIdeal.without (KernelIdeal.without (fun r : Fin 65536 => sq (fun k => x1 (ix2 q k)) fun k => x1 (ix2 r k)) i0) i1)) i2)

include hp hq h0 in
theorem read_v517 (r : Fin 65536) :
    val_main_v517 (F := Ideal) x0 x1 (ix1 r) = KernelIdeal.without (fun r : Fin 65536 => sq (fun k => x1 (ix2 q k)) fun k => x1 (ix2 r k)) i0 r := by
  have e : val_main_v513 (F := Ideal) x0 x1 = nearestOf (val_main_v506 (F := Ideal) x0 x1) := rfl
  have e' : val_main_v517 (F := Ideal) x0 x1 = struck (val_main_v506 (F := Ideal) x0 x1) (val_main_v513 (F := Ideal) x0 x1) := rfl
  rw [e', e]
  exact struck_apply _ _ (fun r => read_v506 x0 x1 p hp q hq r) _ i0 (fun z => nearestOf_apply _ _ (fun r => read_v506 x0 x1 p hp q hq r) i0 h0 z) r

include hp hq h0 h1 in
theorem read_v524 (z : S_.Idx) : val_main_v524 (F := Ideal) x0 x1 z = BitVec.ofNat 32 i1.val := by
  have e : val_main_v524 (F := Ideal) x0 x1 = nearestOf (val_main_v517 (F := Ideal) x0 x1) := rfl
  rw [e]
  exact nearestOf_apply _ _ (fun r => read_v517 x0 x1 p hp q hq i0 h0 r) i1 h1 z

include hp hq h0 h1 h2 in
theorem read_v548 (z : S_.Idx) : val_main_v548 (F := Ideal) x0 x1 z = BitVec.ofNat 32 i2.val := by
  have e : val_main_v548 (F := Ideal) x0 x1 = nearestOf (struck (val_main_v517 (F := Ideal) x0 x1) (val_main_v524 (F := Ideal) x0 x1)) := rfl
  rw [e]
  exact nearestOf_apply _ _ (fun r => struck_apply _ _ (fun r => read_v517 x0 x1 p hp q hq i0 h0 r) _ i1 (fun z => read_v524 x0 x1 p hp q hq i0 i1 h0 h1 z) r) i2 h2 z

include hp hq h0 h1 in
theorem read_v537 (z : S_.Idx) : val_main_v537 (F := Ideal) x0 x1 z
    = Ideal.sqrt (0 + ∑ k : Fin 384, (x0 (ix2 p k) - x1 (ix2 i1 k)) * (x0 (ix2 p k) - x1 (ix2 i1 k))) :=
  length_apply (val_main_v477 (F := Ideal) x0 x1) (val_main_v532 (F := Ideal) x0 x1) (val_main_v534 (F := Ideal) x0 x1) (fun k => x0 (ix2 p k)) (fun k => x1 (ix2 i1 k))
    (fun k => read_v477 x0 x1 p hp k)
    (fun k => lib_row x1 i1 (val_main_v524 (F := Ideal) x0 x1) (val_main_v527 (F := Ideal) x0 x1) (val_main_v530 (F := Ideal)) (fun z => read_v524 x0 x1 p hp q hq i0 i1 h0 h1 z) k)
    rfl z

include hp hq h0 h1 h2 in
theorem read_v561 (z : S_.Idx) : val_main_v561 (F := Ideal) x0 x1 z
    = Ideal.sqrt (0 + ∑ k : Fin 384, (x0 (ix2 p k) - x1 (ix2 i2 k)) * (x0 (ix2 p k) - x1 (ix2 i2 k))) :=
  length_apply (val_main_v477 (F := Ideal) x0 x1) (val_main_v556 (F := Ideal) x0 x1) (val_main_v558 (F := Ideal) x0 x1) (fun k => x0 (ix2 p k)) (fun k => x1 (ix2 i2 k))
    (fun k => read_v477 x0 x1 p hp k)
    (fun k => lib_row x1 i2 (val_main_v548 (F := Ideal) x0 x1) (val_main_v551 (F := Ideal) x0 x1) (val_main_v554 (F := Ideal)) (fun z => read_v548 x0 x1 p hp q hq i0 i1 i2 h0 h1 h2 z) k)
    rfl z

include hp hq h0 h1 h2 in
/-- THE REFERENCE'S SCORE on finite arguments. -/
theorem reference_score (hx : ∀ i, Fin' (x0 i)) (hy : ∀ i, Fin' (x1 i)) (z : S_.Idx) : val_main_v577 (F := Ideal) x0 x1 z
    = KernelIdeal.weigh (KernelIdeal.rootOf (sq (fun k => x0 (ix2 p k)) fun k => x1 (ix2 i1 k))) (KernelIdeal.rootOf (sq (fun k => x0 (ix2 p k)) fun k => x1 (ix2 i2 k)))
        (least (fun k => x0 (ix2 p k)) x1) := by
  rw [rootOf_sq _ _ (fun k => hx _) (fun k => hy _), rootOf_sq _ _ (fun k => hx _) (fun k => hy _), KernelIdeal.weigh_eq,
    ← read_v537 x0 x1 p hp q hq i0 i1 h0 h1 z, ← read_v561 x0 x1 p hp q hq i0 i1 i2 h0 h1 h2 z, ← read_v468 x0 x1 p hp z]
  unfold val_main_v577 val_main_v576 val_main_v575 val_main_v574 val_main_v573 val_main_v572 val_main_v571 val_main_v570 val_main_v569 val_main_v568 val_main_v567 val_main_v566
  generalize val_main_v468 (F := Ideal) x0 x1 = a
  generalize val_main_v537 (F := Ideal) x0 x1 = b
  generalize val_main_v561 (F := Ideal) x0 x1 = d
  simp only [pointwise, val_main_cst_69_apply, val_main_cst_70_apply, val_main_cst_71_apply]
  rw [zero_add]

end Picked

end Cert.Proof
-- ==== Proof.Score.lean ====
module

public import proofs.«01_k».proof.Proof.Handed
public import proofs.«01_k».proof.Proof.Stack
public import proofs.«01_k».proof.Proof.Table
public import proofs.«01_k».proof.Proof.Wanted

@[expose] public section

/-!
# The kernel's score is the reference's
-/

namespace Cert.Proof

open Idealize.ShloMosaic Idealize.ShloMosaic.TcCoe Cert.Math
open Cert.KernelIdeal Cert.KernelIdeal.Gen

theorem cutRow_apply (w : FVec Ideal KernelIdeal.S65536x384 .f32) (i : Fin 65536) (b : IVec KernelIdeal.S_ 32) (hb : ∀ z, b z = BitVec.ofNat 32 i.val) (k : Fin 384) :
    cutRow w b (ix2 0 k) = w (ix2 i k) := by
  unfold cutRow
  exact slice_row w i _ (wrap b _ i.val (by omega) (Shape.Idx.first h_S_) (hb _)) rfl sliceFits_S65536x384_S1x384 k

variable (m : (ℓ : Loc nD τ sig) → Buf (Elt Ideal) ℓ) (c : Dev nD)
  (x : FVec Ideal KernelIdeal.S676x384 .f32) (y : FVec Ideal KernelIdeal.S65536x384 .f32)
  (ex : m ((c.tc : Thread nD τ).loc main_arg0) = x) (ey : m ((c.tc : Thread nD τ).loc main_arg1) = y)
  (hx : ∀ i, Fin' (x i)) (hy : ∀ i, Fin' (y i))

include ex ey hx hy in
/-- THE SCORE: the kernel's first result is the reference's. -/
theorem result_score : ReferenceIdeal.Read.val_main_v577 (F := Ideal) x y = V18 m (outs m) c main_v88 := by
  obtain ⟨q, h0, hq⟩ := candidates m c x y ex ey hx hy
  obtain ⟨n, hn, efar, eplace, epatch⟩ := second_given m c x y ex ey hx hy q h0 hq
  -- the three library rows nearest to the patch's nearest one
  obtain ⟨i0, h1⟩ := exists_isFirst (exists_isMin fun r : Fin (65535 + 1) => sq (fun z => y (ix2 n z)) fun z => y (ix2 r z))
  obtain ⟨i1, h2⟩ := exists_isFirst (exists_isMin (without (fun r : Fin (65535 + 1) => sq (fun z => y (ix2 n z)) fun z => y (ix2 r z)) i0))
  obtain ⟨i2, h3⟩ := exists_isFirst (exists_isMin (without (without (fun r : Fin (65535 + 1) => sq (fun z => y (ix2 n z)) fun z => y (ix2 r z)) i0) i1))
  have elib : ∀ k, (V16 m (outs m) c main_arg1 : FVec Ideal KernelIdeal.S65536x384 .f32) k = y k := fun k => by
    rw [at_lib_last, at_lib, lib_given, ey]
  have enumber : ∀ z, (shapeCast KernelIdeal.S_ (V5 m (outs m) c main_v5_2 : IVec KernelIdeal.S1x1 32) shapeCasts_S1x1_S_) z = BitVec.ofNat 32 n.val := fun z => by
    rw [left_place]
    exact eplace _
  have efirst : ∀ z, (V16 m (outs m) c main_v10 : FVec Ideal KernelIdeal.S8x384 .f32) (ix2 0 z) = y (ix2 n z) := fun z => by
    rw [pair_eq, stacked_first, cutRow_apply _ n _ enumber, lib_given, ey]
  have esecond : ∀ z, (V16 m (outs m) c main_v10 : FVec Ideal KernelIdeal.S8x384 .f32) (ix2 1 z) = x (ix2 (q 0) z) := fun z => by
    rw [pair_eq, stacked_second, left_patch]
    exact epatch z
  have e1 : ∀ z, (V16 m (outs m) c main_v5_0 : FVec Ideal KernelIdeal.S1x1 .f32) z = leastOf x y (q 0) := fun z => by
    rw [at_far, left_far]
    exact efar z
  have es : ∀ z, scoreOut (fun c b => V16 m (outs m) c b) c z
      = weigh (rootOf (sq (fun k => x (ix2 (q 0) k)) fun k => y (ix2 i1 k))) (rootOf (sq (fun k => x (ix2 (q 0) k)) fun k => y (ix2 i2 k))) (leastOf x y (q 0)) := fun z => by
    unfold scoreOut
    rw [block_pair, block_far]
    rw [score_apply _ _ _ (fun r => sq (fun z => y (ix2 n z)) fun z => y (ix2 r z)) (fun r => sq (fun k => x (ix2 (q 0) k)) fun k => y (ix2 r k))
      (fun r => squared (fun c b => V16 m (outs m) c b) c _ _ 0 r efirst (fun z => elib _) (fun _ => hy _) fun _ => hy _)
      (fun r => squared (fun c b => V16 m (outs m) c b) c _ _ 1 r esecond (fun z => elib _) (fun _ => hx _) fun _ => hy _) i0 i1 i2 h1 h2 h3 z]
    exact congrArg (weigh _ _) (e1 _)
  funext z
  refine (reference_score x y (q 0) h0 n hn i0 i1 i2 h1 h2 h3 hx hy z).trans ?_
  rw [show V18 m (outs m) c main_v88 = _ from read_score (V17 m (outs m) c), show V17 m (outs m) c (Proc.devRef .tc main_v87_0) = _ from left_score m c]
  have e16 : (fun (c : Dev nD) (b : Ref sig .tc) => V16 m (outsB m) c (Proc.devRef .tc b)) = fun c b => V16 m (outs m) c (Proc.devRef .tc b) :=
    funext fun c => by rw [V16_outs]
  rw [e16]
  exact (es _).symm

end Cert.Proof
-- ==== Proof.lean ====
/-
  The proof of `Cert.Claim`. The run of the three calls: Proof/Run*.lean, Proof/Call*.lean, Proof/Whole.lean at the extended reals and
  Proof/Exact/ at the bits. The value: the least distances (Proof/Math, Block, Least, Distance), the host's matrices (Matrix, Tent, Smooth),
  the kernel's map (Map), the reference's blur (Blur), and their equality (Equation). The score: the least number at which a value is met
  (First), the first call's candidates (Round, Chosen), the second call's nearest rows (Second), the third call's choices and weights
  (Third, Table), what the host hands on (Host, Stack), the choices at exact values (Nearest), the reference's choices (Choice, Wanted),
  and the two together (Handed, Score).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.Whole
public import proofs.«01_k».proof.Proof.Exact.Whole
public import proofs.«01_k».proof.Proof.Equation
public import proofs.«01_k».proof.Proof.Score
public import Idealize.ShloMosaic.Lib.Quiescent
public import Idealize.ShloMosaic.Adequacy
public import Idealize.ShloMosaic.Init

@[expose] public section

noncomputable section

namespace Cert.Proof

open Idealize.ShloMosaic Idealize.SL.Sem

theorem kernel_frame : Cert.quiescent_Kernel := fun m ρ _ =>
  (θ_run Cert.Kernel.defs _ _).mono (fun _ h => ⟨fun c => ⟨(h.1 c).1, (h.1 c).2.1⟩, h.2⟩) (Cert.Kernel.run_whole m ρ)

theorem ideal_frame : Cert.quiescent_KernelIdeal := fun m ρ _ =>
  (θ_run Cert.KernelIdeal.defs _ _).mono (fun _ h => ⟨fun c => ⟨(h.1 c).1, (h.1 c).2.1⟩, h.2⟩) (Cert.KernelIdeal.run_whole (F := Ideal) m ρ)

theorem reference_frame : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem algebraic : Cert.algebraic_KernelIdeal_ReferenceIdeal_pre_finite := by
  intro m ρ m' ρ' hpre hagree
  refine ⟨_, _, (θ_run Cert.KernelIdeal.defs _ _).mono (fun _ h c => ⟨(h.1 c).2.2.1, (h.1 c).2.2.2, (h.1 c).1, (h.1 c).2.1⟩)
    (Cert.KernelIdeal.run_whole (F := Ideal) m ρ), ?_⟩
  refine (θ_run Cert.ReferenceIdeal.defs _ _).mono (fun _ h c => ?_) (Cert.ReferenceIdeal.Value.run (F := Ideal) m' ρ')
  obtain ⟨hx, hy⟩ := finite_args _ _ (hpre c).1 (hpre c).2
  have hx' := fun i => (congrArg Math.Fin' (congrFun (hagree c).1 i)).mpr (hx i)
  have hy' := fun i => (congrArg Math.Fin' (congrFun (hagree c).2 i)).mpr (hy i)
  refine ⟨(h c).1.trans ((Cert.ReferenceIdeal.Read.val_main_v577_eq _).trans ?_), (h c).2.1.trans ((Cert.ReferenceIdeal.Read.val_main_v434_eq _).trans ?_), (h c).2.2⟩
  · exact result_score m c _ _ (hagree c).1.symm (hagree c).2.symm hx' hy'
  · exact result_map m c _ _ (hagree c).1.symm (hagree c).2.symm hx' hy'

theorem claim : Cert.Claim := ⟨Cert.Kernel.Gen.facts, Cert.KernelIdeal.Gen.facts, Cert.ReferenceIdeal.Gen.facts, Cert.Pre_finite.Gen.facts,
  kernel_frame, ideal_frame, fun m ρ _ => ideal_frame m ρ trivial, reference_frame, fun m ρ _ => reference_frame m ρ trivial,
  (trivial : preserves_Kernel_KernelIdeal), algebraic⟩

end Cert.Proof

end
